-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_operands [hPre_attention_operands : Cert.Pre_attention_operands.Facts] (m : (ℓ : Loc Cert.KernelIdeal.nD Cert.KernelIdeal.τ Cert.KernelIdeal.sig) → Buf (Elt Ideal) ℓ) : Prop :=
  ∀ c : Dev Cert.KernelIdeal.nD,
    (Cert.Pre_attention_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_operands [hPre_attention_operands : Cert.Pre_attention_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_memory_queries [hPre_memory_queries : Cert.Pre_memory_queries.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_memory_queries.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_memory_queries [hPre_memory_queries : Cert.Pre_memory_queries.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_memory_queries.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gating_values [hPre_gating_values : Cert.Pre_gating_values.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gating_values.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gating_values [hPre_gating_values : Cert.Pre_gating_values.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gating_values.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_memory_weights [hPre_memory_weights : Cert.Pre_memory_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_memory_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_memory_weights [hPre_memory_weights : Cert.Pre_memory_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_memory_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_attention_operands [hKernelIdeal : Cert.KernelIdeal.Facts] [hPre_attention_operands : Cert.Pre_attention_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_attention_operands [hReferenceIdeal : Cert.ReferenceIdeal.Facts] [hPre_attention_operands : Cert.Pre_attention_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_memory_queries [hKernel4Ideal : Cert.Kernel4Ideal.Facts] [hPre_memory_queries : Cert.Pre_memory_queries.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_memory_queries m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_memory_queries [hReference4Ideal : Cert.Reference4Ideal.Facts] [hPre_memory_queries : Cert.Pre_memory_queries.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_memory_queries m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_gating_values [hKernel5Ideal : Cert.Kernel5Ideal.Facts] [hPre_gating_values : Cert.Pre_gating_values.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gating_values m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_gating_values [hReference5Ideal : Cert.Reference5Ideal.Facts] [hPre_gating_values : Cert.Pre_gating_values.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gating_values m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_memory_weights [hKernel6Ideal : Cert.Kernel6Ideal.Facts] [hPre_memory_weights : Cert.Pre_memory_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_memory_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_memory_weights [hReference6Ideal : Cert.Reference6Ideal.Facts] [hPre_memory_weights : Cert.Pre_memory_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_memory_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal_pre_attention_operands [hKernelIdeal : Cert.KernelIdeal.Facts] [hReferenceIdeal : Cert.ReferenceIdeal.Facts] [hPre_attention_operands : Cert.Pre_attention_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_memory_queries [hKernel4Ideal : Cert.Kernel4Ideal.Facts] [hReference4Ideal : Cert.Reference4Ideal.Facts] [hPre_memory_queries : Cert.Pre_memory_queries.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_memory_queries m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_gating_values [hKernel5Ideal : Cert.Kernel5Ideal.Facts] [hReference5Ideal : Cert.Reference5Ideal.Facts] [hPre_gating_values : Cert.Pre_gating_values.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gating_values m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_memory_weights [hKernel6Ideal : Cert.Kernel6Ideal.Facts] [hReference6Ideal : Cert.Reference6Ideal.Facts] [hPre_memory_weights : Cert.Pre_memory_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_memory_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_attention_operands : Cert.Pre_attention_operands.Facts) (hPre_memory_queries : Cert.Pre_memory_queries.Facts) (hPre_gating_values : Cert.Pre_gating_values.Facts) (hPre_memory_weights : Cert.Pre_memory_weights.Facts),
    quiescent_Kernel (hKernel := hKernel)
    ∧ quiescent_KernelIdeal (hKernelIdeal := hKernelIdeal)
    ∧ quiescent_KernelIdeal_pre_attention_operands (hKernelIdeal := hKernelIdeal) (hPre_attention_operands := hPre_attention_operands)
    ∧ quiescent_ReferenceIdeal (hReferenceIdeal := hReferenceIdeal)
    ∧ quiescent_ReferenceIdeal_pre_attention_operands (hReferenceIdeal := hReferenceIdeal) (hPre_attention_operands := hPre_attention_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_memory_queries (hKernel4Ideal := hKernel4Ideal) (hPre_memory_queries := hPre_memory_queries)
    ∧ quiescent_Reference4Ideal (hReference4Ideal := hReference4Ideal)
    ∧ quiescent_Reference4Ideal_pre_memory_queries (hReference4Ideal := hReference4Ideal) (hPre_memory_queries := hPre_memory_queries)
    ∧ quiescent_Kernel5 (hKernel5 := hKernel5)
    ∧ quiescent_Kernel5Ideal (hKernel5Ideal := hKernel5Ideal)
    ∧ quiescent_Kernel5Ideal_pre_gating_values (hKernel5Ideal := hKernel5Ideal) (hPre_gating_values := hPre_gating_values)
    ∧ quiescent_Reference5Ideal (hReference5Ideal := hReference5Ideal)
    ∧ quiescent_Reference5Ideal_pre_gating_values (hReference5Ideal := hReference5Ideal) (hPre_gating_values := hPre_gating_values)
    ∧ quiescent_Kernel6 (hKernel6 := hKernel6)
    ∧ quiescent_Kernel6Ideal (hKernel6Ideal := hKernel6Ideal)
    ∧ quiescent_Kernel6Ideal_pre_memory_weights (hKernel6Ideal := hKernel6Ideal) (hPre_memory_weights := hPre_memory_weights)
    ∧ quiescent_Reference6Ideal (hReference6Ideal := hReference6Ideal)
    ∧ quiescent_Reference6Ideal_pre_memory_weights (hReference6Ideal := hReference6Ideal) (hPre_memory_weights := hPre_memory_weights)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_attention_operands (hKernelIdeal := hKernelIdeal) (hReferenceIdeal := hReferenceIdeal) (hPre_attention_operands := hPre_attention_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_memory_queries (hKernel4Ideal := hKernel4Ideal) (hReference4Ideal := hReference4Ideal) (hPre_memory_queries := hPre_memory_queries)
    ∧ preserves_Kernel5_Kernel5Ideal
    ∧ algebraic_Kernel5Ideal_Reference5Ideal_pre_gating_values (hKernel5Ideal := hKernel5Ideal) (hReference5Ideal := hReference5Ideal) (hPre_gating_values := hPre_gating_values)
    ∧ preserves_Kernel6_Kernel6Ideal
    ∧ algebraic_Kernel6Ideal_Reference6Ideal_pre_memory_weights (hKernel6Ideal := hKernel6Ideal) (hReference6Ideal := hReference6Ideal) (hPre_memory_weights := hPre_memory_weights)
    ∧ preserves_Kernel7_Kernel7Ideal
    ∧ algebraic_Kernel7Ideal_Reference7Ideal (hKernel7Ideal := hKernel7Ideal) (hReference7Ideal := hReference7Ideal)
-- ==== Pre_attention_operands.lean ====
abbrev S4x512x8192 : Shape := ⟨3, ![4, 512, 8192]⟩
abbrev S32768x512 : Shape := ⟨2, ![32768, 512]⟩
abbrev S4x320x8192 : Shape := ⟨3, ![4, 320, 8192]⟩
abbrev S32768x4736 : Shape := ⟨2, ![32768, 4736]⟩
abbrev S_ : Shape := ⟨0, ![]⟩
abbrev S4x4x80x8192 : Shape := ⟨4, ![4, 4, 80, 8192]⟩
abbrev S4x4x1x8192 : Shape := ⟨4, ![4, 4, 1, 8192]⟩
abbrev S4x4x8192 : Shape := ⟨3, ![4, 4, 8192]⟩

class Facts : Prop where
  bitsLt_bf16_f32 : FTy.bits .bf16 < FTy.bits .f32
  bcast_S_S4x512x8192 : S_.BroadcastsInDim S4x512x8192 (![] : Fin 0 → Fin S4x512x8192.rank)
  reducesTo_S4x512x8192_S_d0_1_2 : S4x512x8192.ReducesTo [0, 1, 2] S_
  h_S_ : 0 < S_.numel
  bcast_S_S32768x512 : S_.BroadcastsInDim S32768x512 (![] : Fin 0 → Fin S32768x512.rank)
  reducesTo_S32768x512_S_d0_1 : S32768x512.ReducesTo [0, 1] S_
  shapeCasts_S4x320x8192_S4x4x80x8192 : S4x320x8192.ShapeCasts S4x4x80x8192
  slices_S4x4x80x8192_S4x4x1x8192_0_0_64_0 : S4x4x80x8192.Slices ![0, 0, 64, 0] S4x4x1x8192
  shapeCasts_S4x4x1x8192_S4x4x8192 : S4x4x1x8192.ShapeCasts S4x4x8192
  bcast_S_S4x4x8192 : S_.BroadcastsInDim S4x4x8192 (![] : Fin 0 → Fin S4x4x8192.rank)
  reducesTo_S4x4x8192_S_d0_1_2 : S4x4x8192.ReducesTo [0, 1, 2] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S4x512x8192 .bf16) (main_arg1 : FVec F S32768x512 .bf16) (main_arg2 : FVec F S4x320x8192 .bf16) (main_arg3 : FVec F S32768x4736 .f32) : IVec S_ 1 :=
  let main_v0 : FVec F S4x512x8192 .f32 := (extf .f32 · bitsLt_bf16_f32) main_arg0
  let main_v1 : FVec F S4x512x8192 .f32 := Host.absf main_v0
  let main_cst : FVec F S_ .f32 := constant S_ .f32 0x7F800000#32
  let main_v2 : FVec F S4x512x8192 .f32 := broadcastInDim S4x512x8192 ![] bcast_S_S4x512x8192 main_cst
  let main_v3 : IVec S4x512x8192 1 := cmpf .olt main_v1 main_v2
  let main_c : IVec S_ 1 := constantI S_ 1 1#1
  let main_v4 : IVec S_ 1 := (fun x v => Host.reduce IntOp.andi x v reducesTo_S4x512x8192_S_d0_1_2 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S4x320x8192 .f32 := (extf .f32 · bitsLt_bf16_f32) main_arg2
  let main_v12 : FVec F S4x4x80x8192 .f32 := shapeCast S4x4x80x8192 main_v11 shapeCasts_S4x320x8192_S4x4x80x8192
  let main_v13 : FVec F S4x4x1x8192 .f32 := (extractStridedSlice S4x4x1x8192 ![0, 0, 64, 0] · slices_S4x4x80x8192_S4x4x1x8192_0_0_64_0) main_v12
  let main_v14 : FVec F S4x4x8192 .f32 := shapeCast S4x4x8192 main_v13 shapeCasts_S4x4x1x8192_S4x4x8192
  let main_cst_2 : FVec F S_ .f32 := constant S_ .f32 0x3F800000#32
  let main_v15 : FVec F S4x4x8192 .f32 := broadcastInDim S4x4x8192 ![] bcast_S_S4x4x8192 main_cst_2
  let main_v16 : IVec S4x4x8192 1 := cmpf .oeq main_v14 main_v15
  let main_c_3 : IVec S_ 1 := constantI S_ 1 1#1
  let main_v17 : IVec S_ 1 := (fun x v => Host.reduce IntOp.andi x v reducesTo_S4x4x8192_S_d0_1_2 h_S_) main_v16 main_c_3
  fn_part1 (F := F) main_v10 main_v17
-- ==== Pre_gating_values.lean ====
abbrev S32768x4736 : Shape := ⟨2, ![32768, 4736]⟩
abbrev S1x256 : Shape := ⟨2, ![1, 256]⟩
abbrev S4x128x128 : Shape := ⟨3, ![4, 128, 128]⟩
abbrev S128x256 : Shape := ⟨2, ![128, 256]⟩
abbrev S32768x256 : Shape := ⟨2, ![32768, 256]⟩
abbrev S_ : Shape := ⟨0, ![]⟩

class Facts : Prop where
  slices_S32768x4736_S32768x256_0_256 : S32768x4736.Slices ![0, 256] S32768x256
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x4736 .f32) (main_arg1 : FVec F S1x256 .f32) (main_arg2 : FVec F S4x128x128 .f32) (main_arg3 : FVec F S128x256 .f32) : IVec S_ 1 :=
  let main_v0 : FVec F S32768x256 .f32 := (extractStridedSlice S32768x256 ![0, 256] · slices_S32768x4736_S32768x256_0_256) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_c : IVec S_ 1 := constantI S_ 1 1#1
  let main_v4 : IVec S_ 1 := (fun x v => Host.reduce IntOp.andi x v reducesTo_S32768x256_S_d0_1 h_S_) main_v3 main_c
  main_v4
-- ==== Pre_memory_queries.lean ====
abbrev S32768x4736 : Shape := ⟨2, ![32768, 4736]⟩
abbrev S1024x256 : Shape := ⟨2, ![1024, 256]⟩
abbrev S1x256 : Shape := ⟨2, ![1, 256]⟩
abbrev S32768x256 : Shape := ⟨2, ![32768, 256]⟩
abbrev S_ : Shape := ⟨0, ![]⟩

class Facts : Prop where
  slices_S32768x4736_S32768x256_0_4096 : S32768x4736.Slices ![0, 4096] S32768x256
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x4736 .f32) (main_arg1 : FVec F S1024x256 .bf16) (main_arg2 : FVec F S1024x256 .bf16) (main_arg3 : FVec F S1x256 .f32) : IVec S_ 1 :=
  let main_v0 : FVec F S32768x256 .f32 := (extractStridedSlice S32768x256 ![0, 4096] · slices_S32768x4736_S32768x256_0_4096) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_c : IVec S_ 1 := constantI S_ 1 1#1
  let main_v4 : IVec S_ 1 := (fun x v => Host.reduce IntOp.andi x v reducesTo_S32768x256_S_d0_1 h_S_) main_v3 main_c
  main_v4
-- ==== Pre_memory_weights.lean ====
abbrev S1024x1024 : Shape := ⟨2, ![1024, 1024]⟩
abbrev S1x1024 : Shape := ⟨2, ![1, 1024]⟩
abbrev S1024x512 : Shape := ⟨2, ![1024, 512]⟩
abbrev S1x256 : Shape := ⟨2, ![1, 256]⟩
abbrev S_ : Shape := ⟨0, ![]⟩
abbrev S1024x256 : Shape := ⟨2, ![1024, 256]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1024x512_S1024x256_0_0 : S1024x512.Slices ![0, 0] S1024x256
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S1024x1024 .f32) (main_arg1 : FVec F S1x1024 .f32) (main_arg2 : FVec F S1024x512 .bf16) (main_arg3 : FVec F S1x256 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x256 .bf16 := (extractStridedSlice S1024x256 ![0, 0] · slices_S1024x512_S1024x256_0_0) main_arg2
  let main_v5 : FVec F S1024x256 .f32 := (extf .f32 · bitsLt_bf16_f32) main_v4
  let main_v6 : FVec F S1024x256 .f32 := Host.absf main_v5
  let main_cst_0 : FVec F S_ .f32 := constant S_ .f32 0x7F800000#32
  let main_v7 : FVec F S1024x256 .f32 := broadcastInDim S1024x256 ![] bcast_S_S1024x256 main_cst_0
  let main_v8 : IVec S1024x256 1 := cmpf .olt main_v6 main_v7
  let main_c_1 : IVec S_ 1 := constantI S_ 1 1#1
  let main_v9 : IVec S_ 1 := (fun x v => Host.reduce IntOp.andi x v reducesTo_S1024x256_S_d0_1 h_S_) main_v8 main_c_1
  let main_v10 : IVec S_ 1 := andi main_v3 main_v9
  main_v10
-- ==== Kernel.lean ====
abbrev S4x512x8192 : Shape := ⟨3, ![4, 512, 8192]⟩
abbrev S32768x512 : Shape := ⟨2, ![32768, 512]⟩
abbrev S4x320x8192 : Shape := ⟨3, ![4, 320, 8192]⟩
abbrev S32768x4736 : Shape := ⟨2, ![32768, 4736]⟩
abbrev S32768x256 : Shape := ⟨2, ![32768, 256]⟩
abbrev S1x256x512 : Shape := ⟨3, ![1, 256, 512]⟩
abbrev S8192x256 : Shape := ⟨2, ![8192, 256]⟩
abbrev S1x160x8192 : Shape := ⟨3, ![1, 160, 8192]⟩
abbrev S512x128 : Shape := ⟨2, ![512, 128]⟩
abbrev S2x8x512 : Shape := ⟨3, ![2, 8, 512]⟩
abbrev S2x80x512 : Shape := ⟨3, ![2, 80, 512]⟩
abbrev S2x256x512 : Shape := ⟨3, ![2, 256, 512]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S8x512 : Shape := ⟨2, ![8, 512]⟩
abbrev S1x8x512 : Shape := ⟨3, ![1, 8, 512]⟩
abbrev S1x1x512 : Shape := ⟨3, ![1, 1, 512]⟩
abbrev S1x80x256 : Shape := ⟨3, ![1, 80, 256]⟩
abbrev S80x256 : Shape := ⟨2, ![80, 256]⟩
abbrev S1x80x512 : Shape := ⟨3, ![1, 80, 512]⟩
abbrev S80x512 : Shape := ⟨2, ![80, 512]⟩
abbrev S1x128x256 : Shape := ⟨3, ![1, 128, 256]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S8x256 : Shape := ⟨2, ![8, 256]⟩
abbrev S1x8x256 : Shape := ⟨3, ![1, 8, 256]⟩
abbrev S1x1x256 : Shape := ⟨3, ![1, 1, 256]⟩
abbrev S64x512 : Shape := ⟨2, ![64, 512]⟩

abbrev nBuf : Space → Nat
  | .hbm => 5
  | .vmem => 16
  | .smem => 0
  | _ => 0

abbrev bufTy : (tb : Table) → Fin (tcTables nBuf tb) → BufTy
  | .hbm, ⟨0, _⟩ => ⟨S4x512x8192, .bf16⟩
  | .hbm, ⟨1, _⟩ => ⟨S32768x512, .bf16⟩
  | .hbm, ⟨2, _⟩ => ⟨S4x320x8192, .bf16⟩
  | .hbm, ⟨3, _⟩ => ⟨S32768x4736, .f32⟩
  | .hbm, ⟨4, _⟩ => ⟨S32768x256, .bf16⟩
  | .local _ .vmem, ⟨0, _⟩ => ⟨S1x256x512, .bf16⟩
  | .local _ .vmem, ⟨1, _⟩ => ⟨S1x256x512, .bf16⟩
  | .local _ .vmem, ⟨2, _⟩ => ⟨S8192x256, .bf16⟩
  | .local _ .vmem, ⟨3, _⟩ => ⟨S8192x256, .bf16⟩
  | .local _ .vmem, ⟨4, _⟩ => ⟨S1x160x8192, .bf16⟩
  | .local _ .vmem, ⟨5, _⟩ => ⟨S1x160x8192, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S2x8x512, .f32⟩
  | .local _ .vmem, ⟨11, _⟩ => ⟨S2x80x512, .f32⟩
  | .local _ .vmem, ⟨12, _⟩ => ⟨S2x256x512, .f32⟩
  | .local _ .vmem, ⟨13, _⟩ => ⟨S2x256x512, .f32⟩
  | .local _ .vmem, ⟨14, _⟩ => ⟨S2x8x512, .f32⟩
  | .local _ .vmem, ⟨15, _⟩ => ⟨S2x8x512, .f32⟩
  | _, _ => ⟨S4x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 16], ![false, false, false]⟩

def k0_mult1 : BitVec 32 :=
  let c0_i32 : BitVec 32 := 0#32
  c0_i32
@[reducible] def k0_t1_loop (i : grid0.Coords) : Scf.Loop 32 :=
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_30 : BitVec 32 := 1#32
  ⟨c0_i32_29, v44, c1_i32_30⟩
def k0_mult2 (i : grid0.Coords) (k0_t1 : Fin (k0_t1_loop i).trips) : BitVec 32 :=
  let c2_i32_161 : BitVec 32 := 2#32
  let c0_i32_29 : BitVec 32 := 0#32
  let c1_i32_30 : BitVec 32 := 1#32
  let arg14 : BitVec 32 := Scf.iv c0_i32_29 c1_i32_30 k0_t1
  let v271 : BitVec 32 := Scalar.muli c2_i32_161 arg14
  let c1_i32_162 : BitVec 32 := 1#32
  let v272 : BitVec 32 := Scalar.addi v271 c1_i32_162
  let c256_i32_163 : BitVec 32 := 256#32
  let v273 : BitVec 32 := Scalar.muli v272 c256_i32_163
  v273
def k0_off1 (i : grid0.Coords) (k0_t1 : Fin (k0_t1_loop i).trips) (c1_i32_162 : BitVec 32) : Fin 2 → Nat :=
  let c2_i32_161 : BitVec 32 := 2#32
  let c0_i32_29 : BitVec 32 := 0#32
  let c1_i32_30 : BitVec 32 := 1#32
  let arg14 : BitVec 32 := Scf.iv c0_i32_29 c1_i32_30 k0_t1
  let v271 : BitVec 32 := Scalar.muli c2_i32_161 arg14
  let v272 : BitVec 32 := Scalar.addi v271 c1_i32_162
  let c256_i32_163 : BitVec 32 := 256#32
  let v273 : BitVec 32 := Scalar.muli v272 c256_i32_163
  let v274 : BitVec 32 := v273
  let v275 : Index := Scalar.indexCast v274
  let c0_164 : Index := 0#32
  ![v275.toNat, 0]
def k0_off2 (i : grid0.Coords) (k0_t1 : Fin (k0_t1_loop i).trips) (c1_i32_162 : BitVec 32) : Fin 2 → Nat :=
  let c2_i32_161 : BitVec 32 := 2#32
  let c0_i32_29 : BitVec 32 := 0#32
  let c1_i32_30 : BitVec 32 := 1#32
  let arg14 : BitVec 32 := Scf.iv c0_i32_29 c1_i32_30 k0_t1
  let v271 : BitVec 32 := Scalar.muli c2_i32_161 arg14
  let v272 : BitVec 32 := Scalar.addi v271 c1_i32_162
  let c256_i32_163 : BitVec 32 := 256#32
  let v273 : BitVec 32 := Scalar.muli v272 c256_i32_163
  let v274 : BitVec 32 := v273
  let v290 : Index := Scalar.indexCast v274
  let c128_176 : Index := 128#32
  ![v290.toNat, 128]
def k0_mult3 (i : grid0.Coords) (k0_t1 : Fin (k0_t1_loop i).trips) : BitVec 32 :=
  let c2_i32_188 : BitVec 32 := 2#32
  let c0_i32_29 : BitVec 32 := 0#32
  let c1_i32_30 : BitVec 32 := 1#32
  let arg14 : BitVec 32 := Scf.iv c0_i32_29 c1_i32_30 k0_t1
  let v305 : BitVec 32 := Scalar.muli c2_i32_188 arg14
  let c256_i32_189 : BitVec 32 := 256#32
  let v306 : BitVec 32 := Scalar.muli v305 c256_i32_189
  v306
def k0_off3 (i : grid0.Coords) (k0_t1 : Fin (k0_t1_loop i).trips) : Fin 3 → Nat :=
  let c0_202 : Index := 0#32
  let c0_203 : Index := 0#32
  let c2_i32_188 : BitVec 32 := 2#32
  let c0_i32_29 : BitVec 32 := 0#32
  let c1_i32_30 : BitVec 32 := 1#32
  let arg14 : BitVec 32 := Scf.iv c0_i32_29 c1_i32_30 k0_t1
  let v305 : BitVec 32 := Scalar.muli c2_i32_188 arg14
  let c256_i32_189 : BitVec 32 := 256#32
  let v306 : BitVec 32 := Scalar.muli v305 c256_i32_189
  let v307 : BitVec 32 := v306
  let v325 : Index := Scalar.indexCast v307
  ![0, 0, v325.toNat]
def k0_off4 (i : grid0.Coords) (k0_t1 : Fin (k0_t1_loop i).trips) : Fin 3 → Nat :=
  let c0_223 : Index := 0#32
  let c80_224 : Index := 80#32
  let c2_i32_188 : BitVec 32 := 2#32
  let c0_i32_29 : BitVec 32 := 0#32
  let c1_i32_30 : BitVec 32 := 1#32
  let arg14 : BitVec 32 := Scf.iv c0_i32_29 c1_i32_30 k0_t1
  let v305 : BitVec 32 := Scalar.muli c2_i32_188 arg14
  let c256_i32_189 : BitVec 32 := 256#32
  let v306 : BitVec 32 := Scalar.muli v305 c256_i32_189
  let v307 : BitVec 32 := v306
  let v355 : Index := Scalar.indexCast v307
  ![0, 80, v355.toNat]
def k0_mult4 (i : grid0.Coords) (k0_t1 : Fin (k0_t1_loop i).trips) : BitVec 32 :=
  let c2_i32_232 : BitVec 32 := 2#32
  let c0_i32_29 : BitVec 32 := 0#32
  let c1_i32_30 : BitVec 32 := 1#32
  let arg14 : BitVec 32 := Scf.iv c0_i32_29 c1_i32_30 k0_t1
  let v368 : BitVec 32 := Scalar.muli c2_i32_232 arg14
  let c2_i32_233 : BitVec 32 := 2#32
  let v369 : BitVec 32 := Scalar.addi v368 c2_i32_233
  let c256_i32_234 : BitVec 32 := 256#32
  let v370 : BitVec 32 := Scalar.muli v369 c256_i32_234
  v370
def k0_mult5 (i : grid0.Coords) (k0_t1 : Fin (k0_t1_loop i).trips) : BitVec 32 :=
  let c2_i32_259 : BitVec 32 := 2#32
  let c0_i32_29 : BitVec 32 := 0#32
  let c1_i32_30 : BitVec 32 := 1#32
  let arg14 : BitVec 32 := Scf.iv c0_i32_29 c1_i32_30 k0_t1
  let v402 : BitVec 32 := Scalar.muli c2_i32_259 arg14
  let c1_i32_260 : BitVec 32 := 1#32
  let v403 : BitVec 32 := Scalar.addi v402 c1_i32_260
  let c256_i32_261 : BitVec 32 := 256#32
  let v404 : BitVec 32 := Scalar.muli v403 c256_i32_261
  v404
def k0_off5 (i : grid0.Coords) (k0_t1 : Fin (k0_t1_loop i).trips) : Fin 3 → Nat :=
  let c0_274 : Index := 0#32
  let c0_275 : Index := 0#32
  let c2_i32_259 : BitVec 32 := 2#32
  let c0_i32_29 : BitVec 32 := 0#32
  let c1_i32_30 : BitVec 32 := 1#32
  let arg14 : BitVec 32 := Scf.iv c0_i32_29 c1_i32_30 k0_t1
  let v402 : BitVec 32 := Scalar.muli c2_i32_259 arg14
  let c1_i32_260 : BitVec 32 := 1#32
  let v403 : BitVec 32 := Scalar.addi v402 c1_i32_260
  let c256_i32_261 : BitVec 32 := 256#32
  let v404 : BitVec 32 := Scalar.muli v403 c256_i32_261
  let v405 : BitVec 32 := v404
  let v423 : Index := Scalar.indexCast v405
  ![0, 0, v423.toNat]
def k0_off6 (i : grid0.Coords) (k0_t1 : Fin (k0_t1_loop i).trips) : Fin 3 → Nat :=
  let c0_295 : Index := 0#32
  let c80_296 : Index := 80#32
  let c2_i32_259 : BitVec 32 := 2#32
  let c0_i32_29 : BitVec 32 := 0#32
  let c1_i32_30 : BitVec 32 := 1#32
  let arg14 : BitVec 32 := Scf.iv c0_i32_29 c1_i32_30 k0_t1
  let v402 : BitVec 32 := Scalar.muli c2_i32_259 arg14
  let c1_i32_260 : BitVec 32 := 1#32
  let v403 : BitVec 32 := Scalar.addi v402 c1_i32_260
  let c256_i32_261 : BitVec 32 := 256#32
  let v404 : BitVec 32 := Scalar.muli v403 c256_i32_261
  let v405 : BitVec 32 := v404
  let v453 : Index := Scalar.indexCast v405
  ![0, 80, v453.toNat]
@[reducible] def k0_t2_loop (i : grid0.Coords) : Scf.Loop 32 :=
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let v41 : BitVec 32 := Scalar.addi c0_i32_29 v40
  let c1_i32_31 : BitVec 32 := 1#32
  ⟨v44, v41, c1_i32_31⟩
def k0_mult6 (i : grid0.Coords) (k0_t2 : Fin (k0_t2_loop i).trips) : BitVec 32 :=
  let c2_i32_161 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v271 : BitVec 32 := Scalar.muli c2_i32_161 arg14
  let c1_i32_162 : BitVec 32 := 1#32
  let v272 : BitVec 32 := Scalar.addi v271 c1_i32_162
  let c256_i32_163 : BitVec 32 := 256#32
  let v273 : BitVec 32 := Scalar.muli v272 c256_i32_163
  v273
def k0_off7 (i : grid0.Coords) (k0_t2 : Fin (k0_t2_loop i).trips) (c1_i32_162 : BitVec 32) : Fin 2 → Nat :=
  let c2_i32_161 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v271 : BitVec 32 := Scalar.muli c2_i32_161 arg14
  let v272 : BitVec 32 := Scalar.addi v271 c1_i32_162
  let c256_i32_163 : BitVec 32 := 256#32
  let v273 : BitVec 32 := Scalar.muli v272 c256_i32_163
  let v274 : BitVec 32 := v273
  let v275 : Index := Scalar.indexCast v274
  let c0_164 : Index := 0#32
  ![v275.toNat, 0]
def k0_off8 (i : grid0.Coords) (k0_t2 : Fin (k0_t2_loop i).trips) (c1_i32_162 : BitVec 32) : Fin 2 → Nat :=
  let c2_i32_161 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v271 : BitVec 32 := Scalar.muli c2_i32_161 arg14
  let v272 : BitVec 32 := Scalar.addi v271 c1_i32_162
  let c256_i32_163 : BitVec 32 := 256#32
  let v273 : BitVec 32 := Scalar.muli v272 c256_i32_163
  let v274 : BitVec 32 := v273
  let v290 : Index := Scalar.indexCast v274
  let c128_176 : Index := 128#32
  ![v290.toNat, 128]
def k0_mult7 (i : grid0.Coords) (k0_t2 : Fin (k0_t2_loop i).trips) : BitVec 32 :=
  let c2_i32_188 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v305 : BitVec 32 := Scalar.muli c2_i32_188 arg14
  let c256_i32_189 : BitVec 32 := 256#32
  let v306 : BitVec 32 := Scalar.muli v305 c256_i32_189
  v306
def k0_off9 (i : grid0.Coords) (k0_t2 : Fin (k0_t2_loop i).trips) : Fin 3 → Nat :=
  let c0_202 : Index := 0#32
  let c0_203 : Index := 0#32
  let c2_i32_188 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v305 : BitVec 32 := Scalar.muli c2_i32_188 arg14
  let c256_i32_189 : BitVec 32 := 256#32
  let v306 : BitVec 32 := Scalar.muli v305 c256_i32_189
  let v307 : BitVec 32 := v306
  let v325 : Index := Scalar.indexCast v307
  ![0, 0, v325.toNat]
def k0_off10 (i : grid0.Coords) (k0_t2 : Fin (k0_t2_loop i).trips) : Fin 3 → Nat :=
  let c0_223 : Index := 0#32
  let c80_224 : Index := 80#32
  let c2_i32_188 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v305 : BitVec 32 := Scalar.muli c2_i32_188 arg14
  let c256_i32_189 : BitVec 32 := 256#32
  let v306 : BitVec 32 := Scalar.muli v305 c256_i32_189
  let v307 : BitVec 32 := v306
  let v355 : Index := Scalar.indexCast v307
  ![0, 80, v355.toNat]
def k0_mult8 (i : grid0.Coords) (k0_t2 : Fin (k0_t2_loop i).trips) : BitVec 32 :=
  let c2_i32_232 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v368 : BitVec 32 := Scalar.muli c2_i32_232 arg14
  let c2_i32_233 : BitVec 32 := 2#32
  let v369 : BitVec 32 := Scalar.addi v368 c2_i32_233
  let c256_i32_234 : BitVec 32 := 256#32
  let v370 : BitVec 32 := Scalar.muli v369 c256_i32_234
  v370
def k0_mult9 (i : grid0.Coords) (k0_t2 : Fin (k0_t2_loop i).trips) : BitVec 32 :=
  let c2_i32_259 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v402 : BitVec 32 := Scalar.muli c2_i32_259 arg14
  let c1_i32_260 : BitVec 32 := 1#32
  let v403 : BitVec 32 := Scalar.addi v402 c1_i32_260
  let c256_i32_261 : BitVec 32 := 256#32
  let v404 : BitVec 32 := Scalar.muli v403 c256_i32_261
  v404
def k0_off11 (i : grid0.Coords) (k0_t2 : Fin (k0_t2_loop i).trips) : Fin 3 → Nat :=
  let c0_274 : Index := 0#32
  let c0_275 : Index := 0#32
  let c2_i32_259 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v402 : BitVec 32 := Scalar.muli c2_i32_259 arg14
  let c1_i32_260 : BitVec 32 := 1#32
  let v403 : BitVec 32 := Scalar.addi v402 c1_i32_260
  let c256_i32_261 : BitVec 32 := 256#32
  let v404 : BitVec 32 := Scalar.muli v403 c256_i32_261
  let v405 : BitVec 32 := v404
  let v423 : Index := Scalar.indexCast v405
  ![0, 0, v423.toNat]
def k0_off12 (i : grid0.Coords) (k0_t2 : Fin (k0_t2_loop i).trips) : Fin 3 → Nat :=
  let c0_295 : Index := 0#32
  let c80_296 : Index := 80#32
  let c2_i32_259 : BitVec 32 := 2#32
  let c0_i32_29 : BitVec 32 := 0#32
  let arg2 : BitVec 32 := BitVec.ofNat 32 (i 2).val
  let v40 : BitVec 32 := Scalar.subi arg2 c0_i32_29
  let c1_i32 : BitVec 32 := 1#32
  let v42 : BitVec 32 := Scalar.divsi v40 c1_i32
  let v43 : BitVec 32 := Scalar.muli v42 c1_i32
  let v44 : BitVec 32 := Scalar.addi c0_i32_29 v43
  let c1_i32_31 : BitVec 32 := 1#32
  let arg14 : BitVec 32 := Scf.iv v44 c1_i32_31 k0_t2
  let v402 : BitVec 32 := Scalar.muli c2_i32_259 arg14
  let c1_i32_260 : BitVec 32 := 1#32
  let v403 : BitVec 32 := Scalar.addi v402 c1_i32_260
  let c256_i32_261 : BitVec 32 := 256#32
  let v404 : BitVec 32 := Scalar.muli v403 c256_i32_261
  let v405 : BitVec 32 := v404
  let v453 : Index := Scalar.indexCast v405
  ![0, 80, v453.toNat]
def k0_mult10 (i : grid0.Coords) : BitVec 32 :=
  let c2_i32 : BitVec 32 := 2#32
  let arg2 : BitVec 32 := BitVec.ofNat 32 (i 2).val
  let v8 : BitVec 32 := Scalar.muli c2_i32 arg2
  let c1_i32_32 : BitVec 32 := 1#32
  let v45 : BitVec 32 := Scalar.addi v8 c1_i32_32
  let c256_i32 : BitVec 32 := 256#32
  let v46 : BitVec 32 := Scalar.muli v45 c256_i32
  v46
def k0_off13 (i : grid0.Coords) : Fin 2 → Nat :=
  let c2_i32 : BitVec 32 := 2#32
  let arg2 : BitVec 32 := BitVec.ofNat 32 (i 2).val
  let v8 : BitVec 32 := Scalar.muli c2_i32 arg2
  let c1_i32_32 : BitVec 32 := 1#32
  let v45 : BitVec 32 := Scalar.addi v8 c1_i32_32
  let c256_i32 : BitVec 32 := 256#32
  let v46 : BitVec 32 := Scalar.muli v45 c256_i32
  let v47 : BitVec 32 := v46
  let v48 : Index := Scalar.indexCast v47
  let c0_33 : Index := 0#32
  ![v48.toNat, 0]
def k0_off14 (i : grid0.Coords) : Fin 2 → Nat :=
  let c2_i32 : BitVec 32 := 2#32
  let arg2 : BitVec 32 := BitVec.ofNat 32 (i 2).val
  let v8 : BitVec 32 := Scalar.muli c2_i32 arg2
  let c1_i32_32 : BitVec 32 := 1#32
  let v45 : BitVec 32 := Scalar.addi v8 c1_i32_32
  let c256_i32 : BitVec 32 := 256#32
  let v46 : BitVec 32 := Scalar.muli v45 c256_i32
  let v47 : BitVec 32 := v46
  let v63 : Index := Scalar.indexCast v47
  let c128_44 : Index := 128#32
  ![v63.toNat, 128]
def k0_mult11 (i : grid0.Coords) : BitVec 32 :=
  let c2_i32 : BitVec 32 := 2#32
  let arg2 : BitVec 32 := BitVec.ofNat 32 (i 2).val
  let v8 : BitVec 32 := Scalar.muli c2_i32 arg2
  let c256_i32_56 : BitVec 32 := 256#32
  let v78 : BitVec 32 := Scalar.muli v8 c256_i32_56
  v78
def k0_off15 (i : grid0.Coords) : Fin 3 → Nat :=
  let c0_69 : Index := 0#32
  let c0_70 : Index := 0#32
  let c2_i32 : BitVec 32 := 2#32
  let arg2 : BitVec 32 := BitVec.ofNat 32 (i 2).val
  let v8 : BitVec 32 := Scalar.muli c2_i32 arg2
  let c256_i32_56 : BitVec 32 := 256#32
  let v78 : BitVec 32 := Scalar.muli v8 c256_i32_56
  let v79 : BitVec 32 := v78
  let v108 : Index := Scalar.indexCast v79
  ![0, 0, v108.toNat]
def k0_off16 (i : grid0.Coords) : Fin 3 → Nat :=
  let c0_91 : Index := 0#32
  let c80 : Index := 80#32
  let c2_i32 : BitVec 32 := 2#32
  let arg2 : BitVec 32 := BitVec.ofNat 32 (i 2).val
  let v8 : BitVec 32 := Scalar.muli c2_i32 arg2
  let c256_i32_56 : BitVec 32 := 256#32
  let v78 : BitVec 32 := Scalar.muli v8 c256_i32_56
  let v79 : BitVec 32 := v78
  let v149 : Index := Scalar.indexCast v79
  ![0, 80, v149.toNat]
def k0_mult12 (i : grid0.Coords) : BitVec 32 :=
  let c2_i32 : BitVec 32 := 2#32
  let arg2 : BitVec 32 := BitVec.ofNat 32 (i 2).val
  let v8 : BitVec 32 := Scalar.muli c2_i32 arg2
  let c1_i32_99 : BitVec 32 := 1#32
  let v162 : BitVec 32 := Scalar.addi v8 c1_i32_99
  let c256_i32_100 : BitVec 32 := 256#32
  let v163 : BitVec 32 := Scalar.muli v162 c256_i32_100
  v163
def k0_off17 (i : grid0.Coords) : Fin 3 → Nat :=
  let c0_114 : Index := 0#32
  let c0_115 : Index := 0#32
  let c2_i32 : BitVec 32 := 2#32
  let arg2 : BitVec 32 := BitVec.ofNat 32 (i 2).val
  let v8 : BitVec 32 := Scalar.muli c2_i32 arg2
  let c1_i32_99 : BitVec 32 := 1#32
  let v162 : BitVec 32 := Scalar.addi v8 c1_i32_99
  let c256_i32_100 : BitVec 32 := 256#32
  let v163 : BitVec 32 := Scalar.muli v162 c256_i32_100
  let v164 : BitVec 32 := v163
  let v193 : Index := Scalar.indexCast v164
  ![0, 0, v193.toNat]
def k0_off18 (i : grid0.Coords) : Fin 3 → Nat :=
  let c0_136 : Index := 0#32
  let c80_137 : Index := 80#32
  let c2_i32 : BitVec 32 := 2#32
  let arg2 : BitVec 32 := BitVec.ofNat 32 (i 2).val
  let v8 : BitVec 32 := Scalar.muli c2_i32 arg2
  let c1_i32_99 : BitVec 32 := 1#32
  let v162 : BitVec 32 := Scalar.addi v8 c1_i32_99
  let c256_i32_100 : BitVec 32 := 256#32
  let v163 : BitVec 32 := Scalar.muli v162 c256_i32_100
  let v164 : BitVec 32 := v163
  let v234 : Index := Scalar.indexCast v164
  ![0, 80, v234.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x512x8192 : Shape := ⟨3, ![4, 512, 8192]⟩
abbrev S32768x512 : Shape := ⟨2, ![32768, 512]⟩
abbrev S4x320x8192 : Shape := ⟨3, ![4, 320, 8192]⟩
abbrev S32768x4736 : Shape := ⟨2, ![32768, 4736]⟩
abbrev S4x4x128x8192 : Shape := ⟨4, ![4, 4, 128, 8192]⟩
abbrev S4x8192x4x128 : Shape := ⟨4, ![4, 8192, 4, 128]⟩
abbrev S4x4x80x8192 : Shape := ⟨4, ![4, 4, 80, 8192]⟩
abbrev S4x4x64x8192 : Shape := ⟨4, ![4, 4, 64, 8192]⟩
abbrev S32768x256 : Shape := ⟨2, ![32768, 256]⟩
abbrev S4x4x8192x8192 : Shape := ⟨4, ![4, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x4x8192 : Shape := ⟨3, ![4, 4, 8192]⟩
abbrev S4x4x8192x1 : Shape := ⟨4, ![4, 4, 8192, 1]⟩
abbrev S4x8192x4x64 : Shape := ⟨4, ![4, 8192, 4, 64]⟩

abbrev nBuf : Space → Nat
  | .hbm => 51
  | .vmem => 0
  | .smem => 0
  | _ => 0

abbrev bufTy : (tb : Table) → Fin (tcTables nBuf tb) → BufTy
  | .hbm, ⟨0, _⟩ => ⟨S4x512x8192, .bf16⟩
  | .hbm, ⟨1, _⟩ => ⟨S32768x512, .bf16⟩
  | .hbm, ⟨2, _⟩ => ⟨S4x320x8192, .bf16⟩
  | .hbm, ⟨3, _⟩ => ⟨S32768x4736, .f32⟩
  | .hbm, ⟨4, _⟩ => ⟨S4x512x8192, .f32⟩
  | .hbm, ⟨5, _⟩ => ⟨S4x4x128x8192, .f32⟩
  | .hbm, ⟨6, _⟩ => ⟨S32768x512, .f32⟩
  | .hbm, ⟨7, _⟩ => ⟨S4x8192x4x128, .f32⟩
  | .hbm, ⟨8, _⟩ => ⟨S4x320x8192, .f32⟩
  | .hbm, ⟨9, _⟩ => ⟨S4x4x80x8192, .f32⟩
  | .hbm, ⟨10, _⟩ => ⟨S4x4x64x8192, .f32⟩
  | .hbm, ⟨11, _⟩ => ⟨S32768x256, .f32⟩
  | .hbm, ⟨12, _⟩ => ⟨S4x4x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S4x4x8192x8192, .i1⟩
  | .hbm, ⟨22, _⟩ => ⟨S4x4x8192x8192, .f32⟩
  | .hbm, ⟨23, _⟩ => ⟨S4x4x8192x8192, .f32⟩
  | .hbm, ⟨24, _⟩ => ⟨S_, .f32⟩
  | .hbm, ⟨25, _⟩ => ⟨S4x4x8192, .f32⟩
  | .hbm, ⟨26, _⟩ => ⟨S4x4x8192x1, .f32⟩
  | .hbm, ⟨27, _⟩ => ⟨S4x4x8192x8192, .f32⟩
  | .hbm, ⟨28, _⟩ => ⟨S4x4x8192x8192, .f32⟩
  | .hbm, ⟨29, _⟩ => ⟨S_, .f32⟩
  | .hbm, ⟨30, _⟩ => ⟨S4x4x8192x8192, .f32⟩
  | .hbm, ⟨31, _⟩ => ⟨S4x4x8192x8192, .f32⟩
  | .hbm, ⟨32, _⟩ => ⟨S_, .f32⟩
  | .hbm, ⟨33, _⟩ => ⟨S4x4x8192, .f32⟩
  | .hbm, ⟨34, _⟩ => ⟨S4x4x8192x1, .f32⟩
  | .hbm, ⟨35, _⟩ => ⟨S4x4x8192x8192, .f32⟩
  | .hbm, ⟨36, _⟩ => ⟨S4x4x8192x8192, .f32⟩
  | .hbm, ⟨37, _⟩ => ⟨S4x4x64x8192, .f32⟩
  | .hbm, ⟨38, _⟩ => ⟨S4x8192x4x64, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S_, .f32⟩
  | .hbm, ⟨43, _⟩ => ⟨S32768x256, .f32⟩
  | .hbm, ⟨44, _⟩ => ⟨S32768x256, .f32⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S32768x256, .bf16⟩
  | _, _ => ⟨S4x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x4736 : Shape := ⟨2, ![1024, 4736]⟩
abbrev S32768x4736 : Shape := ⟨2, ![32768, 4736]⟩
abbrev S512x1024 : Shape := ⟨2, ![512, 1024]⟩
abbrev S512x4736 : Shape := ⟨2, ![512, 4736]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩

abbrev nBuf : Space → Nat
  | .hbm => 4
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4736, .bf16⟩
  | .hbm, ⟨3, _⟩ => ⟨S32768x4736, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S512x4736, .f32⟩
  | .local _ .vmem, ⟨5, _⟩ => ⟨S512x4736, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4736 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x1024 : Shape := ⟨2, ![32768, 1024]⟩
abbrev S1x1024 : Shape := ⟨2, ![1, 1024]⟩
abbrev S1024x4736 : Shape := ⟨2, ![1024, 4736]⟩
abbrev S_ : Shape := ⟨0, ![]⟩
abbrev S32768 : Shape := ⟨1, ![32768]⟩
abbrev S32768x1 : Shape := ⟨2, ![32768, 1]⟩
abbrev S32768x4736 : Shape := ⟨2, ![32768, 4736]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4736, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x4736, .f32⟩
  | .hbm, ⟨19, _⟩ => ⟨S32768x4736, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S32768x256 : Shape := ⟨2, ![32768, 256]⟩
abbrev S1280x1024 : Shape := ⟨2, ![1280, 1024]⟩
abbrev S32768x1024 : Shape := ⟨2, ![32768, 1024]⟩
abbrev S1024x256 : Shape := ⟨2, ![1024, 256]⟩
abbrev S1024x1024 : Shape := ⟨2, ![1024, 1024]⟩
abbrev S1024x1280 : Shape := ⟨2, ![1024, 1280]⟩

abbrev nBuf : Space → Nat
  | .hbm => 8
  | .vmem => 15
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S1280x1024, .bf16⟩
  | .hbm, ⟨6, _⟩ => ⟨S32768x1024, .f32⟩
  | .hbm, ⟨7, _⟩ => ⟨S32768x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1280x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x256 : Shape := ⟨2, ![32768, 256]⟩
abbrev S1280x1024 : Shape := ⟨2, ![1280, 1024]⟩
abbrev S32768x1024 : Shape := ⟨2, ![32768, 1024]⟩
abbrev S32768x1280 : Shape := ⟨2, ![32768, 1280]⟩

abbrev nBuf : Space → Nat
  | .hbm => 16
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S1280x1024, .bf16⟩
  | .hbm, ⟨6, _⟩ => ⟨S32768x1024, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S32768x1280, .f32⟩
  | .hbm, ⟨13, _⟩ => ⟨S1280x1024, .f32⟩
  | .hbm, ⟨14, _⟩ => ⟨S32768x1024, .f32⟩
  | .hbm, ⟨15, _⟩ => ⟨S32768x1024, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel4.lean ====
abbrev S32768x4736 : Shape := ⟨2, ![32768, 4736]⟩
abbrev S1024x256 : Shape := ⟨2, ![1024, 256]⟩
abbrev S1x256 : Shape := ⟨2, ![1, 256]⟩
abbrev S32768x256 : Shape := ⟨2, ![32768, 256]⟩
abbrev S512x256 : Shape := ⟨2, ![512, 256]⟩
abbrev S256x256 : Shape := ⟨2, ![256, 256]⟩
abbrev S512x128 : Shape := ⟨2, ![512, 128]⟩
abbrev S256x128 : Shape := ⟨2, ![256, 128]⟩
abbrev S512 : Shape := ⟨1, ![512]⟩
abbrev S512x1 : Shape := ⟨2, ![512, 1]⟩

abbrev nBuf : Space → Nat
  | .hbm => 5
  | .vmem => 11
  | .smem => 0
  | _ => 0

abbrev bufTy : (tb : Table) → Fin (tcTables nBuf tb) → BufTy
  | .hbm, ⟨0, _⟩ => ⟨S32768x4736, .f32⟩
  | .hbm, ⟨1, _⟩ => ⟨S1024x256, .bf16⟩
  | .hbm, ⟨2, _⟩ => ⟨S1024x256, .bf16⟩
  | .hbm, ⟨3, _⟩ => ⟨S1x256, .f32⟩
  | .hbm, ⟨4, _⟩ => ⟨S32768x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | _, _ => ⟨S32768x4736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  ![v1.toNat, c16_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c17_i32 : BitVec 32 := 17#32
  let c0_i32 : BitVec 32 := 0#32
  ![v1.toNat, c17_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32768x4736 : Shape := ⟨2, ![32768, 4736]⟩
abbrev S1024x256 : Shape := ⟨2, ![1024, 256]⟩
abbrev S1x256 : Shape := ⟨2, ![1, 256]⟩
abbrev S32768x256 : Shape := ⟨2, ![32768, 256]⟩
abbrev S4x8192x4x64 : Shape := ⟨4, ![4, 8192, 4, 64]⟩
abbrev S_ : Shape := ⟨0, ![]⟩
abbrev S4x8192x4 : Shape := ⟨3, ![4, 8192, 4]⟩
abbrev S4x8192x4x1 : Shape := ⟨4, ![4, 8192, 4, 1]⟩
abbrev S4x64 : Shape := ⟨2, ![4, 64]⟩
abbrev S1x1x4x64 : Shape := ⟨4, ![1, 1, 4, 64]⟩
abbrev S4x256x4x64 : Shape := ⟨4, ![4, 256, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩

abbrev nBuf : Space → Nat
  | .hbm => 57
  | .vmem => 0
  | .smem => 0
  | _ => 0

abbrev bufTy : (tb : Table) → Fin (tcTables nBuf tb) → BufTy
  | .hbm, ⟨0, _⟩ => ⟨S32768x4736, .f32⟩
  | .hbm, ⟨1, _⟩ => ⟨S1024x256, .bf16⟩
  | .hbm, ⟨2, _⟩ => ⟨S1024x256, .bf16⟩
  | .hbm, ⟨3, _⟩ => ⟨S1x256, .f32⟩
  | .hbm, ⟨4, _⟩ => ⟨S32768x256, .f32⟩
  | .hbm, ⟨5, _⟩ => ⟨S4x8192x4x64, .f32⟩
  | .hbm, ⟨6, _⟩ => ⟨S32768x256, .f32⟩
  | .hbm, ⟨7, _⟩ => ⟨S4x8192x4x64, .f32⟩
  | .hbm, ⟨8, _⟩ => ⟨S_, .f32⟩
  | .hbm, ⟨9, _⟩ => ⟨S4x8192x4, .f32⟩
  | .hbm, ⟨10, _⟩ => ⟨S4x8192x4x1, .f32⟩
  | .hbm, ⟨11, _⟩ => ⟨S_, .f32⟩
  | .hbm, ⟨12, _⟩ => ⟨S4x8192x4x1, .f32⟩
  | .hbm, ⟨13, _⟩ => ⟨S4x8192x4x1, .f32⟩
  | .hbm, ⟨14, _⟩ => ⟨S_, .f32⟩
  | .hbm, ⟨15, _⟩ => ⟨S4x8192x4x1, .f32⟩
  | .hbm, ⟨16, _⟩ => ⟨S4x8192x4x1, .f32⟩
  | .hbm, ⟨17, _⟩ => ⟨S4x8192x4x1, .f32⟩
  | .hbm, ⟨18, _⟩ => ⟨S4x8192x4x64, .f32⟩
  | .hbm, ⟨19, _⟩ => ⟨S4x8192x4x64, .f32⟩
  | .hbm, ⟨20, _⟩ => ⟨S4x64, .f32⟩
  | .hbm, ⟨21, _⟩ => ⟨S1x1x4x64, .f32⟩
  | .hbm, ⟨22, _⟩ => ⟨S4x8192x4x64, .f32⟩
  | .hbm, ⟨23, _⟩ => ⟨S4x8192x4x64, .f32⟩
  | .hbm, ⟨24, _⟩ => ⟨S1024x256, .f32⟩
  | .hbm, ⟨25, _⟩ => ⟨S4x256x4x64, .f32⟩
  | .hbm, ⟨26, _⟩ => ⟨S1024x256, .f32⟩
  | .hbm, ⟨27, _⟩ => ⟨S4x256x4x64, .f32⟩
  | .hbm, ⟨28, _⟩ => ⟨S4x4x8192x256, .f32⟩
  | .hbm, ⟨29, _⟩ => ⟨S_, .f32⟩
  | .hbm, ⟨30, _⟩ => ⟨S4x4x8192x256, .f32⟩
  | .hbm, ⟨31, _⟩ => ⟨S4x4x8192x256, .f32⟩
  | .hbm, ⟨32, _⟩ => ⟨S_, .f32⟩
  | .hbm, ⟨33, _⟩ => ⟨S4x4x8192, .f32⟩
  | .hbm, ⟨34, _⟩ => ⟨S4x4x8192x1, .f32⟩
  | .hbm, ⟨35, _⟩ => ⟨S4x4x8192x256, .f32⟩
  | .hbm, ⟨36, _⟩ => ⟨S4x4x8192x256, .f32⟩
  | .hbm, ⟨37, _⟩ => ⟨S4x4x8192x256, .f32⟩
  | .hbm, ⟨38, _⟩ => ⟨S_, .f32⟩
  | .hbm, ⟨39, _⟩ => ⟨S4x4x8192, .f32⟩
  | .hbm, ⟨40, _⟩ => ⟨S4x4x8192x1, .f32⟩
  | .hbm, ⟨41, _⟩ => ⟨S4x4x8192x256, .f32⟩
  | .hbm, ⟨42, _⟩ => ⟨S4x4x8192x256, .f32⟩
  | .hbm, ⟨43, _⟩ => ⟨S4x4x64x8192, .f32⟩
  | .hbm, ⟨44, _⟩ => ⟨S4x8192x4x64, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S_, .f32⟩
  | .hbm, ⟨49, _⟩ => ⟨S32768x256, .f32⟩
  | .hbm, ⟨50, _⟩ => ⟨S32768x256, .f32⟩
  | .hbm, ⟨51, _⟩ => ⟨S_, .f32⟩
  | .hbm, ⟨52, _⟩ => ⟨S32768x256, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .bf16⟩
  | _, _ => ⟨S32768x4736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel5.lean ====
abbrev S32768x4736 : Shape := ⟨2, ![32768, 4736]⟩
abbrev S1x256 : Shape := ⟨2, ![1, 256]⟩
abbrev S4x128x128 : Shape := ⟨3, ![4, 128, 128]⟩
abbrev S128x256 : Shape := ⟨2, ![128, 256]⟩
abbrev S32768x256 : Shape := ⟨2, ![32768, 256]⟩
abbrev S512x256 : Shape := ⟨2, ![512, 256]⟩
abbrev S256x256 : Shape := ⟨2, ![256, 256]⟩
abbrev S128x128 : Shape := ⟨2, ![128, 128]⟩
abbrev S1x128x128 : Shape := ⟨3, ![1, 128, 128]⟩

abbrev nBuf : Space → Nat
  | .hbm => 5
  | .vmem => 11
  | .smem => 0
  | _ => 0

abbrev bufTy : (tb : Table) → Fin (tcTables nBuf tb) → BufTy
  | .hbm, ⟨0, _⟩ => ⟨S32768x4736, .f32⟩
  | .hbm, ⟨1, _⟩ => ⟨S1x256, .f32⟩
  | .hbm, ⟨2, _⟩ => ⟨S4x128x128, .f32⟩
  | .hbm, ⟨3, _⟩ => ⟨S128x256, .f32⟩
  | .hbm, ⟨4, _⟩ => ⟨S32768x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S4x128x128, .f32⟩
  | .local _ .vmem, ⟨8, _⟩ => ⟨S128x256, .f32⟩
  | .local _ .vmem, ⟨9, _⟩ => ⟨S512x256, .bf16⟩
  | .local _ .vmem, ⟨10, _⟩ => ⟨S512x256, .bf16⟩
  | _, _ => ⟨S32768x4736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x4736 : Shape := ⟨2, ![32768, 4736]⟩
abbrev S1x256 : Shape := ⟨2, ![1, 256]⟩
abbrev S4x128x128 : Shape := ⟨3, ![4, 128, 128]⟩
abbrev S128x256 : Shape := ⟨2, ![128, 256]⟩
abbrev S32768x256 : Shape := ⟨2, ![32768, 256]⟩
abbrev S_ : Shape := ⟨0, ![]⟩
abbrev S32768x4x64 : Shape := ⟨3, ![32768, 4, 64]⟩
abbrev S32768x4 : Shape := ⟨2, ![32768, 4]⟩
abbrev S32768x4x1 : Shape := ⟨3, ![32768, 4, 1]⟩
abbrev S4x64 : Shape := ⟨2, ![4, 64]⟩
abbrev S1x4x64 : Shape := ⟨3, ![1, 4, 64]⟩
abbrev S256x128x4x64 : Shape := ⟨4, ![256, 128, 4, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4x256x64x128 : Shape := ⟨4, ![4, 256, 64, 128]⟩
abbrev S128x4x64 : Shape := ⟨3, ![128, 4, 64]⟩
abbrev S1x128x4x64 : Shape := ⟨4, ![1, 128, 4, 64]⟩

abbrev nBuf : Space → Nat
  | .hbm => 90
  | .vmem => 0
  | .smem => 0
  | _ => 0

abbrev bufTy : (tb : Table) → Fin (tcTables nBuf tb) → BufTy
  | .hbm, ⟨0, _⟩ => ⟨S32768x4736, .f32⟩
  | .hbm, ⟨1, _⟩ => ⟨S1x256, .f32⟩
  | .hbm, ⟨2, _⟩ => ⟨S4x128x128, .f32⟩
  | .hbm, ⟨3, _⟩ => ⟨S128x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S_, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S_, .f32⟩
  | .hbm, ⟨18, _⟩ => ⟨S32768x256, .f32⟩
  | .hbm, ⟨19, _⟩ => ⟨S32768x256, .f32⟩
  | .hbm, ⟨20, _⟩ => ⟨S_, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x4x64, .f32⟩
  | .hbm, ⟨25, _⟩ => ⟨S32768x4x64, .f32⟩
  | .hbm, ⟨26, _⟩ => ⟨S_, .f32⟩
  | .hbm, ⟨27, _⟩ => ⟨S32768x4, .f32⟩
  | .hbm, ⟨28, _⟩ => ⟨S32768x4x1, .f32⟩
  | .hbm, ⟨29, _⟩ => ⟨S_, .f32⟩
  | .hbm, ⟨30, _⟩ => ⟨S32768x4x1, .f32⟩
  | .hbm, ⟨31, _⟩ => ⟨S32768x4x1, .f32⟩
  | .hbm, ⟨32, _⟩ => ⟨S_, .f32⟩
  | .hbm, ⟨33, _⟩ => ⟨S32768x4x1, .f32⟩
  | .hbm, ⟨34, _⟩ => ⟨S32768x4x1, .f32⟩
  | .hbm, ⟨35, _⟩ => ⟨S32768x4x1, .f32⟩
  | .hbm, ⟨36, _⟩ => ⟨S32768x4x64, .f32⟩
  | .hbm, ⟨37, _⟩ => ⟨S32768x4x64, .f32⟩
  | .hbm, ⟨38, _⟩ => ⟨S4x64, .f32⟩
  | .hbm, ⟨39, _⟩ => ⟨S1x4x64, .f32⟩
  | .hbm, ⟨40, _⟩ => ⟨S32768x4x64, .f32⟩
  | .hbm, ⟨41, _⟩ => ⟨S32768x4x64, .f32⟩
  | .hbm, ⟨42, _⟩ => ⟨S256x128x4x64, .f32⟩
  | .hbm, ⟨43, _⟩ => ⟨S128, .i32⟩
  | .hbm, ⟨44, _⟩ => ⟨S1x128, .i32⟩
  | .hbm, ⟨45, _⟩ => ⟨S128x1, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .f32⟩
  | .hbm, ⟨50, _⟩ => ⟨S_, .f32⟩
  | .hbm, ⟨51, _⟩ => ⟨S4x128x128, .i1⟩
  | .hbm, ⟨52, _⟩ => ⟨S4x128x128, .f32⟩
  | .hbm, ⟨53, _⟩ => ⟨S4x128x128, .f32⟩
  | .hbm, ⟨54, _⟩ => ⟨S4x256x64x128, .f32⟩
  | .hbm, ⟨55, _⟩ => ⟨S256x128x4x64, .f32⟩
  | .hbm, ⟨56, _⟩ => ⟨S128x4x64, .f32⟩
  | .hbm, ⟨57, _⟩ => ⟨S1x128x4x64, .f32⟩
  | .hbm, ⟨58, _⟩ => ⟨S256x128x4x64, .f32⟩
  | .hbm, ⟨59, _⟩ => ⟨S256x128x4x64, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S_, .f32⟩
  | .hbm, ⟨67, _⟩ => ⟨S32768x256, .f32⟩
  | .hbm, ⟨68, _⟩ => ⟨S32768x256, .f32⟩
  | .hbm, ⟨69, _⟩ => ⟨S32768x256, .f32⟩
  | .hbm, ⟨70, _⟩ => ⟨S_, .f32⟩
  | .hbm, ⟨71, _⟩ => ⟨S32768x256, .f32⟩
  | .hbm, ⟨72, _⟩ => ⟨S32768x256, .f32⟩
  | .hbm, ⟨73, _⟩ => ⟨S_, .f32⟩
  | .hbm, ⟨74, _⟩ => ⟨S32768x256, .f32⟩
  | .hbm, ⟨75, _⟩ => ⟨S32768x256, .f32⟩
  | .hbm, ⟨76, _⟩ => ⟨S32768x256, .f32⟩
  | .hbm, ⟨77, _⟩ => ⟨S32768x256, .f32⟩
  | .hbm, ⟨78, _⟩ => ⟨S32768x256, .f32⟩
  | .hbm, ⟨79, _⟩ => ⟨S32768x256, .f32⟩
  | .hbm, ⟨80, _⟩ => ⟨S32768x256, .f32⟩
  | .hbm, ⟨81, _⟩ => ⟨S_, .f32⟩
  | .hbm, ⟨82, _⟩ => ⟨S32768x256, .f32⟩
  | .hbm, ⟨83, _⟩ => ⟨S32768x256, .f32⟩
  | .hbm, ⟨84, _⟩ => ⟨S_, .f32⟩
  | .hbm, ⟨85, _⟩ => ⟨S32768x256, .f32⟩
  | .hbm, ⟨86, _⟩ => ⟨S32768x256, .f32⟩
  | .hbm, ⟨87, _⟩ => ⟨S32768x256, .f32⟩
  | .hbm, ⟨88, _⟩ => ⟨S32768x256, .f32⟩
  | .hbm, ⟨89, _⟩ => ⟨S32768x256, .bf16⟩
  | _, _ => ⟨S32768x4736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== Kernel6.lean ====
abbrev S1024x1024 : Shape := ⟨2, ![1024, 1024]⟩
abbrev S1x1024 : Shape := ⟨2, ![1, 1024]⟩
abbrev S1024x512 : Shape := ⟨2, ![1024, 512]⟩
abbrev S1x256 : Shape := ⟨2, ![1, 256]⟩
abbrev S1024x256 : Shape := ⟨2, ![1024, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x512, .bf16⟩
  | .hbm, ⟨3, _⟩ => ⟨S1x256, .f32⟩
  | .hbm, ⟨4, _⟩ => ⟨S1024x256, .bf16⟩
  | .hbm, ⟨5, _⟩ => ⟨S1024x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S1024x1024 : Shape := ⟨2, ![1024, 1024]⟩
abbrev S1x1024 : Shape := ⟨2, ![1, 1024]⟩
abbrev S1024x512 : Shape := ⟨2, ![1024, 512]⟩
abbrev S1x256 : Shape := ⟨2, ![1, 256]⟩
abbrev S_ : Shape := ⟨0, ![]⟩
abbrev S1024 : Shape := ⟨1, ![1024]⟩
abbrev S1024x1 : Shape := ⟨2, ![1024, 1]⟩
abbrev S1024x256 : Shape := ⟨2, ![1024, 256]⟩
abbrev S1024x4x64 : Shape := ⟨3, ![1024, 4, 64]⟩
abbrev S1024x4 : Shape := ⟨2, ![1024, 4]⟩
abbrev S1024x4x1 : Shape := ⟨3, ![1024, 4, 1]⟩
abbrev S4x64 : Shape := ⟨2, ![4, 64]⟩
abbrev S1x4x64 : Shape := ⟨3, ![1, 4, 64]⟩

abbrev nBuf : Space → Nat
  | .hbm => 44
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x512, .bf16⟩
  | .hbm, ⟨3, _⟩ => ⟨S1x256, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S1024x512, .f32⟩
  | .hbm, ⟨21, _⟩ => ⟨S1024x256, .f32⟩
  | .hbm, ⟨22, _⟩ => ⟨S1024x4x64, .f32⟩
  | .hbm, ⟨23, _⟩ => ⟨S1024x4x64, .f32⟩
  | .hbm, ⟨24, _⟩ => ⟨S_, .f32⟩
  | .hbm, ⟨25, _⟩ => ⟨S1024x4, .f32⟩
  | .hbm, ⟨26, _⟩ => ⟨S1024x4x1, .f32⟩
  | .hbm, ⟨27, _⟩ => ⟨S_, .f32⟩
  | .hbm, ⟨28, _⟩ => ⟨S1024x4x1, .f32⟩
  | .hbm, ⟨29, _⟩ => ⟨S1024x4x1, .f32⟩
  | .hbm, ⟨30, _⟩ => ⟨S_, .f32⟩
  | .hbm, ⟨31, _⟩ => ⟨S1024x4x1, .f32⟩
  | .hbm, ⟨32, _⟩ => ⟨S1024x4x1, .f32⟩
  | .hbm, ⟨33, _⟩ => ⟨S1024x4x1, .f32⟩
  | .hbm, ⟨34, _⟩ => ⟨S1024x4x64, .f32⟩
  | .hbm, ⟨35, _⟩ => ⟨S1024x4x64, .f32⟩
  | .hbm, ⟨36, _⟩ => ⟨S4x64, .f32⟩
  | .hbm, ⟨37, _⟩ => ⟨S1x4x64, .f32⟩
  | .hbm, ⟨38, _⟩ => ⟨S1024x4x64, .f32⟩
  | .hbm, ⟨39, _⟩ => ⟨S1024x4x64, .f32⟩
  | .hbm, ⟨40, _⟩ => ⟨S1024x256, .f32⟩
  | .hbm, ⟨41, _⟩ => ⟨S1024x256, .bf16⟩
  | .hbm, ⟨42, _⟩ => ⟨S1024x256, .f32⟩
  | .hbm, ⟨43, _⟩ => ⟨S1024x256, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel7.lean ====
abbrev S1024x4652 : Shape := ⟨2, ![1024, 4652]⟩
abbrev S_ : Shape := ⟨0, ![]⟩
abbrev S1024x4864 : Shape := ⟨2, ![1024, 4864]⟩
abbrev S1024x4736 : Shape := ⟨2, ![1024, 4736]⟩
abbrev S256x4864 : Shape := ⟨2, ![256, 4864]⟩
abbrev S256x4736 : Shape := ⟨2, ![256, 4736]⟩
abbrev S256x256 : Shape := ⟨2, ![256, 256]⟩
abbrev S256x128 : Shape := ⟨2, ![256, 128]⟩

abbrev nBuf : Space → Nat
  | .hbm => 5
  | .vmem => 4
  | .smem => 0
  | _ => 0

abbrev bufTy : (tb : Table) → Fin (tcTables nBuf tb) → BufTy
  | .hbm, ⟨0, _⟩ => ⟨S1024x4652, .f32⟩
  | .hbm, ⟨1, _⟩ => ⟨S_, .i32⟩
  | .hbm, ⟨2, _⟩ => ⟨S_, .f32⟩
  | .hbm, ⟨3, _⟩ => ⟨S1024x4864, .f32⟩
  | .hbm, ⟨4, _⟩ => ⟨S1024x4736, .bf16⟩
  | .local _ .vmem, ⟨0, _⟩ => ⟨S256x4864, .f32⟩
  | .local _ .vmem, ⟨1, _⟩ => ⟨S256x4864, .f32⟩
  | .local _ .vmem, ⟨2, _⟩ => ⟨S256x4736, .bf16⟩
  | .local _ .vmem, ⟨3, _⟩ => ⟨S256x4736, .bf16⟩
  | _, _ => ⟨S1024x4652, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S1024x4652 : Shape := ⟨2, ![1024, 4652]⟩
abbrev S1024x768 : Shape := ⟨2, ![1024, 768]⟩
abbrev S1024x4 : Shape := ⟨2, ![1024, 4]⟩
abbrev S1024x256 : Shape := ⟨2, ![1024, 256]⟩
abbrev S1024x8 : Shape := ⟨2, ![1024, 8]⟩
abbrev S1024x512 : Shape := ⟨2, ![1024, 512]⟩
abbrev S1024x16 : Shape := ⟨2, ![1024, 16]⟩
abbrev S_ : Shape := ⟨0, ![]⟩
abbrev S1024x80 : Shape := ⟨2, ![1024, 80]⟩
abbrev S1024x4736 : Shape := ⟨2, ![1024, 4736]⟩

abbrev nBuf : Space → Nat
  | .hbm => 20
  | .vmem => 0
  | .smem => 0
  | _ => 0

abbrev bufTy : (tb : Table) → Fin (tcTables nBuf tb) → BufTy
  | .hbm, ⟨0, _⟩ => ⟨S1024x4652, .f32⟩
  | .hbm, ⟨1, _⟩ => ⟨S1024x768, .f32⟩
  | .hbm, ⟨2, _⟩ => ⟨S1024x768, .f32⟩
  | .hbm, ⟨3, _⟩ => ⟨S1024x4, .f32⟩
  | .hbm, ⟨4, _⟩ => ⟨S1024x256, .f32⟩
  | .hbm, ⟨5, _⟩ => ⟨S1024x768, .f32⟩
  | .hbm, ⟨6, _⟩ => ⟨S1024x8, .f32⟩
  | .hbm, ⟨7, _⟩ => ⟨S1024x512, .f32⟩
  | .hbm, ⟨8, _⟩ => ⟨S1024x256, .f32⟩
  | .hbm, ⟨9, _⟩ => ⟨S1024x16, .f32⟩
  | .hbm, ⟨10, _⟩ => ⟨S1024x512, .f32⟩
  | .hbm, ⟨11, _⟩ => ⟨S1024x16, .f32⟩
  | .hbm, ⟨12, _⟩ => ⟨S1024x256, .f32⟩
  | .hbm, ⟨13, _⟩ => ⟨S1024x512, .f32⟩
  | .hbm, ⟨14, _⟩ => ⟨S_, .f32⟩
  | .hbm, ⟨15, _⟩ => ⟨S1024x4, .f32⟩
  | .hbm, ⟨16, _⟩ => ⟨S_, .f32⟩
  | .hbm, ⟨17, _⟩ => ⟨S1024x80, .f32⟩
  | .hbm, ⟨18, _⟩ => ⟨S1024x4736, .f32⟩
  | .hbm, ⟨19, _⟩ => ⟨S1024x4736, .bf16⟩
  | _, _ => ⟨S1024x4652, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.Rd.lean ====
module

public import Idealize.ShloMosaic.Lib.Tactic
public import Idealize.ShloMosaic.Lib.WritesUnit
public import Idealize.ShloMosaic.Lib.ValueIdxCore
public import Idealize.ShloMosaic.Lib.Pipeline.Value

@[expose] public section

set_option maxRecDepth 16384

/-! Reads of a two-row scratch buffer that was stored into row by row. -/

noncomputable section

namespace Cert.Fox

open Idealize.ShloMosaic Idealize.ShloMosaic.ValueIdx

variable {sig : RefSig} {κ : Kind} {sp : Space} {e : EltTy} {Val : EltTy → Type}

/-- A load inside the newest stored rectangle reads that store, `g` being where each index lands in it. -/
theorem rd_hit {s : Shape} (v : View sig κ sp s e) (f : v.ty.Contents Val) {off size off' size' : Fin s.rank → ℕ}
    (inb : ∀ a, off a + size a ≤ s.size a) (inb' : ∀ a, off' a + size' a ≤ s.size a)
    (w : (Rect.unit off size inb).shape.Idx → Val e) (L : List (View.Piece Val s e))
    (g : (Rect.unit off' size' inb').shape.Idx → (Rect.unit off size inb).shape.Idx)
    (hg : ∀ j a, off' a + (j a).val = off a + (g j a).val) :
    v.readAt Val (Rect.unit off' size' inb').toLoadRect (v.writes Val f ((⟨Rect.unit off size inb, w⟩ : View.Piece Val s e) :: L))
      = fun j => w (g j) := by
  funext j
  rw [View.readAt_apply]
  refine View.read_writes_cons_unit_of_mem v f inb w L _ (g j) rfl fun a => ?_
  rw [← hg j a]
  show off' a + 1 * (j a).val = _
  rw [Nat.one_mul]

/-- A load that misses the newest stored rectangle on axis `a` reads the earlier stores. -/
theorem rd_miss {s : Shape} (v : View sig κ sp s e) (f : v.ty.Contents Val) {off size off' size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (h : off' a + size' a ≤ off a ∨ off a + size a ≤ off' a) :
    v.readAt Val (Rect.unit off' size' inb').toLoadRect (v.writes Val f ((⟨Rect.unit off size inb, w⟩ : View.Piece Val s e) :: L))
      = v.readAt Val (Rect.unit off' size' inb').toLoadRect (v.writes Val f L) := by
  funext j
  rw [View.readAt_apply, View.readAt_apply]
  refine View.read_writes_cons_unit_of_not_mem v f inb w L _ rfl a ?_
  have hj : (j a).val < size' a := (j a).isLt
  show off' a + 1 * (j a).val < off a ∨ off a + size a ≤ off' a + 1 * (j a).val
  omega

/-- Row 0 of a block of eight equal rows. -/
def row0 {α : Type} {n : ℕ} (w : (⟨3, ![1, 8, n]⟩ : Shape).Idx → α) : (⟨3, ![1, 1, n]⟩ : Shape).Idx → α :=
  fun j => w (ix3 (0 : Fin 1) (0 : Fin 8) (j 2))

section Rows
variable {H n m : ℕ} (v : View sig κ sp (⟨3, ![H, n, m]⟩ : Shape) e) (f : v.ty.Contents Val)
  (L : List (View.Piece Val (⟨3, ![H, n, m]⟩ : Shape) e))

/-- A row group loaded back whole. -/
theorem rd_full (o : Fin 3 → ℕ) (z : Fin 3 → ℕ)
    (inb inb' : ∀ a, o a + z a ≤ (⟨3, ![H, n, m]⟩ : Shape).size a)
    (w : (Rect.unit (s := (⟨3, ![H, n, m]⟩ : Shape)) o z inb).shape.Idx → Val e) :
    v.readAt Val (Rect.unit (s := (⟨3, ![H, n, m]⟩ : Shape)) o z inb').toLoadRect
      (v.writes Val f ((⟨Rect.unit (s := (⟨3, ![H, n, m]⟩ : Shape)) o z inb, w⟩ : View.Piece Val _ e) :: L)) = w :=
  rd_hit v f inb inb' w L (fun j => j) fun _ _ => rfl

/-- A load from another head's row group. -/
theorem rd_other (h h' b b' p q : ℕ) (y z y' z' : ℕ) (hh : h ≠ h')
    (inb : ∀ a, (![h, b, p] : Fin 3 → ℕ) a + (![1, y, z] : Fin 3 → ℕ) a ≤ (⟨3, ![H, n, m]⟩ : Shape).size a)
    (inb' : ∀ a, (![h', b', q] : Fin 3 → ℕ) a + (![1, y', z'] : Fin 3 → ℕ) a ≤ (⟨3, ![H, n, m]⟩ : Shape).size a)
    (w : (Rect.unit (s := (⟨3, ![H, n, m]⟩ : Shape)) ![h, b, p] ![1, y, z] inb).shape.Idx → Val e) :
    v.readAt Val (Rect.unit (s := (⟨3, ![H, n, m]⟩ : Shape)) ![h', b', q] ![1, y', z'] inb').toLoadRect
      (v.writes Val f ((⟨Rect.unit (s := (⟨3, ![H, n, m]⟩ : Shape)) ![h, b, p] ![1, y, z] inb, w⟩ : View.Piece Val _ e) :: L))
      = v.readAt Val (Rect.unit (s := (⟨3, ![H, n, m]⟩ : Shape)) ![h', b', q] ![1, y', z'] inb').toLoadRect (v.writes Val f L) :=
  rd_miss v f inb inb' w L (0 : Fin 3) (by
    show h' + 1 ≤ h ∨ h + 1 ≤ h'
    omega)

/-- The first row of a group of eight stored rows. -/
theorem rd_row (h : ℕ)
    (inb : ∀ a, (![h, 0, 0] : Fin 3 → ℕ) a + (![1, 8, m] : Fin 3 → ℕ) a ≤ (⟨3, ![H, n, m]⟩ : Shape).size a)
    (inb' : ∀ a, (![h, 0, 0] : Fin 3 → ℕ) a + (![1, 1, m] : Fin 3 → ℕ) a ≤ (⟨3, ![H, n, m]⟩ : Shape).size a)
    (w : (Rect.unit (s := (⟨3, ![H, n, m]⟩ : Shape)) ![h, 0, 0] ![1, 8, m] inb).shape.Idx → Val e) :
    v.readAt Val (Rect.unit (s := (⟨3, ![H, n, m]⟩ : Shape)) ![h, 0, 0] ![1, 1, m] inb').toLoadRect
      (v.writes Val f ((⟨Rect.unit (s := (⟨3, ![H, n, m]⟩ : Shape)) ![h, 0, 0] ![1, 8, m] inb, w⟩ : View.Piece Val _ e) :: L))
      = row0 (n := m) w :=
  rd_hit v f inb inb' w L (fun j => ix3 (0 : Fin 1) (0 : Fin 8) (j 2)) fun j a => by
    have h0 : (j 0).val < 1 := (j 0).isLt
    have h1 : (j 1).val < 1 := (j 1).isLt
    match a with
    | 0 => show h + (j 0).val = h + 0; omega
    | 1 => show 0 + (j 1).val = 0 + 0; omega
    | 2 => rfl

/-- A part of one row group: rows from `b`, columns from `p`. -/
theorem rd_sub (h b p y z y' z' : ℕ) (hy : b + y' ≤ y) (hz : p + z' ≤ z)
    (inb : ∀ a, (![h, 0, 0] : Fin 3 → ℕ) a + (![1, y, z] : Fin 3 → ℕ) a ≤ (⟨3, ![H, n, m]⟩ : Shape).size a)
    (inb' : ∀ a, (![h, b, p] : Fin 3 → ℕ) a + (![1, y', z'] : Fin 3 → ℕ) a ≤ (⟨3, ![H, n, m]⟩ : Shape).size a)
    (w : (Rect.unit (s := (⟨3, ![H, n, m]⟩ : Shape)) ![h, 0, 0] ![1, y, z] inb).shape.Idx → Val e) :
    v.readAt Val (Rect.unit (s := (⟨3, ![H, n, m]⟩ : Shape)) ![h, b, p] ![1, y', z'] inb').toLoadRect
      (v.writes Val f ((⟨Rect.unit (s := (⟨3, ![H, n, m]⟩ : Shape)) ![h, 0, 0] ![1, y, z] inb, w⟩ : View.Piece Val _ e) :: L))
      = fun j => w (ix3 (0 : Fin 1) (⟨b + (j 1).val, by have : (j 1).val < y' := (j 1).isLt; omega⟩ : Fin y)
          (⟨p + (j 2).val, by have : (j 2).val < z' := (j 2).isLt; omega⟩ : Fin z)) :=
  rd_hit v f inb inb' w L (fun j => ix3 (0 : Fin 1) (⟨b + (j 1).val, by have : (j 1).val < y' := (j 1).isLt; omega⟩ : Fin y)
          (⟨p + (j 2).val, by have : (j 2).val < z' := (j 2).isLt; omega⟩ : Fin z)) fun j a => by
    have h0 : (j 0).val < 1 := (j 0).isLt
    match a with
    | 0 => show h + (j 0).val = h + 0; omega
    | 1 => show b + (j 1).val = 0 + (b + (j 1).val); omega
    | 2 => show p + (j 2).val = 0 + (p + (j 2).val); omega

/-- A row group loaded whole whose right half was stored after its whole. -/
theorem rd_halves (h y z p : ℕ) (hp : p ≤ z)
    (inb : ∀ a, (![h, 0, p] : Fin 3 → ℕ) a + (![1, y, z - p] : Fin 3 → ℕ) a ≤ (⟨3, ![H, n, m]⟩ : Shape).size a)
    (inb' : ∀ a, (![h, 0, 0] : Fin 3 → ℕ) a + (![1, y, z] : Fin 3 → ℕ) a ≤ (⟨3, ![H, n, m]⟩ : Shape).size a)
    (w : (Rect.unit (s := (⟨3, ![H, n, m]⟩ : Shape)) ![h, 0, p] ![1, y, z - p] inb).shape.Idx → Val e) :
    v.readAt Val (Rect.unit (s := (⟨3, ![H, n, m]⟩ : Shape)) ![h, 0, 0] ![1, y, z] inb').toLoadRect
      (v.writes Val f ((⟨Rect.unit (s := (⟨3, ![H, n, m]⟩ : Shape)) ![h, 0, p] ![1, y, z - p] inb, w⟩ : View.Piece Val _ e) :: L))
      = fun j => if hj : (j 2).val < p then
          v.readAt Val (Rect.unit (s := (⟨3, ![H, n, m]⟩ : Shape)) ![h, 0, 0] ![1, y, z] inb').toLoadRect (v.writes Val f L) j
        else w (ix3 (0 : Fin 1) (j 1) (⟨(j 2).val - p, by have : (j 2).val < z := (j 2).isLt; omega⟩ : Fin (z - p))) := by
  funext j
  have h0 : (j 0).val < 1 := (j 0).isLt
  split
  · next hj =>
    rw [View.readAt_apply, View.readAt_apply]
    refine View.read_writes_cons_unit_of_not_mem v f inb w L _ rfl (2 : Fin 3) (Or.inl ?_)
    show 0 + 1 * (j 2).val < p
    omega
  · next hj =>
    rw [View.readAt_apply]
    refine View.read_writes_cons_unit_of_mem v f inb w L _ _ rfl fun a => ?_
    match a with
    | 0 => show h + 1 * (j 0).val = h + 0; omega
    | 1 => show 0 + 1 * (j 1).val = 0 + (j 1).val; omega
    | 2 => show 0 + 1 * (j 2).val = p + ((j 2).val - p); omega
end Rows

end Cert.Fox
end
-- ==== Proof.KI.Model.lean ====
module

public import proofs.«01_k».proof.Proof.Gen.KernelIdeal.Skeleton
public import proofs.«01_k».proof.Proof.Rd

@[expose] public section

set_option maxRecDepth 16384

/-! What the attention kernel computes, as functions of the blocks it is handed: the running maximum and the running
weighted sum over the key blocks, the two blocks on the diagonal, and the block of the result. -/

noncomputable section

namespace Cert.KernelIdeal.Fox

open Cert.KernelIdeal Cert.KernelIdeal.Gen Cert.Fox
open Idealize.ShloMosaic Idealize.ShloMosaic.TcCoe Idealize.ShloMosaic.ValueIdx

variable {F : FTy → Type} [FloatOps F]

/-- Rows `256 n …` of head `hh`'s keys. -/
def kblk (K : Vec F S8192x256 .bf16) (hh : Fin 2) (n : ℕ) : Vec F S256x128 .bf16 := fun j =>
  K (ix2 (⟨(n * 256 + (j 0).val) % 8192, Nat.mod_lt _ (by decide)⟩ : Fin 8192)
    (⟨hh.val * 128 + (j 1).val, by have : (j 1).val < 128 := (j 1).isLt; omega⟩ : Fin 256))

/-- Columns `256 n …` of head `hh`'s value rows. -/
def vblk (V : Vec F S1x160x8192 .bf16) (hh : Fin 2) (n : ℕ) : Vec F S1x80x256 .bf16 := fun j =>
  V (ix3 (0 : Fin 1) (⟨hh.val * 80 + (j 1).val, by have : (j 1).val < 80 := (j 1).isLt; omega⟩ : Fin 160)
    (⟨(n * 256 + (j 2).val) % 8192, Nat.mod_lt _ (by decide)⟩ : Fin 8192))

/-- Head `hh`'s queries. -/
def qrow (Q : Vec F S1x256x512 .bf16) (hh : Fin 2) : Vec F S1x128x512 .bf16 := fun j =>
  Q (ix3 (0 : Fin 1) (⟨hh.val * 128 + (j 1).val, by have : (j 1).val < 128 := (j 1).isLt; omega⟩ : Fin 256) (j 2))

/-- The right half of head `hh`'s queries. -/
def qright (Q : Vec F S1x256x512 .bf16) (hh : Fin 2) : Vec F S1x128x256 .bf16 := fun j =>
  Q (ix3 (0 : Fin 1) (⟨hh.val * 128 + (j 1).val, by have : (j 1).val < 128 := (j 1).isLt; omega⟩ : Fin 256)
    (⟨256 + (j 2).val, by have : (j 2).val < 256 := (j 2).isLt; omega⟩ : Fin 512))

/-- One head's running maximum and running weighted sum. -/
structure HSt (F : FTy → Type) [FloatOps F] where
  m : Vec F S1x1x512 .f32
  a : Vec F S1x80x512 .f32

/-- The scores of key block `n`. -/
def sc (K : Vec F S8192x256 .bf16) (Q : Vec F S1x256x512 .bf16) (hh : Fin 2) (n : ℕ) : Vec F S1x256x512 .f32 :=
  k0_pay4 (kblk K hh n) (qrow Q hh)

/-- The largest score of key block `n`, query by query. -/
def mx (K : Vec F S8192x256 .bf16) (Q : Vec F S1x256x512 .bf16) (hh : Fin 2) (n : ℕ) : Vec F S1x1x512 .f32 :=
  row0 (k0_pay5 (kblk K hh n) (qrow Q hh))

/-- The state after the key blocks before `n`. -/
def hst (K : Vec F S8192x256 .bf16) (Q : Vec F S1x256x512 .bf16) (V : Vec F S1x160x8192 .bf16) (hh : Fin 2) : ℕ → HSt F
  | 0 => ⟨fun j => k0_pay67 (ix3 hh (0 : Fin 8) (j 2)), fun j => k0_pay68 (ix3 hh (j 1) (j 2))⟩
  | n + 1 =>
    let st := hst K Q V hh n
    ⟨row0 (k0_pay12 (mx K Q hh n) st.m), k0_pay14 (k0_pay13 (sc K Q hh n) (mx K Q hh n) st.m (vblk V hh n) st.a)⟩

/-- The state after the left block of the diagonal, query block `q`. -/
def diag1 (K : Vec F S8192x256 .bf16) (Q : Vec F S1x256x512 .bf16) (V : Vec F S1x160x8192 .bf16) (hh : Fin 2) (q : ℕ) : HSt F :=
  let st := hst K Q V hh (2 * q)
  let r := k0_pay82 (BitVec.ofNat 32 q) (Scalar.muli 2#32 (BitVec.ofNat 32 q)) (sc K Q hh (2 * q))
  ⟨row0 (k0_pay85 r st.m), k0_pay86 r st.m (vblk V hh (2 * q)) st.a⟩

/-- The weighted sums of the right half of the queries after the right block of the diagonal, query block `q`. -/
def diag2 (K : Vec F S8192x256 .bf16) (Q : Vec F S1x256x512 .bf16) (V : Vec F S1x160x8192 .bf16) (hh : Fin 2) (q : ℕ) : Vec F S1x80x256 .f32 :=
  let st := diag1 K Q V hh q
  k0_pay99 (BitVec.ofNat 32 q) (Scalar.muli (Scalar.addi (Scalar.muli 2#32 (BitVec.ofNat 32 q)) 1#32) 256#32)
    (k0_pay76 (kblk K hh (2 * q + 1)) (qright Q hh))
    (fun j => st.m (ix3 (0 : Fin 1) (0 : Fin 1) (⟨256 + (j 2).val, by have : (j 2).val < 256 := (j 2).isLt; omega⟩ : Fin 512)))
    (vblk V hh (2 * q + 1))
    (fun j => st.a (ix3 (0 : Fin 1) (j 1) (⟨256 + (j 2).val, by have : (j 2).val < 256 := (j 2).isLt; omega⟩ : Fin 512)))

/-- One head's weighted sums at the end. -/
def fin (K : Vec F S8192x256 .bf16) (Q : Vec F S1x256x512 .bf16) (V : Vec F S1x160x8192 .bf16) (hh : Fin 2) (q : ℕ) : Vec F S1x80x512 .f32 :=
  fun j => if hj : (j 2).val < 256 then (diag1 K Q V hh q).a j
    else diag2 K Q V hh q (ix3 (0 : Fin 1) (j 1) (⟨(j 2).val - 256, by have : (j 2).val < 512 := (j 2).isLt; omega⟩ : Fin 256))

/-- The block of the result that query block `q` makes. -/
def outBlk (K : Vec F S8192x256 .bf16) (Q : Vec F S1x256x512 .bf16) (V : Vec F S1x160x8192 .bf16) (Z : Vec F S512x128 .f32) (q : ℕ) : Vec F S512x128 .bf16 :=
  k0_pay2 (fin K Q V 0 q) (fin K Q V 0 q) (fin K Q V 1 q) (fin K Q V 1 q) Z

/-! ## The second head's expressions are the first's -/

theorem pay7_eq : k0_pay7 (F := F) = k0_pay4 := rfl
theorem pay20_eq : k0_pay20 (F := F) = k0_pay4 := rfl
theorem pay23_eq : k0_pay23 (F := F) = k0_pay4 := rfl
theorem pay70_eq : k0_pay70 (F := F) = k0_pay4 := rfl
theorem pay73_eq : k0_pay73 (F := F) = k0_pay4 := rfl
theorem pay21_eq : k0_pay21 (F := F) = k0_pay5 := rfl
theorem pay71_eq : k0_pay71 (F := F) = k0_pay5 := rfl
theorem pay74_eq : k0_pay74 (F := F) = k0_pay5 := rfl
theorem pay9_eq (kb : Vec F S256x128 .bf16) (q : Vec F S1x128x512 .bf16) : k0_pay9 (k0_pay8 kb q) = k0_pay5 kb q := rfl
theorem pay25_eq (kb : Vec F S256x128 .bf16) (q : Vec F S1x128x512 .bf16) : k0_pay25 (k0_pay24 kb q) = k0_pay5 kb q := rfl
theorem pay17_eq : k0_pay17 (F := F) = k0_pay12 := rfl
theorem pay28_eq : k0_pay28 (F := F) = k0_pay12 := rfl
theorem pay33_eq : k0_pay33 (F := F) = k0_pay12 := rfl
theorem pay18_eq (s : Vec F S1x256x512 .f32) (x m : Vec F S1x1x512 .f32) (v : Vec F S1x80x256 .bf16) (a : Vec F S1x80x512 .f32) :
    k0_pay18 s x m v a = k0_pay14 (k0_pay13 s x m v a) := rfl
theorem pay30_eq (s : Vec F S1x256x512 .f32) (x m : Vec F S1x1x512 .f32) (v : Vec F S1x80x256 .bf16) (a : Vec F S1x80x512 .f32) :
    k0_pay30 (k0_pay29 s x m v a) = k0_pay14 (k0_pay13 s x m v a) := rfl
theorem pay34_eq (s : Vec F S1x256x512 .f32) (x m : Vec F S1x1x512 .f32) (v : Vec F S1x80x256 .bf16) (a : Vec F S1x80x512 .f32) :
    k0_pay34 s x m v a = k0_pay14 (k0_pay13 s x m v a) := rfl
theorem pay80_eq : k0_pay80 (F := F) = k0_pay76 := rfl
theorem pay93_eq (q : BitVec 32) (b : BitVec 32) (s : Vec F S1x256x512 .f32) (m : Vec F S1x1x512 .f32) :
    k0_pay93 (k0_pay87 s) (k0_pay88 (Scalar.muli b 256#32)) (iota .tc S256x512 32 [1] iota_S256x512_d1_w32) (k0_pay89 q) m
      = k0_pay85 (k0_pay82 q b s) m := rfl
theorem pay94_eq (q : BitVec 32) (b : BitVec 32) (s : Vec F S1x256x512 .f32) (m : Vec F S1x1x512 .f32) (v : Vec F S1x80x256 .bf16) (a : Vec F S1x80x512 .f32) :
    k0_pay94 (k0_pay87 s) (k0_pay88 (Scalar.muli b 256#32)) (iota .tc S256x512 32 [1] iota_S256x512_d1_w32) (k0_pay89 q) m v a
      = k0_pay86 (k0_pay82 q b s) m v a := rfl
theorem pay1_eq (q : BitVec 32) (b : BitVec 32) (s : Vec F S1x256x256 .f32) (m : Vec F S1x1x256 .f32) (v : Vec F S1x80x256 .bf16) (a : Vec F S1x80x256 .f32) :
    k0_pay1 (k0_pay104 q b s m v a) = k0_pay99 q b s m v a := rfl

/-! ## Loads of the operands -/

section Loads
variable {κ : Kind} {sp : Space}

theorem ld_k (v : View sig κ sp S8192x256 .bf16) (f : v.ty.Contents (Elt F)) {off : Fin 2 → ℕ} (hh : Fin 2) (n : ℕ)
    (h : off = ![n * 256, hh.val * 128]) (inb : ∀ a, off a + S256x128.size a ≤ S8192x256.size a) :
    v.readAt (Elt F) (Rect.unit (s := S8192x256) off S256x128.size inb).toLoadRect f = kblk (v.read (Elt F) f) hh n := by
  subst h
  funext j
  rw [View.readAt_apply]
  refine congrArg (v.read (Elt F) f) ?_
  have h0 : n * 256 + 256 ≤ 8192 := inb 0
  have hj : (j 0).val < 256 := (j 0).isLt
  funext a; apply Fin.ext
  match a with
  | 0 => show n * 256 + 1 * (j 0).val = (n * 256 + (j 0).val) % 8192; rw [Nat.mod_eq_of_lt (by omega)]; omega
  | 1 => show hh.val * 128 + 1 * (j 1).val = hh.val * 128 + (j 1).val; omega

theorem ld_v (v : View sig κ sp S1x160x8192 .bf16) (f : v.ty.Contents (Elt F)) {off : Fin 3 → ℕ} (hh : Fin 2) (n : ℕ)
    (h : off = ![0, hh.val * 80, n * 256]) (inb : ∀ a, off a + S1x80x256.size a ≤ S1x160x8192.size a) :
    v.readAt (Elt F) (Rect.unit (s := S1x160x8192) off S1x80x256.size inb).toLoadRect f = vblk (v.read (Elt F) f) hh n := by
  subst h
  funext j
  rw [View.readAt_apply]
  refine congrArg (v.read (Elt F) f) ?_
  have h0 : n * 256 + 256 ≤ 8192 := inb 2
  have hj : (j 2).val < 256 := (j 2).isLt
  have hz : (j 0).val < 1 := (j 0).isLt
  funext a; apply Fin.ext
  match a with
  | 0 => show 0 + 1 * (j 0).val = 0; omega
  | 1 => show hh.val * 80 + 1 * (j 1).val = hh.val * 80 + (j 1).val; omega
  | 2 => show n * 256 + 1 * (j 2).val = (n * 256 + (j 2).val) % 8192; rw [Nat.mod_eq_of_lt (by omega)]; omega

theorem ld_q (v : View sig κ sp S1x256x512 .bf16) (f : v.ty.Contents (Elt F)) {off : Fin 3 → ℕ} (hh : Fin 2)
    (h : off = ![0, hh.val * 128, 0]) (inb : ∀ a, off a + S1x128x512.size a ≤ S1x256x512.size a) :
    v.readAt (Elt F) (Rect.unit (s := S1x256x512) off S1x128x512.size inb).toLoadRect f = qrow (v.read (Elt F) f) hh := by
  subst h
  funext j
  rw [View.readAt_apply]
  refine congrArg (v.read (Elt F) f) ?_
  have hz : (j 0).val < 1 := (j 0).isLt
  funext a; apply Fin.ext
  match a with
  | 0 => show 0 + 1 * (j 0).val = 0; omega
  | 1 => show hh.val * 128 + 1 * (j 1).val = hh.val * 128 + (j 1).val; omega
  | 2 => show 0 + 1 * (j 2).val = (j 2).val; omega

theorem ld_qr (v : View sig κ sp S1x256x512 .bf16) (f : v.ty.Contents (Elt F)) {off : Fin 3 → ℕ} (hh : Fin 2)
    (h : off = ![0, hh.val * 128, 256]) (inb : ∀ a, off a + S1x128x256.size a ≤ S1x256x512.size a) :
    v.readAt (Elt F) (Rect.unit (s := S1x256x512) off S1x128x256.size inb).toLoadRect f = qright (v.read (Elt F) f) hh := by
  subst h
  funext j
  rw [View.readAt_apply]
  refine congrArg (v.read (Elt F) f) ?_
  have hz : (j 0).val < 1 := (j 0).isLt
  funext a; apply Fin.ext
  match a with
  | 0 => show 0 + 1 * (j 0).val = 0; omega
  | 1 => show hh.val * 128 + 1 * (j 1).val = hh.val * 128 + (j 1).val; omega
  | 2 => show 256 + 1 * (j 2).val = 256 + (j 2).val; omega

/-! ## Offsets of the loads -/

theorem trips_eq (i : grid0.Coords) : (k0_t1_loop i).trips = (i 2).val := by
  have h : ∀ n : Fin 16, (k0_t1_loop (fun | 0 => (0 : Fin 4) | 1 => (0 : Fin 2) | 2 => n)).trips = n.val := by decide +kernel
  exact h (i 2)

theorem trips_le (i : grid0.Coords) (k : Fin (k0_t1_loop i).trips) : k.val < 16 := by
  have h1 := k.isLt
  have h2 := trips_eq i
  have h3 : (i 2).val < 16 := (i 2).isLt
  omega

theorem w_even : ∀ n : Fin 16, (Scalar.muli (Scalar.muli 2#32 (Scf.iv 0#32 1#32 n.val)) 256#32).toNat = 2 * n.val * 256 := by decide +kernel
theorem w_odd : ∀ n : Fin 16, (Scalar.muli (Scalar.addi (Scalar.muli 2#32 (Scf.iv 0#32 1#32 n.val)) 1#32) 256#32).toNat = (2 * n.val + 1) * 256 := by decide +kernel
theorem w_next : ∀ n : Fin 16, (Scalar.muli (Scalar.addi (Scalar.muli 2#32 (Scf.iv 0#32 1#32 n.val)) 2#32) 256#32).toNat = (2 * n.val + 2) * 256 := by decide +kernel
theorem w_ev : ∀ n : Fin 16, (Scalar.muli (Scalar.muli 2#32 (BitVec.ofNat 32 n.val)) 256#32).toNat = 2 * n.val * 256 := by decide +kernel
theorem w_od : ∀ n : Fin 16, (Scalar.muli (Scalar.addi (Scalar.muli 2#32 (BitVec.ofNat 32 n.val)) 1#32) 256#32).toNat = (2 * n.val + 1) * 256 := by decide +kernel

section Off
variable (i : grid0.Coords) (k : Fin (k0_t1_loop i).trips)
theorem off1_eq : k0_off1 i k 1#32 = ![(2 * k.val + 1) * 256, 0] := by
  have h := w_odd ⟨k.val, trips_le i k⟩
  exact congrArg (fun t => ![t, 0]) h
theorem off1b_eq : k0_off1 i k 2#32 = ![(2 * k.val + 2) * 256, 0] := by
  have h := w_next ⟨k.val, trips_le i k⟩
  exact congrArg (fun t => ![t, 0]) h
theorem off2_eq : k0_off2 i k 1#32 = ![(2 * k.val + 1) * 256, 128] := by
  have h := w_odd ⟨k.val, trips_le i k⟩
  exact congrArg (fun t => ![t, 128]) h
theorem off2b_eq : k0_off2 i k 2#32 = ![(2 * k.val + 2) * 256, 128] := by
  have h := w_next ⟨k.val, trips_le i k⟩
  exact congrArg (fun t => ![t, 128]) h
theorem off3_eq : k0_off3 i k = ![0, 0, 2 * k.val * 256] := by
  have h := w_even ⟨k.val, trips_le i k⟩
  exact congrArg (fun t => ![0, 0, t]) h
theorem off4_eq : k0_off4 i k = ![0, 80, 2 * k.val * 256] := by
  have h := w_even ⟨k.val, trips_le i k⟩
  exact congrArg (fun t => ![0, 80, t]) h
theorem off5_eq : k0_off5 i k = ![0, 0, (2 * k.val + 1) * 256] := by
  have h := w_odd ⟨k.val, trips_le i k⟩
  exact congrArg (fun t => ![0, 0, t]) h
theorem off6_eq : k0_off6 i k = ![0, 80, (2 * k.val + 1) * 256] := by
  have h := w_odd ⟨k.val, trips_le i k⟩
  exact congrArg (fun t => ![0, 80, t]) h
theorem off13_eq : k0_off13 i = ![(2 * (i 2).val + 1) * 256, 0] := by
  have h := w_od (i 2)
  exact congrArg (fun t => ![t, 0]) h
theorem off14_eq : k0_off14 i = ![(2 * (i 2).val + 1) * 256, 128] := by
  have h := w_od (i 2)
  exact congrArg (fun t => ![t, 128]) h
theorem off15_eq : k0_off15 i = ![0, 0, 2 * (i 2).val * 256] := by
  have h := w_ev (i 2)
  exact congrArg (fun t => ![0, 0, t]) h
theorem off16_eq : k0_off16 i = ![0, 80, 2 * (i 2).val * 256] := by
  have h := w_ev (i 2)
  exact congrArg (fun t => ![0, 80, t]) h
theorem off17_eq : k0_off17 i = ![0, 0, (2 * (i 2).val + 1) * 256] := by
  have h := w_od (i 2)
  exact congrArg (fun t => ![0, 0, t]) h
theorem off18_eq : k0_off18 i = ![0, 80, (2 * (i 2).val + 1) * 256] := by
  have h := w_od (i 2)
  exact congrArg (fun t => ![0, 80, t]) h

end Off

end Loads

end Cert.KernelIdeal.Fox
end
-- ==== Proof.KI.Trip.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import proofs.«01_k».proof.Proof.KI.Model

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
abbrev 𝒱₀ : Variants := Variants.none

/-- The whole memref held at contents `f`. -/
abbrev own (c : Dev nD) {sp : Space} {S : Shape} {d : EltTy} (a : Memref sig .tc sp S d)
    (f : Buf (Elt F) (a.view.loc (c : Thread nD τ))) : sProp 𝕄 :=
  a.view.loc (c : Thread nD τ) ↦[a.view.set]{fullShare} f

/-- The contents of the six scratch buffers. -/
structure St (c : Dev nD) (arg8 : Memref sig .tc .vmem S2x8x512 .f32) (arg9 : Memref sig .tc .vmem S2x80x512 .f32) (arg10 : Memref sig .tc .vmem S2x256x512 .f32) (arg11 : Memref sig .tc .vmem S2x256x512 .f32) (arg12 : Memref sig .tc .vmem S2x8x512 .f32) (arg13 : Memref sig .tc .vmem S2x8x512 .f32) where
  b8 : Buf (Elt F) (arg8.view.loc (c : Thread nD τ))
  b9 : Buf (Elt F) (arg9.view.loc (c : Thread nD τ))
  b10 : Buf (Elt F) (arg10.view.loc (c : Thread nD τ))
  b11 : Buf (Elt F) (arg11.view.loc (c : Thread nD τ))
  b12 : Buf (Elt F) (arg12.view.loc (c : Thread nD τ))
  b13 : Buf (Elt F) (arg13.view.loc (c : Thread nD τ))

section Trip
variable (c : Dev nD) (i : grid0.Coords) (arg3 : Memref sig .tc .vmem S1x256x512 .bf16) (harg3 : arg3.IsWhole) (arg4 : Memref sig .tc .vmem S8192x256 .bf16) (harg4 : arg4.IsWhole) (arg5 : Memref sig .tc .vmem S1x160x8192 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2x8x512 .f32) (harg8 : arg8.IsWhole) (arg9 : Memref sig .tc .vmem S2x80x512 .f32) (harg9 : arg9.IsWhole) (arg10 : Memref sig .tc .vmem S2x256x512 .f32) (harg10 : arg10.IsWhole) (arg11 : Memref sig .tc .vmem S2x256x512 .f32) (harg11 : arg11.IsWhole) (arg12 : Memref sig .tc .vmem S2x8x512 .f32) (harg12 : arg12.IsWhole) (arg13 : Memref sig .tc .vmem S2x8x512 .f32) (harg13 : arg13.IsWhole) (arg2 : BitVec 32) (v8 : BitVec 32) (v26 : Vec F S256x128 .bf16)

/-- What the body holds: the three arrays it reads and the six scratch buffers. -/
abbrev held (f3 : Buf (Elt F) (arg3.view.loc (c : Thread nD τ))) (f4 : Buf (Elt F) (arg4.view.loc (c : Thread nD τ)))
  (f5 : Buf (Elt F) (arg5.view.loc (c : Thread nD τ))) (s : St (F := F) c arg8 arg9 arg10 arg11 arg12 arg13) : sProp 𝕄 :=
  iprop(own c arg3 f3 ∗ own c arg4 f4 ∗ own c arg5 f5 ∗ own c arg8 s.b8 ∗ own c arg9 s.b9 ∗ own c arg10 s.b10
   ∗ own c arg11 s.b11 ∗ own c arg12 s.b12 ∗ own c arg13 s.b13)

variable (f3 : Buf (Elt F) (arg3.view.loc (c : Thread nD τ))) (f4 : Buf (Elt F) (arg4.view.loc (c : Thread nD τ)))
  (f5 : Buf (Elt F) (arg5.view.loc (c : Thread nD τ)))

set_option backward.proofsInPublic true in
set_option maxHeartbeats 1600000 in
/-- One trip of the loop at a symbolic `k`: the contents it leaves in the scratch buffers, found by running it. -/
def tripRun (k : Fin (k0_t1_loop i).trips) (s : St (F := F) c arg8 arg9 arg10 arg11 arg12 arg13) :
  { g : St (F := F) c arg8 arg9 arg10 arg11 arg12 arg13 //
   held c arg3 arg4 arg5 arg8 arg9 arg10 arg11 arg12 arg13 f3 f4 f5 s
   ⊢ wp Idealize.ShloMosaic.frame (wpE (defs₀ (F := F)) 𝒱₀ (c : Thread nD τ) none) Set.univ
     (k0_t1_body (F := F) i arg3 harg3 arg4 harg4 arg5 harg5 arg6 harg6 arg7 harg7 arg8 harg8 arg9 harg9 arg10 harg10 arg11 harg11 arg12 harg12 arg13 harg13 arg2 v8 v26 k ())
     (fun _ => held c arg3 arg4 arg5 arg8 arg9 arg10 arg11 arg12 arg13 f3 f4 f5 g) } := by
  refine ⟨⟨?_, ?_, ?_, ?_, ?_, ?_⟩, ?run⟩
  case run =>
    iintro ⟨H3, H4, H5, H8, H9, H10, H11, H12, H13⟩
    sl_unfold [k0_t1_body]
    sl_exec
    sl_step
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    iexact H13

/-- The contents of the scratch buffers before trip `k`, from their contents at the loop's entry. -/
def accSt (s : St (F := F) c arg8 arg9 arg10 arg11 arg12 arg13) : ℕ → St (F := F) c arg8 arg9 arg10 arg11 arg12 arg13
  | 0 => s
  | k + 1 => if h : k < (k0_t1_loop i).trips then
      (tripRun c i arg3 harg3 arg4 harg4 arg5 harg5 arg6 harg6 arg7 harg7 arg8 harg8 arg9 harg9 arg10 harg10 arg11 harg11 arg12 harg12 arg13 harg13 arg2 v8 v26 f3 f4 f5 ⟨k, h⟩ (accSt s k)).1
    else accSt s k

section Loop1
variable (f8 : Buf (Elt F) (arg8.view.loc (c : Thread nD τ))) (f9 : Buf (Elt F) (arg9.view.loc (c : Thread nD τ)))
    (f10 : Buf (Elt F) (arg10.view.loc (c : Thread nD τ))) (f11 : Buf (Elt F) (arg11.view.loc (c : Thread nD τ)))
    (f12 : Buf (Elt F) (arg12.view.loc (c : Thread nD τ))) (f13 : Buf (Elt F) (arg13.view.loc (c : Thread nD τ)))

/-- What scratch buffer 0 holds before trip `k`. -/
def acc8 (k : ℕ) : Buf (Elt F) (arg8.view.loc (c : Thread nD τ)) :=
  match k with
  | 0 => f8
  | k + 1 => (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k + 1)).b8
/-- What scratch buffer 1 holds before trip `k`. -/
def acc9 (k : ℕ) : Buf (Elt F) (arg9.view.loc (c : Thread nD τ)) :=
  match k with
  | 0 => f9
  | k + 1 => (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k + 1)).b9
/-- What scratch buffer 2 holds before trip `k`. -/
def acc10 (k : ℕ) : Buf (Elt F) (arg10.view.loc (c : Thread nD τ)) :=
  match k with
  | 0 => f10
  | k + 1 => (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k + 1)).b10
/-- What scratch buffer 3 holds before trip `k`. -/
def acc11 (k : ℕ) : Buf (Elt F) (arg11.view.loc (c : Thread nD τ)) :=
  match k with
  | 0 => f11
  | k + 1 => (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k + 1)).b11
/-- What scratch buffer 4 holds before trip `k`. -/
def acc12 (k : ℕ) : Buf (Elt F) (arg12.view.loc (c : Thread nD τ)) :=
  match k with
  | 0 => f12
  | k + 1 => (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k + 1)).b12
/-- What scratch buffer 5 holds before trip `k`. -/
def acc13 (k : ℕ) : Buf (Elt F) (arg13.view.loc (c : Thread nD τ)) :=
  match k with
  | 0 => f13
  | k + 1 => (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k + 1)).b13

/-- What the body holds before trip `k`, buffer by buffer. -/
abbrev heldAt (k : ℕ) : sProp 𝕄 :=
  iprop(own c arg3 f3 ∗ own c arg4 f4 ∗ own c arg5 f5
    ∗ own c arg8 (acc8 c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k)
    ∗ own c arg9 (acc9 c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k)
    ∗ own c arg10 (acc10 c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k)
    ∗ own c arg11 (acc11 c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k)
    ∗ own c arg12 (acc12 c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k)
    ∗ own c arg13 (acc13 c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k))

theorem heldAt_eq (k : ℕ) : heldAt c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k
    = held c arg3 arg4 arg5 arg8 arg9 arg10 arg11 arg12 arg13 f3 f4 f5
      (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ k) := by
  cases k <;> rfl

set_option warn.classDefReducibility false in
/-- The invariant of the loop over pairs of key blocks. -/
@[sl_loop] def loopInv1 :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg2 v8 v26 where
  inv k _ := heldAt c i arg3 harg3 arg4 harg4 arg5 harg5 arg6 harg6 arg7 harg7 arg8 harg8 arg9 harg9 arg10 harg10 arg11 harg11 arg12 harg12 arg13 harg13 arg2 v8 v26 f3 f4 f5 f8 f9 f10 f11 f12 f13 k
  step k _ := by
    have e : accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ (k.val + 1)
        = (tripRun c i arg3 harg3 arg4 harg4 arg5 harg5 arg6 harg6 arg7 harg7 arg8 harg8 arg9 harg9 arg10 harg10 arg11 harg11 arg12 harg12 arg13 harg13 arg2 v8 v26 f3 f4 f5 k (accSt c i arg3 harg3 arg4 harg4 arg5 harg5 arg6 harg6 arg7 harg7 arg8 harg8 arg9 harg9 arg10 harg10 arg11 harg11 arg12 harg12 arg13 harg13 arg2 v8 v26 f3 f4 f5 ⟨f8, f9, f10, f11, f12, f13⟩ k.val)).1 := by
      rw [accSt, dif_pos k.isLt]
    rw [heldAt_eq, heldAt_eq, e]
    exact (tripRun c i arg3 harg3 arg4 harg4 arg5 harg5 arg6 harg6 arg7 harg7 arg8 harg8 arg9 harg9 arg10 harg10 arg11 harg11 arg12 harg12 arg13 harg13 arg2 v8 v26 f3 f4 f5 k _).2
end Loop1

/-- The remainder loop runs no trip. -/
theorem trips2_eq : (k0_t2_loop i).trips = 0 := by
  have : ∀ n : Fin 16, (k0_t2_loop (fun | 0 => (0 : Fin 4) | 1 => (0 : Fin 2) | 2 => n)).trips = 0 := by decide +kernel
  exact this (i 2)

set_option warn.classDefReducibility false in
/-- The invariant of the remainder loop, which runs no trip. -/
@[sl_loop] def loopInv2 (v44 : BitVec 32) :
    LoopInvTy_k0_t2 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg2 v8 v26 v44 where
  inv k _ := iprop(emp)
  step k _ := (Nat.not_lt_zero _ (Nat.lt_of_lt_of_eq k.isLt (trips2_eq i))).elim

end Trip

section Body
variable (c : Dev nD) (i : grid0.Coords) (arg3 : Memref sig .tc .vmem S1x256x512 .bf16) (harg3 : arg3.IsWhole) (arg4 : Memref sig .tc .vmem S8192x256 .bf16) (harg4 : arg4.IsWhole) (arg5 : Memref sig .tc .vmem S1x160x8192 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2x8x512 .f32) (harg8 : arg8.IsWhole) (arg9 : Memref sig .tc .vmem S2x80x512 .f32) (harg9 : arg9.IsWhole) (arg10 : Memref sig .tc .vmem S2x256x512 .f32) (harg10 : arg10.IsWhole) (arg11 : Memref sig .tc .vmem S2x256x512 .f32) (harg11 : arg11.IsWhole) (arg12 : Memref sig .tc .vmem S2x8x512 .f32) (harg12 : arg12.IsWhole) (arg13 : Memref sig .tc .vmem S2x8x512 .f32) (harg13 : arg13.IsWhole)
variable (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

set_option backward.proofsInPublic true in
set_option maxHeartbeats 4000000 in
/-- The body: the block it leaves in the output buffer, found by running it. -/
def bodyRun (f7 : Buf (Elt F) (arg7.view.loc (c : Thread nD τ))) (s : St (F := F) c arg8 arg9 arg10 arg11 arg12 arg13) :
  { g : Buf (Elt F) (arg7.view.loc (c : Thread nD τ)) //
   (iprop(own c arg6 f6 ∗ own c arg7 f7 ∗ held c arg3 arg4 arg5 arg8 arg9 arg10 arg11 arg12 arg13 f3 f4 f5 s) : sProp 𝕄)
   ⊢ wp Idealize.ShloMosaic.frame (wpE (defs₀ (F := F)) 𝒱₀ (c : Thread nD τ) none) Set.univ
     (cc0_fox (F := F) i arg3 harg3 arg4 harg4 arg5 harg5 arg6 harg6 arg7 harg7 arg8 harg8 arg9 harg9 arg10 harg10 arg11 harg11 arg12 harg12 arg13 harg13)
     (fun _ => iprop(own c arg6 f6 ∗ own c arg7 g ∗ ∃ s, held c arg3 arg4 arg5 arg8 arg9 arg10 arg11 arg12 arg13 f3 f4 f5 s)) } := by
  refine ⟨?_, ?run⟩
  case run =>
    have htr := trips2_eq i
    iintro ⟨H6, H7, H3, H4, H5, H8, H9, H10, H11, H12, H13⟩
    sl_exec
    sl_step
    isplitl [H6]; · iexact H6
    isplitl [H7]; · iexact H7
    iexists ⟨_, _, _, _, _, _⟩
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    iexact H13

end Body
end Cert.KernelIdeal.Fox
end
-- ==== Proof.KI.State.lean ====
module

public import proofs.«01_k».proof.Proof.KI.Trip

@[expose] public section

set_option maxRecDepth 16384

/-! What the run of the kernel's body leaves, in the words of `Model`. -/

noncomputable section

namespace Cert.KernelIdeal.Fox

open Cert.KernelIdeal Cert.KernelIdeal.Gen Cert.Fox
open Idealize.ShloMosaic Idealize.ShloMosaic.TcCoe Idealize.ShloMosaic.ValueIdx
open Idealize.SL Idealize.SL.Sem

variable {F : FTy → Type} [FloatOps F]

section Reads
variable {sig : RefSig} {κ : Kind} {sp : Space}

theorem row8_0 (v : View sig κ sp S2x8x512 .f32) (f : v.ty.Contents (Elt F)) (L : List (View.Piece (Elt F) S2x8x512 .f32))
    (inb : ∀ a, (![0, 0, 0] : Fin 3 → ℕ) a + (![1, 8, 512] : Fin 3 → ℕ) a ≤ S2x8x512.size a) (inb' : ∀ a, (![0, 0, 0] : Fin 3 → ℕ) a + (![1, 1, 512] : Fin 3 → ℕ) a ≤ S2x8x512.size a)
    (w : (Rect.unit (s := S2x8x512) ![0, 0, 0] ![1, 8, 512] inb).shape.Idx → Elt F .f32) :
    v.readAt (Elt F) (Rect.unit (s := S2x8x512) ![0, 0, 0] ![1, 1, 512] inb').toLoadRect (v.writes (Elt F) f ((⟨Rect.unit (s := S2x8x512) ![0, 0, 0] ![1, 8, 512] inb, w⟩ : View.Piece (Elt F) S2x8x512 .f32) :: L))
      = row0 (n := 512) w := rd_row v f L 0 inb inb' w
theorem oth8_0 (v : View sig κ sp S2x8x512 .f32) (f : v.ty.Contents (Elt F)) (L : List (View.Piece (Elt F) S2x8x512 .f32))
    (inb : ∀ a, (![0, 0, 0] : Fin 3 → ℕ) a + (![1, 8, 512] : Fin 3 → ℕ) a ≤ S2x8x512.size a) (inb' : ∀ a, (![1, 0, 0] : Fin 3 → ℕ) a + (![1, 1, 512] : Fin 3 → ℕ) a ≤ S2x8x512.size a)
    (w : (Rect.unit (s := S2x8x512) ![0, 0, 0] ![1, 8, 512] inb).shape.Idx → Elt F .f32) :
    v.readAt (Elt F) (Rect.unit (s := S2x8x512) ![1, 0, 0] ![1, 1, 512] inb').toLoadRect (v.writes (Elt F) f ((⟨Rect.unit (s := S2x8x512) ![0, 0, 0] ![1, 8, 512] inb, w⟩ : View.Piece (Elt F) S2x8x512 .f32) :: L))
      = v.readAt (Elt F) (Rect.unit (s := S2x8x512) ![1, 0, 0] ![1, 1, 512] inb').toLoadRect (v.writes (Elt F) f L) := rd_other v f L 0 1 0 0 0 0 8 512 1 512 (by decide) inb inb' w
theorem full80_0 (v : View sig κ sp S2x80x512 .f32) (f : v.ty.Contents (Elt F)) (L : List (View.Piece (Elt F) S2x80x512 .f32))
    (inb : ∀ a, (![0, 0, 0] : Fin 3 → ℕ) a + (![1, 80, 512] : Fin 3 → ℕ) a ≤ S2x80x512.size a) (inb' : ∀ a, (![0, 0, 0] : Fin 3 → ℕ) a + (![1, 80, 512] : Fin 3 → ℕ) a ≤ S2x80x512.size a)
    (w : (Rect.unit (s := S2x80x512) ![0, 0, 0] ![1, 80, 512] inb).shape.Idx → Elt F .f32) :
    v.readAt (Elt F) (Rect.unit (s := S2x80x512) ![0, 0, 0] ![1, 80, 512] inb').toLoadRect (v.writes (Elt F) f ((⟨Rect.unit (s := S2x80x512) ![0, 0, 0] ![1, 80, 512] inb, w⟩ : View.Piece (Elt F) S2x80x512 .f32) :: L))
      = w := rd_full v f L ![0, 0, 0] S1x80x512.size inb inb' w
theorem oth80_0 (v : View sig κ sp S2x80x512 .f32) (f : v.ty.Contents (Elt F)) (L : List (View.Piece (Elt F) S2x80x512 .f32))
    (inb : ∀ a, (![0, 0, 0] : Fin 3 → ℕ) a + (![1, 80, 512] : Fin 3 → ℕ) a ≤ S2x80x512.size a) (inb' : ∀ a, (![1, 0, 0] : Fin 3 → ℕ) a + (![1, 80, 512] : Fin 3 → ℕ) a ≤ S2x80x512.size a)
    (w : (Rect.unit (s := S2x80x512) ![0, 0, 0] ![1, 80, 512] inb).shape.Idx → Elt F .f32) :
    v.readAt (Elt F) (Rect.unit (s := S2x80x512) ![1, 0, 0] ![1, 80, 512] inb').toLoadRect (v.writes (Elt F) f ((⟨Rect.unit (s := S2x80x512) ![0, 0, 0] ![1, 80, 512] inb, w⟩ : View.Piece (Elt F) S2x80x512 .f32) :: L))
      = v.readAt (Elt F) (Rect.unit (s := S2x80x512) ![1, 0, 0] ![1, 80, 512] inb').toLoadRect (v.writes (Elt F) f L) := rd_other v f L 0 1 0 0 0 0 80 512 80 512 (by decide) inb inb' w
theorem full256_0 (v : View sig κ sp S2x256x512 .f32) (f : v.ty.Contents (Elt F)) (L : List (View.Piece (Elt F) S2x256x512 .f32))
    (inb : ∀ a, (![0, 0, 0] : Fin 3 → ℕ) a + (![1, 256, 512] : Fin 3 → ℕ) a ≤ S2x256x512.size a) (inb' : ∀ a, (![0, 0, 0] : Fin 3 → ℕ) a + (![1, 256, 512] : Fin 3 → ℕ) a ≤ S2x256x512.size a)
    (w : (Rect.unit (s := S2x256x512) ![0, 0, 0] ![1, 256, 512] inb).shape.Idx → Elt F .f32) :
    v.readAt (Elt F) (Rect.unit (s := S2x256x512) ![0, 0, 0] ![1, 256, 512] inb').toLoadRect (v.writes (Elt F) f ((⟨Rect.unit (s := S2x256x512) ![0, 0, 0] ![1, 256, 512] inb, w⟩ : View.Piece (Elt F) S2x256x512 .f32) :: L))
      = w := rd_full v f L ![0, 0, 0] S1x256x512.size inb inb' w
theorem oth256_0 (v : View sig κ sp S2x256x512 .f32) (f : v.ty.Contents (Elt F)) (L : List (View.Piece (Elt F) S2x256x512 .f32))
    (inb : ∀ a, (![0, 0, 0] : Fin 3 → ℕ) a + (![1, 256, 512] : Fin 3 → ℕ) a ≤ S2x256x512.size a) (inb' : ∀ a, (![1, 0, 0] : Fin 3 → ℕ) a + (![1, 256, 512] : Fin 3 → ℕ) a ≤ S2x256x512.size a)
    (w : (Rect.unit (s := S2x256x512) ![0, 0, 0] ![1, 256, 512] inb).shape.Idx → Elt F .f32) :
    v.readAt (Elt F) (Rect.unit (s := S2x256x512) ![1, 0, 0] ![1, 256, 512] inb').toLoadRect (v.writes (Elt F) f ((⟨Rect.unit (s := S2x256x512) ![0, 0, 0] ![1, 256, 512] inb, w⟩ : View.Piece (Elt F) S2x256x512 .f32) :: L))
      = v.readAt (Elt F) (Rect.unit (s := S2x256x512) ![1, 0, 0] ![1, 256, 512] inb').toLoadRect (v.writes (Elt F) f L) := rd_other v f L 0 1 0 0 0 0 256 512 256 512 (by decide) inb inb' w
theorem row8_1 (v : View sig κ sp S2x8x512 .f32) (f : v.ty.Contents (Elt F)) (L : List (View.Piece (Elt F) S2x8x512 .f32))
    (inb : ∀ a, (![1, 0, 0] : Fin 3 → ℕ) a + (![1, 8, 512] : Fin 3 → ℕ) a ≤ S2x8x512.size a) (inb' : ∀ a, (![1, 0, 0] : Fin 3 → ℕ) a + (![1, 1, 512] : Fin 3 → ℕ) a ≤ S2x8x512.size a)
    (w : (Rect.unit (s := S2x8x512) ![1, 0, 0] ![1, 8, 512] inb).shape.Idx → Elt F .f32) :
    v.readAt (Elt F) (Rect.unit (s := S2x8x512) ![1, 0, 0] ![1, 1, 512] inb').toLoadRect (v.writes (Elt F) f ((⟨Rect.unit (s := S2x8x512) ![1, 0, 0] ![1, 8, 512] inb, w⟩ : View.Piece (Elt F) S2x8x512 .f32) :: L))
      = row0 (n := 512) w := rd_row v f L 1 inb inb' w
theorem oth8_1 (v : View sig κ sp S2x8x512 .f32) (f : v.ty.Contents (Elt F)) (L : List (View.Piece (Elt F) S2x8x512 .f32))
    (inb : ∀ a, (![1, 0, 0] : Fin 3 → ℕ) a + (![1, 8, 512] : Fin 3 → ℕ) a ≤ S2x8x512.size a) (inb' : ∀ a, (![0, 0, 0] : Fin 3 → ℕ) a + (![1, 1, 512] : Fin 3 → ℕ) a ≤ S2x8x512.size a)
    (w : (Rect.unit (s := S2x8x512) ![1, 0, 0] ![1, 8, 512] inb).shape.Idx → Elt F .f32) :
    v.readAt (Elt F) (Rect.unit (s := S2x8x512) ![0, 0, 0] ![1, 1, 512] inb').toLoadRect (v.writes (Elt F) f ((⟨Rect.unit (s := S2x8x512) ![1, 0, 0] ![1, 8, 512] inb, w⟩ : View.Piece (Elt F) S2x8x512 .f32) :: L))
      = v.readAt (Elt F) (Rect.unit (s := S2x8x512) ![0, 0, 0] ![1, 1, 512] inb').toLoadRect (v.writes (Elt F) f L) := rd_other v f L 1 0 0 0 0 0 8 512 1 512 (by decide) inb inb' w
theorem full80_1 (v : View sig κ sp S2x80x512 .f32) (f : v.ty.Contents (Elt F)) (L : List (View.Piece (Elt F) S2x80x512 .f32))
    (inb : ∀ a, (![1, 0, 0] : Fin 3 → ℕ) a + (![1, 80, 512] : Fin 3 → ℕ) a ≤ S2x80x512.size a) (inb' : ∀ a, (![1, 0, 0] : Fin 3 → ℕ) a + (![1, 80, 512] : Fin 3 → ℕ) a ≤ S2x80x512.size a)
    (w : (Rect.unit (s := S2x80x512) ![1, 0, 0] ![1, 80, 512] inb).shape.Idx → Elt F .f32) :
    v.readAt (Elt F) (Rect.unit (s := S2x80x512) ![1, 0, 0] ![1, 80, 512] inb').toLoadRect (v.writes (Elt F) f ((⟨Rect.unit (s := S2x80x512) ![1, 0, 0] ![1, 80, 512] inb, w⟩ : View.Piece (Elt F) S2x80x512 .f32) :: L))
      = w := rd_full v f L ![1, 0, 0] S1x80x512.size inb inb' w
theorem oth80_1 (v : View sig κ sp S2x80x512 .f32) (f : v.ty.Contents (Elt F)) (L : List (View.Piece (Elt F) S2x80x512 .f32))
    (inb : ∀ a, (![1, 0, 0] : Fin 3 → ℕ) a + (![1, 80, 512] : Fin 3 → ℕ) a ≤ S2x80x512.size a) (inb' : ∀ a, (![0, 0, 0] : Fin 3 → ℕ) a + (![1, 80, 512] : Fin 3 → ℕ) a ≤ S2x80x512.size a)
    (w : (Rect.unit (s := S2x80x512) ![1, 0, 0] ![1, 80, 512] inb).shape.Idx → Elt F .f32) :
    v.readAt (Elt F) (Rect.unit (s := S2x80x512) ![0, 0, 0] ![1, 80, 512] inb').toLoadRect (v.writes (Elt F) f ((⟨Rect.unit (s := S2x80x512) ![1, 0, 0] ![1, 80, 512] inb, w⟩ : View.Piece (Elt F) S2x80x512 .f32) :: L))
      = v.readAt (Elt F) (Rect.unit (s := S2x80x512) ![0, 0, 0] ![1, 80, 512] inb').toLoadRect (v.writes (Elt F) f L) := rd_other v f L 1 0 0 0 0 0 80 512 80 512 (by decide) inb inb' w
theorem full256_1 (v : View sig κ sp S2x256x512 .f32) (f : v.ty.Contents (Elt F)) (L : List (View.Piece (Elt F) S2x256x512 .f32))
    (inb : ∀ a, (![1, 0, 0] : Fin 3 → ℕ) a + (![1, 256, 512] : Fin 3 → ℕ) a ≤ S2x256x512.size a) (inb' : ∀ a, (![1, 0, 0] : Fin 3 → ℕ) a + (![1, 256, 512] : Fin 3 → ℕ) a ≤ S2x256x512.size a)
    (w : (Rect.unit (s := S2x256x512) ![1, 0, 0] ![1, 256, 512] inb).shape.Idx → Elt F .f32) :
    v.readAt (Elt F) (Rect.unit (s := S2x256x512) ![1, 0, 0] ![1, 256, 512] inb').toLoadRect (v.writes (Elt F) f ((⟨Rect.unit (s := S2x256x512) ![1, 0, 0] ![1, 256, 512] inb, w⟩ : View.Piece (Elt F) S2x256x512 .f32) :: L))
      = w := rd_full v f L ![1, 0, 0] S1x256x512.size inb inb' w
theorem oth256_1 (v : View sig κ sp S2x256x512 .f32) (f : v.ty.Contents (Elt F)) (L : List (View.Piece (Elt F) S2x256x512 .f32))
    (inb : ∀ a, (![1, 0, 0] : Fin 3 → ℕ) a + (![1, 256, 512] : Fin 3 → ℕ) a ≤ S2x256x512.size a) (inb' : ∀ a, (![0, 0, 0] : Fin 3 → ℕ) a + (![1, 256, 512] : Fin 3 → ℕ) a ≤ S2x256x512.size a)
    (w : (Rect.unit (s := S2x256x512) ![1, 0, 0] ![1, 256, 512] inb).shape.Idx → Elt F .f32) :
    v.readAt (Elt F) (Rect.unit (s := S2x256x512) ![0, 0, 0] ![1, 256, 512] inb').toLoadRect (v.writes (Elt F) f ((⟨Rect.unit (s := S2x256x512) ![1, 0, 0] ![1, 256, 512] inb, w⟩ : View.Piece (Elt F) S2x256x512 .f32) :: L))
      = v.readAt (Elt F) (Rect.unit (s := S2x256x512) ![0, 0, 0] ![1, 256, 512] inb').toLoadRect (v.writes (Elt F) f L) := rd_other v f L 1 0 0 0 0 0 256 512 256 512 (by decide) inb inb' w
theorem othA_0 (v : View sig κ sp S2x80x512 .f32) (f : v.ty.Contents (Elt F)) (L : List (View.Piece (Elt F) S2x80x512 .f32))
    (inb : ∀ a, (![0, 0, 256] : Fin 3 → ℕ) a + (![1, 80, 256] : Fin 3 → ℕ) a ≤ S2x80x512.size a) (inb' : ∀ a, (![1, 0, 0] : Fin 3 → ℕ) a + (![1, 80, 512] : Fin 3 → ℕ) a ≤ S2x80x512.size a)
    (w : (Rect.unit (s := S2x80x512) ![0, 0, 256] ![1, 80, 256] inb).shape.Idx → Elt F .f32) :
    v.readAt (Elt F) (Rect.unit (s := S2x80x512) ![1, 0, 0] ![1, 80, 512] inb').toLoadRect (v.writes (Elt F) f ((⟨Rect.unit (s := S2x80x512) ![0, 0, 256] ![1, 80, 256] inb, w⟩ : View.Piece (Elt F) S2x80x512 .f32) :: L))
      = v.readAt (Elt F) (Rect.unit (s := S2x80x512) ![1, 0, 0] ![1, 80, 512] inb').toLoadRect (v.writes (Elt F) f L) := rd_other v f L 0 1 0 0 256 0 80 256 80 512 (by decide) inb inb' w
theorem othB_0 (v : View sig κ sp S2x80x512 .f32) (f : v.ty.Contents (Elt F)) (L : List (View.Piece (Elt F) S2x80x512 .f32))
    (inb : ∀ a, (![0, 0, 256] : Fin 3 → ℕ) a + (![1, 80, 256] : Fin 3 → ℕ) a ≤ S2x80x512.size a) (inb' : ∀ a, (![1, 0, 256] : Fin 3 → ℕ) a + (![1, 80, 256] : Fin 3 → ℕ) a ≤ S2x80x512.size a)
    (w : (Rect.unit (s := S2x80x512) ![0, 0, 256] ![1, 80, 256] inb).shape.Idx → Elt F .f32) :
    v.readAt (Elt F) (Rect.unit (s := S2x80x512) ![1, 0, 256] ![1, 80, 256] inb').toLoadRect (v.writes (Elt F) f ((⟨Rect.unit (s := S2x80x512) ![0, 0, 256] ![1, 80, 256] inb, w⟩ : View.Piece (Elt F) S2x80x512 .f32) :: L))
      = v.readAt (Elt F) (Rect.unit (s := S2x80x512) ![1, 0, 256] ![1, 80, 256] inb').toLoadRect (v.writes (Elt F) f L) := rd_other v f L 0 1 0 0 256 256 80 256 80 256 (by decide) inb inb' w
theorem othC_0 (v : View sig κ sp S2x80x512 .f32) (f : v.ty.Contents (Elt F)) (L : List (View.Piece (Elt F) S2x80x512 .f32))
    (inb : ∀ a, (![0, 0, 0] : Fin 3 → ℕ) a + (![1, 80, 512] : Fin 3 → ℕ) a ≤ S2x80x512.size a) (inb' : ∀ a, (![1, 0, 256] : Fin 3 → ℕ) a + (![1, 80, 256] : Fin 3 → ℕ) a ≤ S2x80x512.size a)
    (w : (Rect.unit (s := S2x80x512) ![0, 0, 0] ![1, 80, 512] inb).shape.Idx → Elt F .f32) :
    v.readAt (Elt F) (Rect.unit (s := S2x80x512) ![1, 0, 256] ![1, 80, 256] inb').toLoadRect (v.writes (Elt F) f ((⟨Rect.unit (s := S2x80x512) ![0, 0, 0] ![1, 80, 512] inb, w⟩ : View.Piece (Elt F) S2x80x512 .f32) :: L))
      = v.readAt (Elt F) (Rect.unit (s := S2x80x512) ![1, 0, 256] ![1, 80, 256] inb').toLoadRect (v.writes (Elt F) f L) := rd_other v f L 0 1 0 0 0 256 80 512 80 256 (by decide) inb inb' w
theorem othD_0 (v : View sig κ sp S2x8x512 .f32) (f : v.ty.Contents (Elt F)) (L : List (View.Piece (Elt F) S2x8x512 .f32))
    (inb : ∀ a, (![0, 0, 0] : Fin 3 → ℕ) a + (![1, 8, 512] : Fin 3 → ℕ) a ≤ S2x8x512.size a) (inb' : ∀ a, (![1, 0, 256] : Fin 3 → ℕ) a + (![1, 1, 256] : Fin 3 → ℕ) a ≤ S2x8x512.size a)
    (w : (Rect.unit (s := S2x8x512) ![0, 0, 0] ![1, 8, 512] inb).shape.Idx → Elt F .f32) :
    v.readAt (Elt F) (Rect.unit (s := S2x8x512) ![1, 0, 256] ![1, 1, 256] inb').toLoadRect (v.writes (Elt F) f ((⟨Rect.unit (s := S2x8x512) ![0, 0, 0] ![1, 8, 512] inb, w⟩ : View.Piece (Elt F) S2x8x512 .f32) :: L))
      = v.readAt (Elt F) (Rect.unit (s := S2x8x512) ![1, 0, 256] ![1, 1, 256] inb').toLoadRect (v.writes (Elt F) f L) := rd_other v f L 0 1 0 0 0 256 8 512 1 256 (by decide) inb inb' w
theorem othE_0 (v : View sig κ sp S2x8x512 .f32) (f : v.ty.Contents (Elt F)) (L : List (View.Piece (Elt F) S2x8x512 .f32))
    (inb : ∀ a, (![0, 0, 256] : Fin 3 → ℕ) a + (![1, 8, 256] : Fin 3 → ℕ) a ≤ S2x8x512.size a) (inb' : ∀ a, (![1, 0, 256] : Fin 3 → ℕ) a + (![1, 1, 256] : Fin 3 → ℕ) a ≤ S2x8x512.size a)
    (w : (Rect.unit (s := S2x8x512) ![0, 0, 256] ![1, 8, 256] inb).shape.Idx → Elt F .f32) :
    v.readAt (Elt F) (Rect.unit (s := S2x8x512) ![1, 0, 256] ![1, 1, 256] inb').toLoadRect (v.writes (Elt F) f ((⟨Rect.unit (s := S2x8x512) ![0, 0, 256] ![1, 8, 256] inb, w⟩ : View.Piece (Elt F) S2x8x512 .f32) :: L))
      = v.readAt (Elt F) (Rect.unit (s := S2x8x512) ![1, 0, 256] ![1, 1, 256] inb').toLoadRect (v.writes (Elt F) f L) := rd_other v f L 0 1 0 0 256 256 8 256 1 256 (by decide) inb inb' w
theorem othF_0 (v : View sig κ sp S2x256x512 .f32) (f : v.ty.Contents (Elt F)) (L : List (View.Piece (Elt F) S2x256x512 .f32))
    (inb : ∀ a, (![0, 0, 256] : Fin 3 → ℕ) a + (![1, 256, 256] : Fin 3 → ℕ) a ≤ S2x256x512.size a) (inb' : ∀ a, (![1, 0, 256] : Fin 3 → ℕ) a + (![1, 256, 256] : Fin 3 → ℕ) a ≤ S2x256x512.size a)
    (w : (Rect.unit (s := S2x256x512) ![0, 0, 256] ![1, 256, 256] inb).shape.Idx → Elt F .f32) :
    v.readAt (Elt F) (Rect.unit (s := S2x256x512) ![1, 0, 256] ![1, 256, 256] inb').toLoadRect (v.writes (Elt F) f ((⟨Rect.unit (s := S2x256x512) ![0, 0, 256] ![1, 256, 256] inb, w⟩ : View.Piece (Elt F) S2x256x512 .f32) :: L))
      = v.readAt (Elt F) (Rect.unit (s := S2x256x512) ![1, 0, 256] ![1, 256, 256] inb').toLoadRect (v.writes (Elt F) f L) := rd_other v f L 0 1 0 0 256 256 256 256 256 256 (by decide) inb inb' w
theorem fullF_0 (v : View sig κ sp S2x256x512 .f32) (f : v.ty.Contents (Elt F)) (L : List (View.Piece (Elt F) S2x256x512 .f32))
    (inb : ∀ a, (![0, 0, 256] : Fin 3 → ℕ) a + (![1, 256, 256] : Fin 3 → ℕ) a ≤ S2x256x512.size a) (inb' : ∀ a, (![0, 0, 256] : Fin 3 → ℕ) a + (![1, 256, 256] : Fin 3 → ℕ) a ≤ S2x256x512.size a)
    (w : (Rect.unit (s := S2x256x512) ![0, 0, 256] ![1, 256, 256] inb).shape.Idx → Elt F .f32) :
    v.readAt (Elt F) (Rect.unit (s := S2x256x512) ![0, 0, 256] ![1, 256, 256] inb').toLoadRect (v.writes (Elt F) f ((⟨Rect.unit (s := S2x256x512) ![0, 0, 256] ![1, 256, 256] inb, w⟩ : View.Piece (Elt F) S2x256x512 .f32) :: L))
      = w := rd_full v f L ![0, 0, 256] S1x256x256.size inb inb' w
theorem subC_0 (v : View sig κ sp S2x80x512 .f32) (f : v.ty.Contents (Elt F)) (L : List (View.Piece (Elt F) S2x80x512 .f32))
    (inb : ∀ a, (![0, 0, 0] : Fin 3 → ℕ) a + (![1, 80, 512] : Fin 3 → ℕ) a ≤ S2x80x512.size a) (inb' : ∀ a, (![0, 0, 256] : Fin 3 → ℕ) a + (![1, 80, 256] : Fin 3 → ℕ) a ≤ S2x80x512.size a)
    (w : (Rect.unit (s := S2x80x512) ![0, 0, 0] ![1, 80, 512] inb).shape.Idx → Elt F .f32) :
    v.readAt (Elt F) (Rect.unit (s := S2x80x512) ![0, 0, 256] ![1, 80, 256] inb').toLoadRect (v.writes (Elt F) f ((⟨Rect.unit (s := S2x80x512) ![0, 0, 0] ![1, 80, 512] inb, w⟩ : View.Piece (Elt F) S2x80x512 .f32) :: L))
      = fun j => w (ix3 (0 : Fin 1) (j 1) (⟨256 + (j 2).val, by have : (j 2).val < 256 := (j 2).isLt; omega⟩ : Fin 512)) :=
  rd_hit v f inb inb' w L (fun j => ix3 (0 : Fin 1) (j 1) (⟨256 + (j 2).val, by have : (j 2).val < 256 := (j 2).isLt; omega⟩ : Fin 512)) fun j a => by
    have h0 : (j 0).val < 1 := (j 0).isLt
    have h1 : (j 1).val < 80 := (j 1).isLt
    match a with
    | 0 => show 0 + (j 0).val = 0 + 0; omega
    | 1 => first | rfl | (show 0 + (j 1).val = 0 + 0; omega)
    | 2 => first | rfl | (show 256 + (j 2).val = 0 + (256 + (j 2).val); omega)
theorem subD_0 (v : View sig κ sp S2x8x512 .f32) (f : v.ty.Contents (Elt F)) (L : List (View.Piece (Elt F) S2x8x512 .f32))
    (inb : ∀ a, (![0, 0, 0] : Fin 3 → ℕ) a + (![1, 8, 512] : Fin 3 → ℕ) a ≤ S2x8x512.size a) (inb' : ∀ a, (![0, 0, 256] : Fin 3 → ℕ) a + (![1, 1, 256] : Fin 3 → ℕ) a ≤ S2x8x512.size a)
    (w : (Rect.unit (s := S2x8x512) ![0, 0, 0] ![1, 8, 512] inb).shape.Idx → Elt F .f32) :
    v.readAt (Elt F) (Rect.unit (s := S2x8x512) ![0, 0, 256] ![1, 1, 256] inb').toLoadRect (v.writes (Elt F) f ((⟨Rect.unit (s := S2x8x512) ![0, 0, 0] ![1, 8, 512] inb, w⟩ : View.Piece (Elt F) S2x8x512 .f32) :: L))
      = fun j => row0 (n := 512) w (ix3 (0 : Fin 1) (0 : Fin 1) (⟨256 + (j 2).val, by have : (j 2).val < 256 := (j 2).isLt; omega⟩ : Fin 512)) :=
  rd_hit v f inb inb' w L (fun j => ix3 (0 : Fin 1) (0 : Fin 8) (⟨256 + (j 2).val, by have : (j 2).val < 256 := (j 2).isLt; omega⟩ : Fin 512)) fun j a => by
    have h0 : (j 0).val < 1 := (j 0).isLt
    have h1 : (j 1).val < 1 := (j 1).isLt
    match a with
    | 0 => show 0 + (j 0).val = 0 + 0; omega
    | 1 => first | rfl | (show 0 + (j 1).val = 0 + 0; omega)
    | 2 => first | rfl | (show 256 + (j 2).val = 0 + (256 + (j 2).val); omega)
theorem init8_0 (v : View sig κ sp S2x8x512 .f32) (f : v.ty.Contents (Elt F)) (L : List (View.Piece (Elt F) S2x8x512 .f32))
    (inb : ∀ a, (![0, 0, 0] : Fin 3 → ℕ) a + (![2, 8, 512] : Fin 3 → ℕ) a ≤ S2x8x512.size a) (inb' : ∀ a, (![0, 0, 0] : Fin 3 → ℕ) a + (![1, 1, 512] : Fin 3 → ℕ) a ≤ S2x8x512.size a)
    (w : (Rect.unit (s := S2x8x512) ![0, 0, 0] ![2, 8, 512] inb).shape.Idx → Elt F .f32) :
    v.readAt (Elt F) (Rect.unit (s := S2x8x512) ![0, 0, 0] ![1, 1, 512] inb').toLoadRect (v.writes (Elt F) f ((⟨Rect.unit (s := S2x8x512) ![0, 0, 0] ![2, 8, 512] inb, w⟩ : View.Piece (Elt F) S2x8x512 .f32) :: L))
      = fun j => w (ix3 (0 : Fin 2) (0 : Fin 8) (j 2)) :=
  rd_hit v f inb inb' w L (fun j => ix3 (0 : Fin 2) (0 : Fin 8) (j 2)) fun j a => by
    have h0 : (j 0).val < 1 := (j 0).isLt
    have h1 : (j 1).val < 1 := (j 1).isLt
    match a with
    | 0 => show 0 + (j 0).val = 0 + 0; omega
    | 1 => first | rfl | (show 0 + (j 1).val = 0 + 0; omega)
    | 2 => first | rfl | (show 256 + (j 2).val = 0 + (256 + (j 2).val); omega)
theorem init9_0 (v : View sig κ sp S2x80x512 .f32) (f : v.ty.Contents (Elt F)) (L : List (View.Piece (Elt F) S2x80x512 .f32))
    (inb : ∀ a, (![0, 0, 0] : Fin 3 → ℕ) a + (![2, 80, 512] : Fin 3 → ℕ) a ≤ S2x80x512.size a) (inb' : ∀ a, (![0, 0, 0] : Fin 3 → ℕ) a + (![1, 80, 512] : Fin 3 → ℕ) a ≤ S2x80x512.size a)
    (w : (Rect.unit (s := S2x80x512) ![0, 0, 0] ![2, 80, 512] inb).shape.Idx → Elt F .f32) :
    v.readAt (Elt F) (Rect.unit (s := S2x80x512) ![0, 0, 0] ![1, 80, 512] inb').toLoadRect (v.writes (Elt F) f ((⟨Rect.unit (s := S2x80x512) ![0, 0, 0] ![2, 80, 512] inb, w⟩ : View.Piece (Elt F) S2x80x512 .f32) :: L))
      = fun j => w (ix3 (0 : Fin 2) (j 1) (j 2)) :=
  rd_hit v f inb inb' w L (fun j => ix3 (0 : Fin 2) (j 1) (j 2)) fun j a => by
    have h0 : (j 0).val < 1 := (j 0).isLt
    have h1 : (j 1).val < 80 := (j 1).isLt
    match a with
    | 0 => show 0 + (j 0).val = 0 + 0; omega
    | 1 => first | rfl | (show 0 + (j 1).val = 0 + 0; omega)
    | 2 => first | rfl | (show 256 + (j 2).val = 0 + (256 + (j 2).val); omega)
theorem halves_0 (v : View sig κ sp S2x80x512 .f32) (f : v.ty.Contents (Elt F)) (L : List (View.Piece (Elt F) S2x80x512 .f32))
    (inb : ∀ a, (![0, 0, 256] : Fin 3 → ℕ) a + (![1, 80, 256] : Fin 3 → ℕ) a ≤ S2x80x512.size a) (inb' : ∀ a, (![0, 0, 0] : Fin 3 → ℕ) a + (![1, 80, 512] : Fin 3 → ℕ) a ≤ S2x80x512.size a)
    (w : (Rect.unit (s := S2x80x512) ![0, 0, 256] ![1, 80, 256] inb).shape.Idx → Elt F .f32) :
    v.readAt (Elt F) (Rect.unit (s := S2x80x512) ![0, 0, 0] ![1, 80, 512] inb').toLoadRect (v.writes (Elt F) f ((⟨Rect.unit (s := S2x80x512) ![0, 0, 256] ![1, 80, 256] inb, w⟩ : View.Piece (Elt F) S2x80x512 .f32) :: L))
      = fun j => if hj : (j 2).val < 256 then v.readAt (Elt F) (Rect.unit (s := S2x80x512) ![0, 0, 0] ![1, 80, 512] inb').toLoadRect (v.writes (Elt F) f L) j
        else w (ix3 (0 : Fin 1) (j 1) (⟨(j 2).val - 256, by have : (j 2).val < 512 := (j 2).isLt; omega⟩ : Fin 256)) := rd_halves v f L 0 80 512 256 (by decide) inb inb' w
theorem othA_1 (v : View sig κ sp S2x80x512 .f32) (f : v.ty.Contents (Elt F)) (L : List (View.Piece (Elt F) S2x80x512 .f32))
    (inb : ∀ a, (![1, 0, 256] : Fin 3 → ℕ) a + (![1, 80, 256] : Fin 3 → ℕ) a ≤ S2x80x512.size a) (inb' : ∀ a, (![0, 0, 0] : Fin 3 → ℕ) a + (![1, 80, 512] : Fin 3 → ℕ) a ≤ S2x80x512.size a)
    (w : (Rect.unit (s := S2x80x512) ![1, 0, 256] ![1, 80, 256] inb).shape.Idx → Elt F .f32) :
    v.readAt (Elt F) (Rect.unit (s := S2x80x512) ![0, 0, 0] ![1, 80, 512] inb').toLoadRect (v.writes (Elt F) f ((⟨Rect.unit (s := S2x80x512) ![1, 0, 256] ![1, 80, 256] inb, w⟩ : View.Piece (Elt F) S2x80x512 .f32) :: L))
      = v.readAt (Elt F) (Rect.unit (s := S2x80x512) ![0, 0, 0] ![1, 80, 512] inb').toLoadRect (v.writes (Elt F) f L) := rd_other v f L 1 0 0 0 256 0 80 256 80 512 (by decide) inb inb' w
theorem othB_1 (v : View sig κ sp S2x80x512 .f32) (f : v.ty.Contents (Elt F)) (L : List (View.Piece (Elt F) S2x80x512 .f32))
    (inb : ∀ a, (![1, 0, 256] : Fin 3 → ℕ) a + (![1, 80, 256] : Fin 3 → ℕ) a ≤ S2x80x512.size a) (inb' : ∀ a, (![0, 0, 256] : Fin 3 → ℕ) a + (![1, 80, 256] : Fin 3 → ℕ) a ≤ S2x80x512.size a)
    (w : (Rect.unit (s := S2x80x512) ![1, 0, 256] ![1, 80, 256] inb).shape.Idx → Elt F .f32) :
    v.readAt (Elt F) (Rect.unit (s := S2x80x512) ![0, 0, 256] ![1, 80, 256] inb').toLoadRect (v.writes (Elt F) f ((⟨Rect.unit (s := S2x80x512) ![1, 0, 256] ![1, 80, 256] inb, w⟩ : View.Piece (Elt F) S2x80x512 .f32) :: L))
      = v.readAt (Elt F) (Rect.unit (s := S2x80x512) ![0, 0, 256] ![1, 80, 256] inb').toLoadRect (v.writes (Elt F) f L) := rd_other v f L 1 0 0 0 256 256 80 256 80 256 (by decide) inb inb' w
theorem othC_1 (v : View sig κ sp S2x80x512 .f32) (f : v.ty.Contents (Elt F)) (L : List (View.Piece (Elt F) S2x80x512 .f32))
    (inb : ∀ a, (![1, 0, 0] : Fin 3 → ℕ) a + (![1, 80, 512] : Fin 3 → ℕ) a ≤ S2x80x512.size a) (inb' : ∀ a, (![0, 0, 256] : Fin 3 → ℕ) a + (![1, 80, 256] : Fin 3 → ℕ) a ≤ S2x80x512.size a)
    (w : (Rect.unit (s := S2x80x512) ![1, 0, 0] ![1, 80, 512] inb).shape.Idx → Elt F .f32) :
    v.readAt (Elt F) (Rect.unit (s := S2x80x512) ![0, 0, 256] ![1, 80, 256] inb').toLoadRect (v.writes (Elt F) f ((⟨Rect.unit (s := S2x80x512) ![1, 0, 0] ![1, 80, 512] inb, w⟩ : View.Piece (Elt F) S2x80x512 .f32) :: L))
      = v.readAt (Elt F) (Rect.unit (s := S2x80x512) ![0, 0, 256] ![1, 80, 256] inb').toLoadRect (v.writes (Elt F) f L) := rd_other v f L 1 0 0 0 0 256 80 512 80 256 (by decide) inb inb' w
theorem othD_1 (v : View sig κ sp S2x8x512 .f32) (f : v.ty.Contents (Elt F)) (L : List (View.Piece (Elt F) S2x8x512 .f32))
    (inb : ∀ a, (![1, 0, 0] : Fin 3 → ℕ) a + (![1, 8, 512] : Fin 3 → ℕ) a ≤ S2x8x512.size a) (inb' : ∀ a, (![0, 0, 256] : Fin 3 → ℕ) a + (![1, 1, 256] : Fin 3 → ℕ) a ≤ S2x8x512.size a)
    (w : (Rect.unit (s := S2x8x512) ![1, 0, 0] ![1, 8, 512] inb).shape.Idx → Elt F .f32) :
    v.readAt (Elt F) (Rect.unit (s := S2x8x512) ![0, 0, 256] ![1, 1, 256] inb').toLoadRect (v.writes (Elt F) f ((⟨Rect.unit (s := S2x8x512) ![1, 0, 0] ![1, 8, 512] inb, w⟩ : View.Piece (Elt F) S2x8x512 .f32) :: L))
      = v.readAt (Elt F) (Rect.unit (s := S2x8x512) ![0, 0, 256] ![1, 1, 256] inb').toLoadRect (v.writes (Elt F) f L) := rd_other v f L 1 0 0 0 0 256 8 512 1 256 (by decide) inb inb' w
theorem othE_1 (v : View sig κ sp S2x8x512 .f32) (f : v.ty.Contents (Elt F)) (L : List (View.Piece (Elt F) S2x8x512 .f32))
    (inb : ∀ a, (![1, 0, 256] : Fin 3 → ℕ) a + (![1, 8, 256] : Fin 3 → ℕ) a ≤ S2x8x512.size a) (inb' : ∀ a, (![0, 0, 256] : Fin 3 → ℕ) a + (![1, 1, 256] : Fin 3 → ℕ) a ≤ S2x8x512.size a)
    (w : (Rect.unit (s := S2x8x512) ![1, 0, 256] ![1, 8, 256] inb).shape.Idx → Elt F .f32) :
    v.readAt (Elt F) (Rect.unit (s := S2x8x512) ![0, 0, 256] ![1, 1, 256] inb').toLoadRect (v.writes (Elt F) f ((⟨Rect.unit (s := S2x8x512) ![1, 0, 256] ![1, 8, 256] inb, w⟩ : View.Piece (Elt F) S2x8x512 .f32) :: L))
      = v.readAt (Elt F) (Rect.unit (s := S2x8x512) ![0, 0, 256] ![1, 1, 256] inb').toLoadRect (v.writes (Elt F) f L) := rd_other v f L 1 0 0 0 256 256 8 256 1 256 (by decide) inb inb' w
theorem othF_1 (v : View sig κ sp S2x256x512 .f32) (f : v.ty.Contents (Elt F)) (L : List (View.Piece (Elt F) S2x256x512 .f32))
    (inb : ∀ a, (![1, 0, 256] : Fin 3 → ℕ) a + (![1, 256, 256] : Fin 3 → ℕ) a ≤ S2x256x512.size a) (inb' : ∀ a, (![0, 0, 256] : Fin 3 → ℕ) a + (![1, 256, 256] : Fin 3 → ℕ) a ≤ S2x256x512.size a)
    (w : (Rect.unit (s := S2x256x512) ![1, 0, 256] ![1, 256, 256] inb).shape.Idx → Elt F .f32) :
    v.readAt (Elt F) (Rect.unit (s := S2x256x512) ![0, 0, 256] ![1, 256, 256] inb').toLoadRect (v.writes (Elt F) f ((⟨Rect.unit (s := S2x256x512) ![1, 0, 256] ![1, 256, 256] inb, w⟩ : View.Piece (Elt F) S2x256x512 .f32) :: L))
      = v.readAt (Elt F) (Rect.unit (s := S2x256x512) ![0, 0, 256] ![1, 256, 256] inb').toLoadRect (v.writes (Elt F) f L) := rd_other v f L 1 0 0 0 256 256 256 256 256 256 (by decide) inb inb' w
theorem fullF_1 (v : View sig κ sp S2x256x512 .f32) (f : v.ty.Contents (Elt F)) (L : List (View.Piece (Elt F) S2x256x512 .f32))
    (inb : ∀ a, (![1, 0, 256] : Fin 3 → ℕ) a + (![1, 256, 256] : Fin 3 → ℕ) a ≤ S2x256x512.size a) (inb' : ∀ a, (![1, 0, 256] : Fin 3 → ℕ) a + (![1, 256, 256] : Fin 3 → ℕ) a ≤ S2x256x512.size a)
    (w : (Rect.unit (s := S2x256x512) ![1, 0, 256] ![1, 256, 256] inb).shape.Idx → Elt F .f32) :
    v.readAt (Elt F) (Rect.unit (s := S2x256x512) ![1, 0, 256] ![1, 256, 256] inb').toLoadRect (v.writes (Elt F) f ((⟨Rect.unit (s := S2x256x512) ![1, 0, 256] ![1, 256, 256] inb, w⟩ : View.Piece (Elt F) S2x256x512 .f32) :: L))
      = w := rd_full v f L ![1, 0, 256] S1x256x256.size inb inb' w
theorem subC_1 (v : View sig κ sp S2x80x512 .f32) (f : v.ty.Contents (Elt F)) (L : List (View.Piece (Elt F) S2x80x512 .f32))
    (inb : ∀ a, (![1, 0, 0] : Fin 3 → ℕ) a + (![1, 80, 512] : Fin 3 → ℕ) a ≤ S2x80x512.size a) (inb' : ∀ a, (![1, 0, 256] : Fin 3 → ℕ) a + (![1, 80, 256] : Fin 3 → ℕ) a ≤ S2x80x512.size a)
    (w : (Rect.unit (s := S2x80x512) ![1, 0, 0] ![1, 80, 512] inb).shape.Idx → Elt F .f32) :
    v.readAt (Elt F) (Rect.unit (s := S2x80x512) ![1, 0, 256] ![1, 80, 256] inb').toLoadRect (v.writes (Elt F) f ((⟨Rect.unit (s := S2x80x512) ![1, 0, 0] ![1, 80, 512] inb, w⟩ : View.Piece (Elt F) S2x80x512 .f32) :: L))
      = fun j => w (ix3 (0 : Fin 1) (j 1) (⟨256 + (j 2).val, by have : (j 2).val < 256 := (j 2).isLt; omega⟩ : Fin 512)) :=
  rd_hit v f inb inb' w L (fun j => ix3 (0 : Fin 1) (j 1) (⟨256 + (j 2).val, by have : (j 2).val < 256 := (j 2).isLt; omega⟩ : Fin 512)) fun j a => by
    have h0 : (j 0).val < 1 := (j 0).isLt
    have h1 : (j 1).val < 80 := (j 1).isLt
    match a with
    | 0 => show 1 + (j 0).val = 1 + 0; omega
    | 1 => first | rfl | (show 0 + (j 1).val = 0 + 0; omega)
    | 2 => first | rfl | (show 256 + (j 2).val = 0 + (256 + (j 2).val); omega)
theorem subD_1 (v : View sig κ sp S2x8x512 .f32) (f : v.ty.Contents (Elt F)) (L : List (View.Piece (Elt F) S2x8x512 .f32))
    (inb : ∀ a, (![1, 0, 0] : Fin 3 → ℕ) a + (![1, 8, 512] : Fin 3 → ℕ) a ≤ S2x8x512.size a) (inb' : ∀ a, (![1, 0, 256] : Fin 3 → ℕ) a + (![1, 1, 256] : Fin 3 → ℕ) a ≤ S2x8x512.size a)
    (w : (Rect.unit (s := S2x8x512) ![1, 0, 0] ![1, 8, 512] inb).shape.Idx → Elt F .f32) :
    v.readAt (Elt F) (Rect.unit (s := S2x8x512) ![1, 0, 256] ![1, 1, 256] inb').toLoadRect (v.writes (Elt F) f ((⟨Rect.unit (s := S2x8x512) ![1, 0, 0] ![1, 8, 512] inb, w⟩ : View.Piece (Elt F) S2x8x512 .f32) :: L))
      = fun j => row0 (n := 512) w (ix3 (0 : Fin 1) (0 : Fin 1) (⟨256 + (j 2).val, by have : (j 2).val < 256 := (j 2).isLt; omega⟩ : Fin 512)) :=
  rd_hit v f inb inb' w L (fun j => ix3 (0 : Fin 1) (0 : Fin 8) (⟨256 + (j 2).val, by have : (j 2).val < 256 := (j 2).isLt; omega⟩ : Fin 512)) fun j a => by
    have h0 : (j 0).val < 1 := (j 0).isLt
    have h1 : (j 1).val < 1 := (j 1).isLt
    match a with
    | 0 => show 1 + (j 0).val = 1 + 0; omega
    | 1 => first | rfl | (show 0 + (j 1).val = 0 + 0; omega)
    | 2 => first | rfl | (show 256 + (j 2).val = 0 + (256 + (j 2).val); omega)
theorem init8_1 (v : View sig κ sp S2x8x512 .f32) (f : v.ty.Contents (Elt F)) (L : List (View.Piece (Elt F) S2x8x512 .f32))
    (inb : ∀ a, (![0, 0, 0] : Fin 3 → ℕ) a + (![2, 8, 512] : Fin 3 → ℕ) a ≤ S2x8x512.size a) (inb' : ∀ a, (![1, 0, 0] : Fin 3 → ℕ) a + (![1, 1, 512] : Fin 3 → ℕ) a ≤ S2x8x512.size a)
    (w : (Rect.unit (s := S2x8x512) ![0, 0, 0] ![2, 8, 512] inb).shape.Idx → Elt F .f32) :
    v.readAt (Elt F) (Rect.unit (s := S2x8x512) ![1, 0, 0] ![1, 1, 512] inb').toLoadRect (v.writes (Elt F) f ((⟨Rect.unit (s := S2x8x512) ![0, 0, 0] ![2, 8, 512] inb, w⟩ : View.Piece (Elt F) S2x8x512 .f32) :: L))
      = fun j => w (ix3 (1 : Fin 2) (0 : Fin 8) (j 2)) :=
  rd_hit v f inb inb' w L (fun j => ix3 (1 : Fin 2) (0 : Fin 8) (j 2)) fun j a => by
    have h0 : (j 0).val < 1 := (j 0).isLt
    have h1 : (j 1).val < 1 := (j 1).isLt
    match a with
    | 0 => show 1 + (j 0).val = 0 + 1; omega
    | 1 => first | rfl | (show 0 + (j 1).val = 0 + 0; omega)
    | 2 => first | rfl | (show 256 + (j 2).val = 0 + (256 + (j 2).val); omega)
theorem init9_1 (v : View sig κ sp S2x80x512 .f32) (f : v.ty.Contents (Elt F)) (L : List (View.Piece (Elt F) S2x80x512 .f32))
    (inb : ∀ a, (![0, 0, 0] : Fin 3 → ℕ) a + (![2, 80, 512] : Fin 3 → ℕ) a ≤ S2x80x512.size a) (inb' : ∀ a, (![1, 0, 0] : Fin 3 → ℕ) a + (![1, 80, 512] : Fin 3 → ℕ) a ≤ S2x80x512.size a)
    (w : (Rect.unit (s := S2x80x512) ![0, 0, 0] ![2, 80, 512] inb).shape.Idx → Elt F .f32) :
    v.readAt (Elt F) (Rect.unit (s := S2x80x512) ![1, 0, 0] ![1, 80, 512] inb').toLoadRect (v.writes (Elt F) f ((⟨Rect.unit (s := S2x80x512) ![0, 0, 0] ![2, 80, 512] inb, w⟩ : View.Piece (Elt F) S2x80x512 .f32) :: L))
      = fun j => w (ix3 (1 : Fin 2) (j 1) (j 2)) :=
  rd_hit v f inb inb' w L (fun j => ix3 (1 : Fin 2) (j 1) (j 2)) fun j a => by
    have h0 : (j 0).val < 1 := (j 0).isLt
    have h1 : (j 1).val < 80 := (j 1).isLt
    match a with
    | 0 => show 1 + (j 0).val = 0 + 1; omega
    | 1 => first | rfl | (show 0 + (j 1).val = 0 + 0; omega)
    | 2 => first | rfl | (show 256 + (j 2).val = 0 + (256 + (j 2).val); omega)
theorem halves_1 (v : View sig κ sp S2x80x512 .f32) (f : v.ty.Contents (Elt F)) (L : List (View.Piece (Elt F) S2x80x512 .f32))
    (inb : ∀ a, (![1, 0, 256] : Fin 3 → ℕ) a + (![1, 80, 256] : Fin 3 → ℕ) a ≤ S2x80x512.size a) (inb' : ∀ a, (![1, 0, 0] : Fin 3 → ℕ) a + (![1, 80, 512] : Fin 3 → ℕ) a ≤ S2x80x512.size a)
    (w : (Rect.unit (s := S2x80x512) ![1, 0, 256] ![1, 80, 256] inb).shape.Idx → Elt F .f32) :
    v.readAt (Elt F) (Rect.unit (s := S2x80x512) ![1, 0, 0] ![1, 80, 512] inb').toLoadRect (v.writes (Elt F) f ((⟨Rect.unit (s := S2x80x512) ![1, 0, 256] ![1, 80, 256] inb, w⟩ : View.Piece (Elt F) S2x80x512 .f32) :: L))
      = fun j => if hj : (j 2).val < 256 then v.readAt (Elt F) (Rect.unit (s := S2x80x512) ![1, 0, 0] ![1, 80, 512] inb').toLoadRect (v.writes (Elt F) f L) j
        else w (ix3 (0 : Fin 1) (j 1) (⟨(j 2).val - 256, by have : (j 2).val < 512 := (j 2).isLt; omega⟩ : Fin 256)) := rd_halves v f L 1 80 512 256 (by decide) inb inb' w
end Reads

/-- The scratch buffers before trip `k`: each head's state after the blocks before `2 k`, and the scores of block `2 k`. -/
structure Good (c : Dev nD) {arg8 : Memref sig .tc .vmem S2x8x512 .f32} {arg9 : Memref sig .tc .vmem S2x80x512 .f32} {arg10 : Memref sig .tc .vmem S2x256x512 .f32} {arg11 : Memref sig .tc .vmem S2x256x512 .f32} {arg12 : Memref sig .tc .vmem S2x8x512 .f32} {arg13 : Memref sig .tc .vmem S2x8x512 .f32}
    (K : Vec F S8192x256 .bf16) (Q : Vec F S1x256x512 .bf16) (V : Vec F S1x160x8192 .bf16) (k : ℕ)
    (s : St (F := F) c arg8 arg9 arg10 arg11 arg12 arg13) : Prop where
  g8_0 : ∀ inb, arg8.view.readAt (Elt F) (Rect.unit (s := S2x8x512) ![0, 0, 0] ![1, 1, 512] inb).toLoadRect s.b8 = (hst K Q V 0 (2 * k)).m
  g8_1 : ∀ inb, arg8.view.readAt (Elt F) (Rect.unit (s := S2x8x512) ![1, 0, 0] ![1, 1, 512] inb).toLoadRect s.b8 = (hst K Q V 1 (2 * k)).m
  g9_0 : ∀ inb, arg9.view.readAt (Elt F) (Rect.unit (s := S2x80x512) ![0, 0, 0] ![1, 80, 512] inb).toLoadRect s.b9 = (hst K Q V 0 (2 * k)).a
  g9_1 : ∀ inb, arg9.view.readAt (Elt F) (Rect.unit (s := S2x80x512) ![1, 0, 0] ![1, 80, 512] inb).toLoadRect s.b9 = (hst K Q V 1 (2 * k)).a
  g10_0 : ∀ inb, arg10.view.readAt (Elt F) (Rect.unit (s := S2x256x512) ![0, 0, 0] ![1, 256, 512] inb).toLoadRect s.b10 = sc K Q 0 (2 * k)
  g10_1 : ∀ inb, arg10.view.readAt (Elt F) (Rect.unit (s := S2x256x512) ![1, 0, 0] ![1, 256, 512] inb).toLoadRect s.b10 = sc K Q 1 (2 * k)
  g12_0 : ∀ inb, arg12.view.readAt (Elt F) (Rect.unit (s := S2x8x512) ![0, 0, 0] ![1, 1, 512] inb).toLoadRect s.b12 = mx K Q 0 (2 * k)
  g12_1 : ∀ inb, arg12.view.readAt (Elt F) (Rect.unit (s := S2x8x512) ![1, 0, 0] ![1, 1, 512] inb).toLoadRect s.b12 = mx K Q 1 (2 * k)

section Trip
variable (c : Dev nD) (i : grid0.Coords) (arg3 : Memref sig .tc .vmem S1x256x512 .bf16) (harg3 : arg3.IsWhole) (arg4 : Memref sig .tc .vmem S8192x256 .bf16) (harg4 : arg4.IsWhole) (arg5 : Memref sig .tc .vmem S1x160x8192 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2x8x512 .f32) (harg8 : arg8.IsWhole) (arg9 : Memref sig .tc .vmem S2x80x512 .f32) (harg9 : arg9.IsWhole) (arg10 : Memref sig .tc .vmem S2x256x512 .f32) (harg10 : arg10.IsWhole) (arg11 : Memref sig .tc .vmem S2x256x512 .f32) (harg11 : arg11.IsWhole) (arg12 : Memref sig .tc .vmem S2x8x512 .f32) (harg12 : arg12.IsWhole) (arg13 : Memref sig .tc .vmem S2x8x512 .f32) (harg13 : arg13.IsWhole) (arg2 : BitVec 32) (v8 : BitVec 32) (v26 : Vec F S256x128 .bf16)
variable (f3 : Buf (Elt F) (arg3.view.loc (c : Thread nD τ))) (f4 : Buf (Elt F) (arg4.view.loc (c : Thread nD τ)))
  (f5 : Buf (Elt F) (arg5.view.loc (c : Thread nD τ)))

theorem trip_good (k : Fin (k0_t1_loop i).trips) (s : St (F := F) c arg8 arg9 arg10 arg11 arg12 arg13)
    (hs : Good c (arg4.view.read (Elt F) f4) (arg3.view.read (Elt F) f3) (arg5.view.read (Elt F) f5) k.val s) :
    Good c (arg4.view.read (Elt F) f4) (arg3.view.read (Elt F) f3) (arg5.view.read (Elt F) f5) (k.val + 1)
      (tripRun c i arg3 harg3 arg4 harg4 arg5 harg5 arg6 harg6 arg7 harg7 arg8 harg8 arg9 harg9 arg10 harg10 arg11 harg11 arg12 harg12 arg13 harg13 arg2 v8 v26 f3 f4 f5 k s).1 := by
  have e2 : 2 * (k.val + 1) = 2 * k.val + 2 := by omega
  have k1a := fun inb => ld_k arg4.view f4 0 (2 * k.val + 1) (off1_eq i k) inb
  have k1b := fun inb => ld_k arg4.view f4 0 (2 * k.val + 2) (off1b_eq i k) inb
  have k2a := fun inb => ld_k arg4.view f4 1 (2 * k.val + 1) (off2_eq i k) inb
  have k2b := fun inb => ld_k arg4.view f4 1 (2 * k.val + 2) (off2b_eq i k) inb
  have v3 := fun inb => ld_v arg5.view f5 0 (2 * k.val) (off3_eq i k) inb
  have v4 := fun inb => ld_v arg5.view f5 1 (2 * k.val) (off4_eq i k) inb
  have v5 := fun inb => ld_v arg5.view f5 0 (2 * k.val + 1) (off5_eq i k) inb
  have v6 := fun inb => ld_v arg5.view f5 1 (2 * k.val + 1) (off6_eq i k) inb
  have q0 := fun inb => ld_q arg3.view f3 (off := ![0, 0, 0]) 0 rfl inb
  have q1 := fun inb => ld_q arg3.view f3 (off := ![0, 128, 0]) 1 rfl inb
  obtain ⟨h80, h81, h90, h91, h100, h101, h120, h121⟩ := hs
  constructor <;> intro inb <;>
  simp only [tripRun, tripRun.sl.r, tripRun.sl.v404, tripRun.sl.v408, tripRun.sl.H9_3, tripRun.sl.v406, tripRun.sl.H13_2, tripRun.sl.v438, tripRun.sl.v305, tripRun.sl.v410, tripRun.sl.v306, tripRun.sl.r_1, tripRun.sl.H9_2, tripRun.sl.r_2, tripRun.sl.H8_3, tripRun.sl.r_3, tripRun.sl.v426, tripRun.sl.H11_2, tripRun.sl.v456, tripRun.sl.v358, tripRun.sl.v440, tripRun.sl.H8_2, tripRun.sl.arg14, tripRun.sl.v436, tripRun.sl.v403, tripRun.sl.v342, View.readCov, row8_0, oth8_0, full80_0, oth80_0, full256_0, oth256_0, row8_1, oth8_1, full80_1, oth80_1, full256_1, oth256_1, othA_0, othB_0, othC_0, othD_0, othE_0, othF_0, fullF_0, subC_0, subD_0, init8_0, init9_0, halves_0, othA_1, othB_1, othC_1, othD_1, othE_1, othF_1, fullF_1, subC_1, subD_1, init8_1, init9_1, halves_1,
    k1a, k1b, k2a, k2b, v3, v4, v5, v6, q0, q1, h80, h81, h90, h91, h100, h101, h120, h121,
    pay7_eq, pay20_eq, pay23_eq, pay70_eq, pay73_eq, pay21_eq, pay71_eq, pay74_eq, pay9_eq, pay25_eq, pay17_eq, pay28_eq,
    pay33_eq, pay18_eq, pay30_eq, pay34_eq, e2, hst, sc, mx]

theorem acc_good (s : St (F := F) c arg8 arg9 arg10 arg11 arg12 arg13)
    (hs : Good c (arg4.view.read (Elt F) f4) (arg3.view.read (Elt F) f3) (arg5.view.read (Elt F) f5) 0 s) (k : ℕ)
    (hk : k ≤ (k0_t1_loop i).trips) :
    Good c (arg4.view.read (Elt F) f4) (arg3.view.read (Elt F) f3) (arg5.view.read (Elt F) f5) k
      (accSt c i arg3 harg3 arg4 harg4 arg5 harg5 arg6 harg6 arg7 harg7 arg8 harg8 arg9 harg9 arg10 harg10 arg11 harg11 arg12 harg12 arg13 harg13 arg2 v8 v26 f3 f4 f5 s k) := by
  induction k with
  | zero => exact hs
  | succ k ih =>
    rw [accSt, dif_pos (show k < (k0_t1_loop i).trips by omega)]
    exact trip_good c i arg3 harg3 arg4 harg4 arg5 harg5 arg6 harg6 arg7 harg7 arg8 harg8 arg9 harg9 arg10 harg10 arg11 harg11 arg12 harg12 arg13 harg13 arg2 v8 v26 f3 f4 f5 ⟨k, by omega⟩ _ (ih (by omega))
end Trip

section Body
variable (c : Dev nD) (i : grid0.Coords) (arg3 : Memref sig .tc .vmem S1x256x512 .bf16) (harg3 : arg3.IsWhole) (arg4 : Memref sig .tc .vmem S8192x256 .bf16) (harg4 : arg4.IsWhole) (arg5 : Memref sig .tc .vmem S1x160x8192 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2x8x512 .f32) (harg8 : arg8.IsWhole) (arg9 : Memref sig .tc .vmem S2x80x512 .f32) (harg9 : arg9.IsWhole) (arg10 : Memref sig .tc .vmem S2x256x512 .f32) (harg10 : arg10.IsWhole) (arg11 : Memref sig .tc .vmem S2x256x512 .f32) (harg11 : arg11.IsWhole) (arg12 : Memref sig .tc .vmem S2x8x512 .f32) (harg12 : arg12.IsWhole) (arg13 : Memref sig .tc .vmem S2x8x512 .f32) (harg13 : arg13.IsWhole)
variable (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

/-- The scratch buffers at the loop's entry. -/
def st0 (s : St (F := F) c arg8 arg9 arg10 arg11 arg12 arg13) : St (F := F) c arg8 arg9 arg10 arg11 arg12 arg13 :=
  ⟨arg8.view.writes (Elt F) arg8.view.junk bodyRun.sl.H8_1, arg9.view.writes (Elt F) arg9.view.junk bodyRun.sl.H9_1,
   arg10.view.writes (Elt F) arg10.view.junk (bodyRun.sl.H10_2 c arg3 arg4 f3 f4), s.b11,
   arg12.view.writes (Elt F) arg12.view.junk (bodyRun.sl.H12_2 c arg3 arg4 f3 f4), s.b13⟩

theorem st0_good (s : St (F := F) c arg8 arg9 arg10 arg11 arg12 arg13) :
    Good c (arg4.view.read (Elt F) f4) (arg3.view.read (Elt F) f3) (arg5.view.read (Elt F) f5) 0
      (st0 c arg3 arg4 arg8 arg9 arg10 arg11 arg12 arg13 f3 f4 s) := by
  have k1 := fun inb => ld_k arg4.view f4 (off := ![0, 0]) 0 0 rfl inb
  have k2 := fun inb => ld_k arg4.view f4 (off := ![0, 128]) 1 0 rfl inb
  have q0 := fun inb => ld_q arg3.view f3 (off := ![0, 0, 0]) 0 rfl inb
  have q1 := fun inb => ld_q arg3.view f3 (off := ![0, 128, 0]) 1 rfl inb
  constructor <;> intro inb <;>
  simp only [st0, bodyRun.sl.r, bodyRun.sl.H8_1, bodyRun.sl.H9_1, bodyRun.sl.H10_2, bodyRun.sl.H12_2, View.readCov, row8_0, oth8_0, full80_0, oth80_0, full256_0, oth256_0, row8_1, oth8_1, full80_1, oth80_1, full256_1, oth256_1, othA_0, othB_0, othC_0, othD_0, othE_0, othF_0, fullF_0, subC_0, subD_0, init8_0, init9_0, halves_0, othA_1, othB_1, othC_1, othD_1, othE_1, othF_1, fullF_1, subC_1, subD_1, init8_1, init9_1, halves_1, k1, k2, q0, q1,
    pay7_eq, pay20_eq, pay23_eq, pay70_eq, pay73_eq, pay21_eq, pay71_eq, pay74_eq, Nat.mul_zero, hst, sc, mx] <;> rfl

theorem body_out (f7 : Buf (Elt F) (arg7.view.loc (c : Thread nD τ))) (s : St (F := F) c arg8 arg9 arg10 arg11 arg12 arg13) :
    (bodyRun c i arg3 harg3 arg4 harg4 arg5 harg5 arg6 harg6 arg7 harg7 arg8 harg8 arg9 harg9 arg10 harg10 arg11 harg11 arg12 harg12 arg13 harg13 f3 f4 f5 f6 f7 s).1
      = arg7.view.writes (Elt F) f7 [⟨Rect.unit (s := S512x128) ![0, 0] S512x128.size inb_S512x128_S512x128_0_0,
          outBlk (arg4.view.read (Elt F) f4) (arg3.view.read (Elt F) f3) (arg5.view.read (Elt F) f5)
            (arg6.view.readAt (Elt F) (Rect.unit (s := S512x128) ![0, 0] S512x128.size inb_S512x128_S512x128_0_0).toLoadRect f6) (i 2).val⟩] := by
  have hg := acc_good c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 _
    (st0_good c arg3 arg4 arg5 arg8 arg9 arg10 arg11 arg12 arg13 f3 f4 f5 s) _ (le_refl _)
  have a8 : ∀ b8 b9 b10 b11 b12 b13 k, acc8 c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 b8 b9 b10 b11 b12 b13 k
      = (accSt c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 ⟨b8, b9, b10, b11, b12, b13⟩ k).b8 := by
    intros; rename_i k; cases k <;> rfl
  have a9 : ∀ b8 b9 b10 b11 b12 b13 k, acc9 c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 b8 b9 b10 b11 b12 b13 k
      = (accSt c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 ⟨b8, b9, b10, b11, b12, b13⟩ k).b9 := by
    intros; rename_i k; cases k <;> rfl
  have a10 : ∀ b8 b9 b10 b11 b12 b13 k, acc10 c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 b8 b9 b10 b11 b12 b13 k
      = (accSt c i arg3 harg3 arg4 harg4 arg5 harg5 arg6 harg6 arg7 harg7 arg8 harg8 arg9 harg9 arg10 harg10 arg11 harg11 arg12 harg12 arg13 harg13 (BitVec.ofNat 32 (i 2).val) (bodyRun.sl.v8 i) (bodyRun.sl.r c arg4 f4) f3 f4 f5 ⟨b8, b9, b10, b11, b12, b13⟩ k).b10 := by
    intros; rename_i k; cases k <;> rfl
  have hT := trips_eq i
  obtain ⟨h80, h81, h90, h91, h100, h101, h120, h121⟩ := hg
  have e80 : bodyRun.sl.v95 c i arg3 harg3 arg4 harg4 arg5 harg5 arg6 harg6 arg7 harg7 arg8 harg8 arg9 harg9 arg10 harg10 arg11 harg11 arg12 harg12 arg13 harg13 f3 f4 f5 s = (hst (arg4.view.read (Elt F) f4) (arg3.view.read (Elt F) f3) (arg5.view.read (Elt F) f5) 0 (2 * (i 2).val)).m :=
    Eq.trans (congrArg (arg8.view.readAt (Elt F) _) (a8 _ _ _ _ _ _ _)) ((h80 inb_S2x8x512_S1x1x512_0_0_0).trans (by rw [hT]))
  have e81 : bodyRun.sl.v136 c i arg3 harg3 arg4 harg4 arg5 harg5 arg6 harg6 arg7 harg7 arg8 harg8 arg9 harg9 arg10 harg10 arg11 harg11 arg12 harg12 arg13 harg13 f3 f4 f5 s = (hst (arg4.view.read (Elt F) f4) (arg3.view.read (Elt F) f3) (arg5.view.read (Elt F) f5) 1 (2 * (i 2).val)).m :=
    Eq.trans (congrArg (arg8.view.readAt (Elt F) _) (a8 _ _ _ _ _ _ _)) ((h81 inb_S2x8x512_S1x1x512_1_0_0).trans (by rw [hT]))
  have e90 : bodyRun.sl.v111 c i arg3 harg3 arg4 harg4 arg5 harg5 arg6 harg6 arg7 harg7 arg8 harg8 arg9 harg9 arg10 harg10 arg11 harg11 arg12 harg12 arg13 harg13 f3 f4 f5 s = (hst (arg4.view.read (Elt F) f4) (arg3.view.read (Elt F) f3) (arg5.view.read (Elt F) f5) 0 (2 * (i 2).val)).a :=
    Eq.trans (congrArg (arg9.view.readAt (Elt F) _) (a9 _ _ _ _ _ _ _)) ((h90 inb_S2x80x512_S1x80x512_0_0_0).trans (by rw [hT]))
  have e91 : bodyRun.sl.v152 c i arg3 harg3 arg4 harg4 arg5 harg5 arg6 harg6 arg7 harg7 arg8 harg8 arg9 harg9 arg10 harg10 arg11 harg11 arg12 harg12 arg13 harg13 f3 f4 f5 s = (hst (arg4.view.read (Elt F) f4) (arg3.view.read (Elt F) f3) (arg5.view.read (Elt F) f5) 1 (2 * (i 2).val)).a :=
    Eq.trans (congrArg (arg9.view.readAt (Elt F) _) (a9 _ _ _ _ _ _ _)) ((h91 inb_S2x80x512_S1x80x512_1_0_0).trans (by rw [hT]))
  have e100 : bodyRun.sl.v80 c i arg3 harg3 arg4 harg4 arg5 harg5 arg6 harg6 arg7 harg7 arg8 harg8 arg9 harg9 arg10 harg10 arg11 harg11 arg12 harg12 arg13 harg13 f3 f4 f5 s = sc (arg4.view.read (Elt F) f4) (arg3.view.read (Elt F) f3) 0 (2 * (i 2).val) :=
    Eq.trans (congrArg (arg10.view.readAt (Elt F) _) (a10 _ _ _ _ _ _ _)) ((h100 inb_S2x256x512_S1x256x512_0_0_0).trans (by rw [hT]))
  have e101 : bodyRun.sl.v121 c i arg3 harg3 arg4 harg4 arg5 harg5 arg6 harg6 arg7 harg7 arg8 harg8 arg9 harg9 arg10 harg10 arg11 harg11 arg12 harg12 arg13 harg13 f3 f4 f5 s = sc (arg4.view.read (Elt F) f4) (arg3.view.read (Elt F) f3) 1 (2 * (i 2).val) :=
    Eq.trans (congrArg (arg10.view.readAt (Elt F) _) (a10 _ _ _ _ _ _ _)) ((h101 inb_S2x256x512_S1x256x512_1_0_0).trans (by rw [hT]))
  have k13 := fun inb => ld_k arg4.view f4 0 (2 * (i 2).val + 1) (off13_eq i) inb
  have k14 := fun inb => ld_k arg4.view f4 1 (2 * (i 2).val + 1) (off14_eq i) inb
  have v15 := fun inb => ld_v arg5.view f5 0 (2 * (i 2).val) (off15_eq i) inb
  have v16 := fun inb => ld_v arg5.view f5 1 (2 * (i 2).val) (off16_eq i) inb
  have v17 := fun inb => ld_v arg5.view f5 0 (2 * (i 2).val + 1) (off17_eq i) inb
  have v18 := fun inb => ld_v arg5.view f5 1 (2 * (i 2).val + 1) (off18_eq i) inb
  have q0 := fun inb => ld_qr arg3.view f3 (off := ![0, 0, 256]) 0 rfl inb
  have q1 := fun inb => ld_qr arg3.view f3 (off := ![0, 128, 256]) 1 rfl inb
  have f0 : bodyRun.sl.v247 c i arg3 harg3 arg4 harg4 arg5 harg5 arg6 harg6 arg7 harg7 arg8 harg8 arg9 harg9 arg10 harg10 arg11 harg11 arg12 harg12 arg13 harg13 f3 f4 f5 s = fin (arg4.view.read (Elt F) f4) (arg3.view.read (Elt F) f3) (arg5.view.read (Elt F) f5) 0 (i 2).val := by
    simp only [bodyRun.sl.v165, bodyRun.sl.H9_3, bodyRun.sl.v255, bodyRun.sl.v45, bodyRun.sl.v221, bodyRun.sl.v237, bodyRun.sl.v8, bodyRun.sl.v196, bodyRun.sl.H8_2, bodyRun.sl.r_4, bodyRun.sl.r_6, bodyRun.sl.v46, bodyRun.sl.H9_2, bodyRun.sl.v206, bodyRun.sl.v180, bodyRun.sl.r_3, bodyRun.sl.H11_2, bodyRun.sl.v247, bodyRun.sl.r_2, bodyRun.sl.r_7, bodyRun.sl.v128, bodyRun.sl.H8_3, bodyRun.sl.v78, bodyRun.sl.H9_4, bodyRun.sl.r_5, e80, e81, e90, e91, e100, e101, View.readCov, row8_0, oth8_0, full80_0, oth80_0, full256_0, oth256_0, row8_1, oth8_1, full80_1, oth80_1, full256_1, oth256_1, othA_0, othB_0, othC_0, othD_0, othE_0, othF_0, fullF_0, subC_0, subD_0, init8_0, init9_0, halves_0, othA_1, othB_1, othC_1, othD_1, othE_1, othF_1, fullF_1, subC_1, subD_1, init8_1, init9_1, halves_1, k13, k14, v15, v16, v17, v18, q0, q1,
      pay80_eq, pay93_eq, pay94_eq, pay1_eq]
    rfl
  have f1 : bodyRun.sl.v255 c i arg3 harg3 arg4 harg4 arg5 harg5 arg6 harg6 arg7 harg7 arg8 harg8 arg9 harg9 arg10 harg10 arg11 harg11 arg12 harg12 arg13 harg13 f3 f4 f5 s = fin (arg4.view.read (Elt F) f4) (arg3.view.read (Elt F) f3) (arg5.view.read (Elt F) f5) 1 (i 2).val := by
    simp only [bodyRun.sl.v165, bodyRun.sl.H9_3, bodyRun.sl.v255, bodyRun.sl.v45, bodyRun.sl.v221, bodyRun.sl.v237, bodyRun.sl.v8, bodyRun.sl.v196, bodyRun.sl.H8_2, bodyRun.sl.r_4, bodyRun.sl.r_6, bodyRun.sl.v46, bodyRun.sl.H9_2, bodyRun.sl.v206, bodyRun.sl.v180, bodyRun.sl.r_3, bodyRun.sl.H11_2, bodyRun.sl.v247, bodyRun.sl.r_2, bodyRun.sl.r_7, bodyRun.sl.v128, bodyRun.sl.H8_3, bodyRun.sl.v78, bodyRun.sl.H9_4, bodyRun.sl.r_5, e80, e81, e90, e91, e100, e101, View.readCov, row8_0, oth8_0, full80_0, oth80_0, full256_0, oth256_0, row8_1, oth8_1, full80_1, oth80_1, full256_1, oth256_1, othA_0, othB_0, othC_0, othD_0, othE_0, othF_0, fullF_0, subC_0, subD_0, init8_0, init9_0, halves_0, othA_1, othB_1, othC_1, othD_1, othE_1, othF_1, fullF_1, subC_1, subD_1, init8_1, init9_1, halves_1, k13, k14, v15, v16, v17, v18, q0, q1,
      pay80_eq, pay93_eq, pay94_eq, pay1_eq]
    rfl
  rw [outBlk, ← f0, ← f1]
  rfl
end Body
end Cert.KernelIdeal.Fox
end
-- ==== Proof.KI.Body.lean ====
module

public import proofs.«01_k».proof.Proof.KI.State
public import Idealize.ShloMosaic.Lib.Quiescent

@[expose] public section

set_option maxRecDepth 16384

/-! The attention call over its grid: what every point leaves in its block of the result, and the run of the
    whole program. -/

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off00 : (![0, 0] : Fin 2 → ℕ) = fun _ => 0 := funext fun a => by fin_cases a <;> rfl

/-- A block stored whole is read back as what was stored. -/
theorem read_whole {sp : Space} (v : View sig .tc sp S512x128 .bf16) (f : v.ty.Contents (Elt F)) (w : Vec F S512x128 .bf16) :
    v.read (Elt F) (v.writes (Elt F) f [⟨Rect.unit (s := S512x128) ![0, 0] S512x128.size inb_S512x128_S512x128_0_0, w⟩]) = w := by
  funext j
  refine View.read_writes_cons_unit_of_mem v f inb_S512x128_S512x128_0_0 w [] j j rfl fun a => ?_
  match a with
  | 0 => exact (Nat.zero_add _).symm
  | 1 => exact (Nat.zero_add _).symm

section Triple
variable (c : Dev nD) (i : grid0.Coords) (arg3 : Memref sig .tc .vmem S1x256x512 .bf16) (harg3 : arg3.IsWhole) (arg4 : Memref sig .tc .vmem S8192x256 .bf16) (harg4 : arg4.IsWhole) (arg5 : Memref sig .tc .vmem S1x160x8192 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2x8x512 .f32) (harg8 : arg8.IsWhole) (arg9 : Memref sig .tc .vmem S2x80x512 .f32) (harg9 : arg9.IsWhole) (arg10 : Memref sig .tc .vmem S2x256x512 .f32) (harg10 : arg10.IsWhole) (arg11 : Memref sig .tc .vmem S2x256x512 .f32) (harg11 : arg11.IsWhole) (arg12 : Memref sig .tc .vmem S2x8x512 .f32) (harg12 : arg12.IsWhole) (arg13 : Memref sig .tc .vmem S2x8x512 .f32) (harg13 : arg13.IsWhole)

/-- A scratch buffer at some contents. -/
abbrev some' (c : Dev nD) {sp : Space} {S : Shape} {d : EltTy} (a : Memref sig .tc sp S d) : sProp 𝕄 :=
  iprop(∃ f : Buf (Elt F) (a.view.loc (c : Thread nD τ)), own c a f)

/-- The body leaves `outBlk` of its four input blocks in the result's block, whatever the scratch holds. -/
theorem body_triple (x3 : Vec F S1x256x512 .bf16) (x4 : Vec F S8192x256 .bf16) (x5 : Vec F S1x160x8192 .bf16) (x6 : Vec F S512x128 .f32)
    (K : PUnit → sProp 𝕄) :
    iprop((some' (F := F) c arg8 ∗ some' (F := F) c arg9 ∗ some' (F := F) c arg10 ∗ some' (F := F) c arg11 ∗ some' (F := F) c arg12 ∗ some' (F := F) c arg13)
        ∗ owns (c : Thread nD τ) arg3 fullShare x3 ∗ owns (c : Thread nD τ) arg4 fullShare x4
        ∗ owns (c : Thread nD τ) arg5 fullShare x5 ∗ owns (c : Thread nD τ) arg6 fullShare x6 ∗ (∃ d, owns (c : Thread nD τ) arg7 fullShare d)
        ∗ (iprop((some' (F := F) c arg8 ∗ some' (F := F) c arg9 ∗ some' (F := F) c arg10 ∗ some' (F := F) c arg11 ∗ some' (F := F) c arg12 ∗ some' (F := F) c arg13)
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (outBlk x4 x3 x5 x6 (i 2).val)) -∗ K ⟨⟩))
      ⊢ wp Idealize.ShloMosaic.frame (wpE (defs₀ (F := F)) 𝒱₀ (c : Thread nD τ) none) Set.univ
          (cc0_fox (F := F) i arg3 harg3 arg4 harg4 arg5 harg5 arg6 harg6 arg7 harg7 arg8 harg8 arg9 harg9 arg10 harg10 arg11 harg11 arg12 harg12 arg13 harg13) K := by
  unfold owns
  iintro ⟨⟨⟨%b8, H8⟩, ⟨%b9, H9⟩, ⟨%b10, H10⟩, ⟨%b11, H11⟩, ⟨%b12, H12⟩, ⟨%b13, H13⟩⟩, ⟨%f3, %h3, H3⟩, ⟨%f4, %h4, H4⟩, ⟨%f5, %h5, H5⟩, ⟨%f6, %h6, H6⟩, ⟨%d7, %f7, -, H7⟩, Hk⟩
  have hr := (bodyRun c i arg3 harg3 arg4 harg4 arg5 harg5 arg6 harg6 arg7 harg7 arg8 harg8 arg9 harg9 arg10 harg10 arg11 harg11 arg12 harg12 arg13 harg13 f3 f4 f5 f6 f7 ⟨b8, b9, b10, b11, b12, b13⟩).2
  iapply (wp_wand_r _ _ _)
  isplitl [H3 H4 H5 H6 H7 H8 H9 H10 H11 H12 H13]
  · iapply hr
    isplitl [H6]; · iexact H6
    isplitl [H7]; · iexact H7
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    iexact H13
  iintro %a ⟨H6, H7, ⟨%s, H3, H4, H5, H8, H9, H10, H11, H12, H13⟩⟩
  iapply Hk
  isplitl [H8 H9 H10 H11 H12 H13]
  · isplitl [H8]; · iexists _; iexact H8
    isplitl [H9]; · iexists _; iexact H9
    isplitl [H10]; · iexists _; iexact H10
    isplitl [H11]; · iexists _; iexact H11
    isplitl [H12]; · iexists _; iexact H12
    iexists _; iexact H13
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  iexists _; isplitr; swap; · iexact H7
  ipureintro
  rw [body_out, h3, h4, h5, View.readAt_eq_ld, h6, View.ld_unit_zero off00]
  exact read_whole _ _ _
end Triple

/-- The six scratch buffers at some contents, as the pipeline hands them over. -/
theorem scratch_eq (c : Dev nD) :
    (Pipeline.scopedRest (Ix := Unit) (Name := ℕ) (U := UR sig nD τ) (Lvl := ℕ) (Val := Elt F) spec0 c : sProp 𝕄)
      = iprop(some' (F := F) c (Memref.whole cc0_scratch0) ∗ some' (F := F) c (Memref.whole cc0_scratch1) ∗ some' (F := F) c (Memref.whole cc0_scratch2)
        ∗ some' (F := F) c (Memref.whole cc0_scratch3) ∗ some' (F := F) c (Memref.whole cc0_scratch4) ∗ some' (F := F) c (Memref.whole cc0_scratch5)) := by
  have e : ∀ b : Ref sig .tc, (some' (F := F) c (Memref.whole b) : sProp 𝕄)
      = iprop(∃ f : Buf (Elt F) ((c : Thread nD τ).loc b), ((c : Thread nD τ).loc b) ↦{fullShare} f) := fun b => by
    show (iprop(∃ f : Buf (Elt F) ((c : Thread nD τ).loc b), (Memref.whole b).view.loc (c : Thread nD τ) ↦[(Memref.whole b).view.set]{fullShare} f) : sProp 𝕄) = _
    rw [show (Memref.whole b).view.set = Finset.univ from View.set_whole b]
  rw [scopedRest0_eq, e, e, e, e, e, e]

variable (m : (ℓ : Loc nD τ sig) → Buf (Elt F) ℓ) (ρ : Dev nD → PrngReg)

/-- What point `t` leaves in its block of the result. -/
def outAt (c : Dev nD) (t : Fin cfg0.N) : Vec F S512x128 .bf16 :=
  outBlk (iblk m c 1 t) (iblk m c 0 t) (iblk m c 2 t) (iblk m c 3 t) ((grid0.coords t) 2).val

/-- The arrays as launched; after each point the inputs' blocks as they were and the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body table's row at a point is the body there. -/
theorem row_at (t : Fin cfg0.N) : defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) 𝒱₀ () Set.univ := fun t => by
  rw [bigSep_W0, bigSep_W0, row_at]
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4]
  unfold Pipeline.ΦA bodyAt0 outAt
  rw [scratch_eq]
  iintro ⟨⟨Hs, Hp⟩, Ho, ⟨%d0, H0⟩, ⟨%d1, H1⟩, ⟨%d2, H2⟩, ⟨%d3, H3⟩, ⟨%d4, H4⟩⟩
  iapply (body_triple c (grid0.coords t) _ _ _ _ _ _ _ _ _ _ _ _ _ _ _ _ _ _ _ _ _ _ (iblk m c 0 t) (iblk m c 1 t) (iblk m c 2 t) (iblk m c 3 t) _)
  isplitl [Hs]; · iexact Hs
  isplitl [H0]; · iexact H0
  isplitl [H1]; · iexact H1
  isplitl [H2]; · iexact H2
  isplitl [H3]; · iexact H3
  isplitl [H4]; · iexists _; iexact H4
  iintro ⟨Hs, H0, H1, H2, H3, H4⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  iexact H4

set_option backward.isDefEq.respectTransparency.types false in
/-- Every run of the program ends, with each array at what the points leave in it and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The program ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_main m ρ)

end Cert.KernelIdeal.Fox
end
-- ==== Proof.KV.Online.lean ====
module

public import Idealize.ShloMosaic.PureOps.Ideal

@[expose] public section

/-! The softmax in one pass. Scores and values are given by a key's number; a score is a real or, where the key is
hidden from the query, the bottom. After the first `N` keys the state is the largest score `big s N` and the sum
`acc s v N` of the values weighted by two to the score less the largest. -/

noncomputable section

namespace Cert.Fox

open Idealize.ShloMosaic

/-- The largest of the first `N` scores. -/
def big (s : ℕ → EReal) (N : ℕ) : EReal := (Finset.range N).sup s

/-- The first `N` values, weighted. -/
def acc (s v : ℕ → EReal) (N : ℕ) : EReal := ∑ j ∈ Finset.range N, v j * Ideal.exp2 (s j - big s N)

/-- Scores of which the first is a real and none is the top. -/
structure Scores (s : ℕ → EReal) : Prop where
  top : ∀ j, s j ≠ ⊤
  bot : s 0 ≠ ⊥

theorem exp2_nonneg (x : EReal) : 0 ≤ Ideal.exp2 x := by
  induction x with
  | bot => exact le_refl _
  | top => exact le_top
  | coe r => rw [Ideal.exp2_coe]; exact EReal.coe_nonneg.mpr (Real.rpow_nonneg (by norm_num) r)

theorem exp2_real (r : ℝ) : Ideal.exp2 (r : EReal) ≠ ⊤ := by rw [Ideal.exp2_coe]; exact EReal.coe_ne_top _

/-- Weights compose: from one largest score to a later one. -/
theorem exp2_mul (x : EReal) (hx : x ≠ ⊤) (a b : ℝ) :
    Ideal.exp2 (x - a) * Ideal.exp2 ((a : EReal) - b) = Ideal.exp2 (x - b) := by
  induction x with
  | top => exact absurd rfl hx
  | bot =>
    rw [EReal.bot_sub, EReal.bot_sub, Ideal.exp2_bot, zero_mul]
  | coe r =>
    rw [← EReal.coe_sub, ← EReal.coe_sub, ← EReal.coe_sub, Ideal.exp2_coe, Ideal.exp2_coe, Ideal.exp2_coe, ← EReal.coe_mul]
    refine congrArg _ ?_
    show (2 : ℝ) ^ (r - a) * 2 ^ (a - b) = 2 ^ (r - b)
    rw [← Real.rpow_add (by norm_num)]
    congr 1; ring

/-- A nonnegative number other than the top goes inside a sum. -/
theorem sum_mul_of_nonneg {ι : Type} (S : Finset ι) (f : ι → EReal) (c : EReal) (h0 : 0 ≤ c) (h1 : c ≠ ⊤) :
    (∑ j ∈ S, f j) * c = ∑ j ∈ S, f j * c := by
  classical
  induction S using Finset.induction_on with
  | empty => rw [Finset.sum_empty, Finset.sum_empty, zero_mul]
  | insert a S ha ih =>
    rw [Finset.sum_insert ha, Finset.sum_insert ha, EReal.right_distrib_of_nonneg_of_ne_top h0 h1, ih]

theorem coe_sum {ι : Type} (S : Finset ι) (f : ι → ℝ) : ((∑ j ∈ S, f j : ℝ) : EReal) = ∑ j ∈ S, (f j : EReal) := by
  classical
  induction S using Finset.induction_on with
  | empty => rfl
  | insert a S ha ih => rw [Finset.sum_insert ha, Finset.sum_insert ha, EReal.coe_add, ih]

/-- Division by a positive real is multiplication by its inverse. -/
theorem div_pos (x : EReal) (r : ℝ) (h : 0 < r) : Ideal.div x r = x * ((r⁻¹ : ℝ) : EReal) := by
  unfold Ideal.div
  rw [if_neg (fun e => h.ne' (EReal.coe_eq_zero.mp e)), EReal.coe_inv]

theorem big_zero (s : ℕ → EReal) : big s 0 = ⊥ := rfl

theorem acc_zero (s v : ℕ → EReal) : acc s v 0 = 0 := rfl

/-- A block's largest score joins the largest so far. -/
theorem big_add (s : ℕ → EReal) (N n : ℕ) (x : EReal) (hx : x = Finset.univ.sup fun k : Fin n => s (N + k.val)) :
    max (big s N) x = big s (N + n) := by
  subst hx
  refine le_antisymm (max_le ?_ ?_) ?_
  · exact Finset.sup_mono (Finset.range_mono (Nat.le_add_right N n))
  · refine Finset.sup_le fun k _ => ?_
    exact Finset.le_sup (f := s) (Finset.mem_range.mpr (Nat.add_lt_add_left k.isLt N))
  · refine Finset.sup_le fun j hj => ?_
    have hj' := Finset.mem_range.mp hj
    by_cases h : j < N
    · exact le_max_of_le_left (Finset.le_sup (f := s) (Finset.mem_range.mpr h))
    · refine le_max_of_le_right ?_
      have e : s j = (fun k : Fin n => s (N + k.val)) ⟨j - N, by omega⟩ := congrArg s (by show j = N + (j - N); omega)
      rw [e]
      exact Finset.le_sup (f := fun k : Fin n => s (N + k.val)) (Finset.mem_univ _)

/-- Once there is a key the largest score is a real. -/
theorem big_real {s : ℕ → EReal} (hs : Scores s) (N : ℕ) (hN : 0 < N) : ∃ r : ℝ, big s N = r := by
  have hb : big s N ≠ ⊥ := fun h => hs.bot (le_bot_iff.mp (h ▸ Finset.le_sup (f := s) (Finset.mem_range.mpr hN)))
  have ht : big s N ≠ ⊤ := ((Finset.sup_lt_iff (f := s) bot_lt_top).mpr fun j _ => lt_top_iff_ne_top.mpr (hs.top j)).ne
  exact ⟨(big s N).toReal, (EReal.coe_toReal ht hb).symm⟩

/-- One step: the sum so far is rescaled and the block's keys are added. -/
theorem acc_add {s : ℕ → EReal} (hs : Scores s) (v : ℕ → EReal) (N n : ℕ) (hn : 0 < n) :
    acc s v N * Ideal.exp2 (big s N - big s (N + n))
      + ∑ k : Fin n, v (N + k.val) * Ideal.exp2 (s (N + k.val) - big s (N + n)) = acc s v (N + n) := by
  obtain ⟨b, hb⟩ := big_real hs (N + n) (by omega)
  refine Eq.trans ?_ (Finset.sum_range_add (fun j => v j * Ideal.exp2 (s j - big s (N + n))) N n).symm
  refine congr (congrArg (HAdd.hAdd (α := EReal)) ?_) (Finset.sum_range (fun j => v (N + j) * Ideal.exp2 (s (N + j) - big s (N + n)))).symm
  by_cases h : N = 0
  · subst h; rw [acc_zero, zero_mul]; rfl
  · obtain ⟨a, ha⟩ := big_real hs N (by omega)
    unfold acc
    rw [hb, ha, sum_mul_of_nonneg _ _ _ (exp2_nonneg _) (by rw [← EReal.coe_sub]; exact exp2_real _)]
    refine Finset.sum_congr rfl fun j _ => ?_
    rw [mul_assoc, exp2_mul (s j) (hs.top j) a b]

/-- Hidden keys after the last visible one leave the largest score. -/
theorem big_ext (s : ℕ → EReal) (N N' : ℕ) (hN : N ≤ N') (h : ∀ j, N ≤ j → s j = ⊥) : big s N' = big s N := by
  refine le_antisymm (Finset.sup_le fun j _ => ?_) (Finset.sup_mono (Finset.range_mono hN))
  by_cases hj : j < N
  · exact Finset.le_sup (f := s) (Finset.mem_range.mpr hj)
  · rw [h j (by omega)]; exact bot_le

/-- Nor do they change the weighted sum. -/
theorem acc_ext {s : ℕ → EReal} (v : ℕ → EReal) (N N' : ℕ) (hN : N ≤ N') (h : ∀ j, N ≤ j → s j = ⊥) :
    acc s v N' = acc s v N := by
  unfold acc
  rw [big_ext s N N' hN h]
  refine (Finset.sum_subset (Finset.range_mono hN) fun j _ hj => ?_).symm
  rw [h j (by have := mt Finset.mem_range.mpr hj; omega), EReal.bot_sub, Ideal.exp2_bot, mul_zero]

/-- The weights' sum is a positive real. -/
theorem acc_one {s : ℕ → EReal} (hs : Scores s) (N : ℕ) (hN : 0 < N) : ∃ r : ℝ, acc s (fun _ => 1) N = r ∧ 0 < r := by
  obtain ⟨b, hb⟩ := big_real hs N hN
  have hw : ∀ j, ∃ r : ℝ, Ideal.exp2 (s j - big s N) = r ∧ 0 ≤ r := by
    intro j
    rw [hb]
    induction hj : s j with
    | top => exact absurd hj (hs.top j)
    | bot => exact ⟨0, by rw [EReal.bot_sub]; rfl, le_refl _⟩
    | coe r => exact ⟨2 ^ (r - b), by rw [← EReal.coe_sub, Ideal.exp2_coe]; rfl, Real.rpow_nonneg (by norm_num) _⟩
  choose w hw h0 using hw
  refine ⟨∑ j ∈ Finset.range N, w j, ?_, ?_⟩
  · unfold acc
    rw [coe_sum]
    exact Finset.sum_congr rfl fun j _ => by rw [one_mul, hw j]
  · have h1 : 0 < w 0 := by
      have e := hw 0
      rw [hb] at e
      induction hj : s 0 with
      | top => exact absurd hj (hs.top 0)
      | bot => exact absurd hj hs.bot
      | coe r =>
        rw [hj, ← EReal.coe_sub, Ideal.exp2_coe] at e
        rw [← EReal.coe_eq_coe_iff.mp e]
        exact Real.rpow_pos_of_pos (by norm_num) _
    exact Finset.sum_pos' (fun j _ => h0 j) ⟨0, Finset.mem_range.mpr hN, h1⟩

/-- The quotient of the weighted sum by the sum of the weights is the sum weighted by the quotients. -/
theorem acc_div {s : ℕ → EReal} (hs : Scores s) (v : ℕ → EReal) (N : ℕ) (hN : 0 < N) :
    Ideal.div (acc s v N) (acc s (fun _ => 1) N)
      = ∑ j ∈ Finset.range N, v j * Ideal.div (Ideal.exp2 (s j - big s N)) (acc s (fun _ => 1) N) := by
  obtain ⟨r, hr, h0⟩ := acc_one hs N hN
  rw [hr]
  rw [div_pos _ r h0]
  unfold acc
  rw [sum_mul_of_nonneg _ _ _ (EReal.coe_nonneg.mpr (inv_nonneg.mpr h0.le)) (EReal.coe_ne_top _)]
  exact Finset.sum_congr rfl fun j _ => by rw [div_pos _ r h0, mul_assoc]

/-- The power of the real two is two to it, the infinities included. -/
theorem two_pow (x : EReal) : Ideal.pow ((2 : ℝ) : EReal) x = Ideal.exp2 x := by
  induction x with
  | bot => rw [Ideal.pow_coe_bot, if_neg (by norm_num), if_pos (by norm_num)]; rfl
  | top => rw [Ideal.pow_coe_top, if_neg (by norm_num), if_pos (by norm_num)]; rfl
  | coe r => rw [Ideal.pow_coe_coe, Ideal.exp2_coe]

end Cert.Fox
end
-- ==== Proof.Mm.lean ====
module

public import Idealize.ShloMosaic.Lib.ValueIdx
public import Idealize.ShloMosaic.Lib.Pointwise
public import Idealize.ShloMosaic.Lib.Pipeline.Value

@[expose] public section

/-! A matrix product over the extended reals, read at one place. -/

noncomputable section

namespace Cert.Fox

open Idealize.ShloMosaic hiding ix0 ix1 ix2 ix3 ix4 ix5
open Idealize.ShloMosaic.ValueIdx

/-- A product of an `M×K` by a `K×N` matrix onto an accumulator, at row `i 0` and column `i 1`. -/
theorem matmul_plain {M K N : ℕ} {φ₁ φ₂ : FTy} (d : DotDims ⟨2, ![M, K]⟩ ⟨2, ![K, N]⟩ ⟨2, ![M, N]⟩)
    (hd : d = DotDims.plain M K N) (p : Option ContractPrecision)
    (x : FVec Ideal ⟨2, ![M, K]⟩ φ₁) (y : FVec Ideal ⟨2, ![K, N]⟩ φ₂) (acc : FVec Ideal ⟨2, ![M, N]⟩ .f32)
    (i : (⟨2, ![M, N]⟩ : Shape).Idx) :
    matmul d p x y acc i = (acc i : EReal) + ∑ k : Fin K, ((x (ix2 (i 0) k) : EReal) * y (ix2 k (i 1))) := by
  subst hd
  show Ideal.matmul (DotDims.plain M K N) x y acc i = _
  refine Ideal.matmul_apply₁_of (DotDims.plain M K N) (a := 1) rfl (K := K) rfl x y acc i
    (fun k => ix2 (i 0) k) (fun k => ix2 k (i 1)) (fun k => ?_) fun k => ?_
  · funext a
    match a with
    | 0 => rfl
    | 1 => rfl
  · funext a
    match a with
    | 0 => rfl
    | 1 => rfl

/-- The same onto an accumulator of zeros. -/
theorem matmul_plain_zero {M K N : ℕ} {φ₁ φ₂ : FTy} (d : DotDims ⟨2, ![M, K]⟩ ⟨2, ![K, N]⟩ ⟨2, ![M, N]⟩)
    (hd : d = DotDims.plain M K N) (p : Option ContractPrecision)
    (x : FVec Ideal ⟨2, ![M, K]⟩ φ₁) (y : FVec Ideal ⟨2, ![K, N]⟩ φ₂) (i : (⟨2, ![M, N]⟩ : Shape).Idx) :
    matmul d p x y (constant _ .f32 0x00000000#32) i = ∑ k : Fin K, ((x (ix2 (i 0) k) : EReal) * y (ix2 k (i 1))) := by
  rw [matmul_plain d hd]
  show Ideal.ofBits .f32 0x00000000#32 + _ = _
  rw [Ideal.ofBits_zero_f32, zero_add]

end Cert.Fox
end
-- ==== Proof.KV.Vec.lean ====
module

public import proofs.«01_k».proof.Proof.Mm
public import Idealize.ShloMosaic.Lib.KernelVsHost

@[expose] public section

/-! Readings at one place of the layout operations the attention uses, for any extents, and of its comparisons. -/

noncomputable section

namespace Cert.Fox

open Idealize.ShloMosaic hiding ix0 ix1 ix2 ix3 ix4 ix5
open Idealize.ShloMosaic.ValueIdx

section Layout
variable {α : Type} {a b : ℕ}

/-- A leading axis of extent one dropped. -/
theorem drop_apply (x : (⟨3, ![1, a, b]⟩ : Shape).Idx → α) (h : (⟨3, ![1, a, b]⟩ : Shape).ShapeCasts ⟨2, ![a, b]⟩) (i : Fin a) (j : Fin b) :
    shapeCast (⟨2, ![a, b]⟩ : Shape) x h (ix2 i j) = x (ix3 (0 : Fin 1) i j) :=
  shapeCast_apply x h (ix2 i j) (ix3 (0 : Fin 1) i j) (by
    rw [Shape.rowMajor_val_three, Shape.rowMajor_val_two]
    show (0 * a + i.val) * b + j.val = i.val * b + j.val
    rw [Nat.zero_mul, Nat.zero_add])

/-- A leading axis of extent one added. -/
theorem lead_apply (x : (⟨2, ![a, b]⟩ : Shape).Idx → α) (h : (⟨2, ![a, b]⟩ : Shape).ShapeCasts ⟨3, ![1, a, b]⟩) (i : Fin a) (j : Fin b) :
    shapeCast (⟨3, ![1, a, b]⟩ : Shape) x h (ix3 (0 : Fin 1) i j) = x (ix2 i j) :=
  shapeCast_apply x h (ix3 (0 : Fin 1) i j) (ix2 i j) (by
    rw [Shape.rowMajor_val_three, Shape.rowMajor_val_two]
    show i.val * b + j.val = (0 * a + i.val) * b + j.val
    rw [Nat.zero_mul, Nat.zero_add])

/-- A vector laid as one row. -/
theorem asRow_apply (x : (⟨1, ![b]⟩ : Shape).Idx → α) (h : (⟨1, ![b]⟩ : Shape).ShapeCasts ⟨2, ![1, b]⟩) (j : Fin b) :
    shapeCast (⟨2, ![1, b]⟩ : Shape) x h (ix2 (0 : Fin 1) j) = x (ix1 j) :=
  shapeCast_apply x h (ix2 (0 : Fin 1) j) (ix1 j) (by
    rw [Shape.rowMajor_val_two, Shape.rowMajor_val_one]
    show j.val = 0 * b + j.val
    rw [Nat.zero_mul, Nat.zero_add])

/-- A shape cast to the same shape. -/
theorem same_apply (x : (⟨2, ![a, b]⟩ : Shape).Idx → α) (h : (⟨2, ![a, b]⟩ : Shape).ShapeCasts ⟨2, ![a, b]⟩) (i : Fin a) (j : Fin b) :
    shapeCast (⟨2, ![a, b]⟩ : Shape) x h (ix2 i j) = x (ix2 i j) :=
  shapeCast_apply x h (ix2 i j) (ix2 i j) rfl

/-- One row repeated. -/
theorem rows_apply (x : (⟨2, ![1, b]⟩ : Shape).Idx → α) (h : (⟨2, ![1, b]⟩ : Shape).Broadcasts ⟨2, ![a, b]⟩) (i : Fin a) (j : Fin b) :
    broadcastTo (⟨2, ![a, b]⟩ : Shape) x h (ix2 i j) = x (ix2 (0 : Fin 1) j) :=
  broadcastTo_apply x h (ix2 i j) (ix2 (0 : Fin 1) j) (by
    intro c
    match c with
    | 0 => rfl
    | 1 =>
      show j.val = if b = 1 then 0 else j.val
      split
      · have := j.isLt; omega
      · rfl)

end Layout

theorem negInf : Ideal.ofBits .f32 0xFF800000#32 = ⊥ := by
  simp [Ideal.ofBits, Ideal.ieee]

/-- The largest entry of a column. -/
theorem colMax_apply {n b : ℕ} (x : FVec Ideal ⟨2, ![n, b]⟩ .f32) (h : (⟨2, ![n, b]⟩ : Shape).Reduces [0] ⟨1, ![b]⟩)
    (hφ : FKind.Formats .f32) (hacc : (0xFF800000#32 : BitVec 32) = FKind.maximumf.neutral .f32 hφ) (j : Fin b) :
    multiReduction .maximumf [0] (⟨1, ![b]⟩ : Shape) x 0xFF800000#32 h hφ hacc (ix1 j)
      = (Finset.univ : Finset (Fin n)).sup fun k => (x (ix2 k j) : EReal) := by
  refine (Ideal.multiReduction_maximumf_single x 0xFF800000#32 h hφ hacc (ix1 j)).trans ?_
  refine (congrArg (fun t => (Finset.univ : Finset (Fin n)).fold max t (x ∘ h.lift (ix1 j))) negInf).trans ?_
  refine congrArg (fun f : Fin n → EReal => (Finset.univ : Finset (Fin n)).fold max ⊥ f) (funext fun k => congrArg x (funext fun c => ?_))
  match c with
  | 0 => rfl
  | 1 => rfl

/-- The largest entry along the last of four axes, as the reference takes it. -/
theorem lastMax_apply {n0 n1 n2 n : ℕ} (x : FVec Ideal ⟨4, ![n0, n1, n2, n]⟩ .f32) (h : (⟨4, ![n0, n1, n2, n]⟩ : Shape).ReducesTo [3] ⟨3, ![n0, n1, n2]⟩)
    (hu : 0 < (⟨0, ![]⟩ : Shape).numel) (a : Fin n0) (b : Fin n1) (c : Fin n2) :
    Host.reduce FloatOps.maximumf x (constant (F := Ideal) (⟨0, ![]⟩ : Shape) .f32 0xFF800000#32) h hu (ix3 a b c)
      = (Finset.univ : Finset (Fin n)).sup fun k => (x (ix4 a b c k) : EReal) := by
  have hr : (⟨4, ![n0, n1, n2, n]⟩ : Shape).Reduces [3] ⟨3, ![n0, n1, n2]⟩ := ⟨h.1, Nat.succ_pos 2, h.2⟩
  refine (congrFun (hostReduce_maximumf_eq_multiReduction x 0xFF800000#32 h hu hr (Or.inl rfl) rfl) (ix3 a b c)).trans ?_
  refine (Ideal.multiReduction_maximumf_single x 0xFF800000#32 hr (Or.inl rfl) rfl (ix3 a b c)).trans ?_
  refine (congrArg (fun z => (Finset.univ : Finset (Fin n)).fold max z (x ∘ hr.lift (ix3 a b c))) negInf).trans ?_
  refine congrArg (fun f : Fin n → EReal => (Finset.univ : Finset (Fin n)).fold max ⊥ f) (funext fun k => congrArg x (funext fun c => ?_))
  match c with
  | 0 => rfl
  | 1 => rfl
  | 2 => rfl
  | 3 => rfl

/-- Signed comparison of two small words is comparison of the numbers. -/
theorem sle_ofNat (x y : ℕ) (hx : x < 2 ^ 31) (hy : y < 2 ^ 31) :
    IntOp.cmpi .sle (BitVec.ofNat 32 x) (BitVec.ofNat 32 y) = if x ≤ y then 1#1 else 0#1 := by
  have e : (BitVec.ofNat 32 x).sle (BitVec.ofNat 32 y) = decide (x ≤ y) := by
    have ti : ∀ n : ℕ, n < 2 ^ 31 → (BitVec.ofNat 32 n).toInt = n := fun n h => by
      rw [BitVec.toInt_eq_toNat_of_lt (by rw [BitVec.toNat_ofNat]; omega), BitVec.toNat_ofNat, Nat.mod_eq_of_lt (by omega)]
    rw [BitVec.sle_eq_decide, ti x hx, ti y hy]
    exact decide_eq_decide.mpr Int.ofNat_le
  show BitVec.ofBool ((BitVec.ofNat 32 x).sle (BitVec.ofNat 32 y)) = _
  rw [e]
  by_cases h : x ≤ y
  · rw [if_pos h, decide_eq_true h]; rfl
  · rw [if_neg h, decide_eq_false h]; rfl

end Cert.Fox
end
-- ==== Proof.KV.Pay.lean ====
module

public import proofs.«01_k».proof.Proof.KI.Model
public import proofs.«01_k».proof.Proof.KV.Vec

@[expose] public section

set_option maxRecDepth 16384

/-! The attention body's expressions over the extended reals, read at one place. -/

noncomputable section

namespace Cert.KernelIdeal.Fox

open Cert.KernelIdeal Cert.KernelIdeal.Gen Cert.Fox
open Idealize.ShloMosaic hiding ix0 ix1 ix2 ix3 ix4 ix5
open Idealize.ShloMosaic.ValueIdx

/-- Addends and factors of equal values. -/
theorem add_eq {a b c d : EReal} (h : a = c) (k : b = d) : a + b = c + d := by rw [h, k]
theorem mul_eq {a b c d : EReal} (h : a = c) (k : b = d) : a * b = c * d := by rw [h, k]
theorem weight_eq {a b c d : EReal} (h : a = c) (k : b = d) : Ideal.exp2 (a - b) = Ideal.exp2 (c - d) := by rw [h, k]
theorem max_eq {a b c d : EReal} (h : a = c) (k : b = d) : max a b = max c d := by rw [h, k]

section
variable (kb : S256x128.Idx → EReal) (qr : S1x128x512.Idx → EReal) (x m : S1x1x512.Idx → EReal) (s : S1x256x512.Idx → EReal)
  (r : S256x512.Idx → EReal) (v : S1x80x256.Idx → EReal) (a : S1x80x512.Idx → EReal) (c : Fin 512)

/-- One score: a key with a query. -/
theorem pay3_apply (k : Fin 256) :
    k0_pay3 (F := Ideal) kb qr (ix2 k c) = ∑ i : Fin 128, kb (ix2 k i) * qr (ix3 (0 : Fin 1) i c) := by
  refine (matmul_plain_zero (φ₁ := .bf16) (φ₂ := .bf16) dot_S256x128_S128x512_S256x512_1_0_0_1_n_n rfl none kb _ (ix2 k c)).trans ?_
  exact Finset.sum_congr rfl fun i _ => mul_eq rfl (drop_apply qr shapeCasts_S1x128x512_S128x512 i c)

theorem pay4_apply (k : Fin 256) :
    k0_pay4 (F := Ideal) kb qr (ix3 (0 : Fin 1) k c) = ∑ i : Fin 128, kb (ix2 k i) * qr (ix3 (0 : Fin 1) i c) := by
  unfold k0_pay4
  exact (lead_apply _ shapeCasts_S256x512_S1x256x512 k c).trans (pay3_apply kb qr c k)

/-- The largest score of a block, and the first row of its eight copies. -/
theorem pay5_apply :
    row0 (n := 512) (k0_pay5 (F := Ideal) kb qr) (ix3 (0 : Fin 1) (0 : Fin 1) c)
      = (Finset.univ : Finset (Fin 256)).sup fun k => ∑ i : Fin 128, kb (ix2 k i) * qr (ix3 (0 : Fin 1) i c) := by
  show k0_pay5 (F := Ideal) kb qr (ix3 (0 : Fin 1) (0 : Fin 8) c) = _
  unfold k0_pay5
  refine (lead_apply _ shapeCasts_S8x512_S1x8x512 (0 : Fin 8) c).trans ?_
  refine (rows_apply _ broadcasts_S1x512_S8x512 (0 : Fin 8) c).trans ?_
  refine (same_apply _ shapeCasts_S1x512_S1x512 (0 : Fin 1) c).trans ?_
  refine (asRow_apply _ shapeCasts_S512_S1x512 c).trans ?_
  refine (colMax_apply _ reduces_S256x512_S512 (.inl rfl) rfl c).trans ?_
  exact congrArg (Finset.sup Finset.univ) (funext fun k => pay3_apply kb qr c k)

theorem pay11_apply :
    k0_pay11 (F := Ideal) x m (ix2 (0 : Fin 1) c) = max (m (ix3 (0 : Fin 1) (0 : Fin 1) c)) (x (ix3 (0 : Fin 1) (0 : Fin 1) c)) :=
  max_eq (drop_apply m shapeCasts_S1x1x512_S1x512 (0 : Fin 1) c) (drop_apply x shapeCasts_S1x1x512_S1x512 (0 : Fin 1) c)

/-- The new largest score. -/
theorem pay12_apply :
    row0 (n := 512) (k0_pay12 (F := Ideal) x m) (ix3 (0 : Fin 1) (0 : Fin 1) c)
      = max (m (ix3 (0 : Fin 1) (0 : Fin 1) c)) (x (ix3 (0 : Fin 1) (0 : Fin 1) c)) := by
  show k0_pay12 (F := Ideal) x m (ix3 (0 : Fin 1) (0 : Fin 8) c) = _
  unfold k0_pay12
  refine (lead_apply _ shapeCasts_S8x512_S1x8x512 (0 : Fin 8) c).trans ?_
  refine (rows_apply _ broadcasts_S1x512_S8x512 (0 : Fin 8) c).trans ?_
  exact (same_apply _ shapeCasts_S1x512_S1x512 (0 : Fin 1) c).trans (pay11_apply x m c)

/-- The new weighted sum. -/
theorem pay13_apply (d : Fin 80) :
    k0_pay14 (F := Ideal) (k0_pay13 s x m v a) (ix3 (0 : Fin 1) d c)
      = a (ix3 (0 : Fin 1) d c) * Ideal.exp2 (m (ix3 (0 : Fin 1) (0 : Fin 1) c) - max (m (ix3 (0 : Fin 1) (0 : Fin 1) c)) (x (ix3 (0 : Fin 1) (0 : Fin 1) c)))
        + ∑ k : Fin 256, v (ix3 (0 : Fin 1) d k)
            * Ideal.exp2 (s (ix3 (0 : Fin 1) k c) - max (m (ix3 (0 : Fin 1) (0 : Fin 1) c)) (x (ix3 (0 : Fin 1) (0 : Fin 1) c))) := by
  unfold k0_pay14 k0_pay13
  refine (lead_apply _ shapeCasts_S80x512_S1x80x512 d c).trans ?_
  refine add_eq (mul_eq (drop_apply a shapeCasts_S1x80x512_S80x512 d c) ?_) ?_
  · refine (rows_apply _ broadcasts_S1x512_S80x512 d c).trans ?_
    exact weight_eq (drop_apply m shapeCasts_S1x1x512_S1x512 (0 : Fin 1) c) (pay11_apply x m c)
  · refine (matmul_plain_zero (φ₁ := .bf16) (φ₂ := .bf16) dot_S80x256_S256x512_S80x512_1_0_0_1_n_n rfl none _ _ (ix2 d c)).trans ?_
    refine Finset.sum_congr rfl fun k _ => mul_eq (drop_apply v shapeCasts_S1x80x256_S80x256 d k) ?_
    exact weight_eq (drop_apply s shapeCasts_S1x256x512_S256x512 k c) ((rows_apply _ broadcasts_S1x512_S256x512 k c).trans (pay11_apply x m c))

theorem pay84_apply :
    k0_pay84 (F := Ideal) r m (ix2 (0 : Fin 1) c)
      = max (m (ix3 (0 : Fin 1) (0 : Fin 1) c)) ((Finset.univ : Finset (Fin 256)).sup fun k => r (ix2 k c)) :=
  max_eq (drop_apply m shapeCasts_S1x1x512_S1x512 (0 : Fin 1) c)
    ((asRow_apply _ shapeCasts_S512_S1x512 c).trans (colMax_apply r reduces_S256x512_S512 (.inl rfl) rfl c))

/-- The new largest score, the left block of the diagonal. -/
theorem pay85_apply :
    row0 (n := 512) (k0_pay85 (F := Ideal) r m) (ix3 (0 : Fin 1) (0 : Fin 1) c)
      = max (m (ix3 (0 : Fin 1) (0 : Fin 1) c)) ((Finset.univ : Finset (Fin 256)).sup fun k => r (ix2 k c)) := by
  show k0_pay85 (F := Ideal) r m (ix3 (0 : Fin 1) (0 : Fin 8) c) = _
  unfold k0_pay85
  refine (lead_apply _ shapeCasts_S8x512_S1x8x512 (0 : Fin 8) c).trans ?_
  refine (rows_apply _ broadcasts_S1x512_S8x512 (0 : Fin 8) c).trans ?_
  exact (same_apply _ shapeCasts_S1x512_S1x512 (0 : Fin 1) c).trans (pay84_apply m r c)

/-- The new weighted sum, the left block of the diagonal. -/
theorem pay86_apply (d : Fin 80) :
    k0_pay86 (F := Ideal) r m v a (ix3 (0 : Fin 1) d c)
      = a (ix3 (0 : Fin 1) d c) * Ideal.exp2 (m (ix3 (0 : Fin 1) (0 : Fin 1) c) - max (m (ix3 (0 : Fin 1) (0 : Fin 1) c)) ((Finset.univ : Finset (Fin 256)).sup fun k => r (ix2 k c)))
        + ∑ k : Fin 256, v (ix3 (0 : Fin 1) d k)
            * Ideal.exp2 (r (ix2 k c) - max (m (ix3 (0 : Fin 1) (0 : Fin 1) c)) ((Finset.univ : Finset (Fin 256)).sup fun k => r (ix2 k c))) := by
  unfold k0_pay86
  refine (lead_apply _ shapeCasts_S80x512_S1x80x512 d c).trans ?_
  refine add_eq (mul_eq (drop_apply a shapeCasts_S1x80x512_S80x512 d c) ?_) ?_
  · refine (rows_apply _ broadcasts_S1x512_S80x512 d c).trans ?_
    exact weight_eq (drop_apply m shapeCasts_S1x1x512_S1x512 (0 : Fin 1) c) (pay84_apply m r c)
  · refine (matmul_plain_zero (φ₁ := .bf16) (φ₂ := .bf16) dot_S80x256_S256x512_S80x512_1_0_0_1_n_n rfl none _ _ (ix2 d c)).trans ?_
    refine Finset.sum_congr rfl fun k _ => mul_eq (drop_apply v shapeCasts_S1x80x256_S80x256 d k) ?_
    exact weight_eq rfl ((rows_apply _ broadcasts_S1x512_S256x512 k c).trans (pay84_apply m r c))

/-- A choice by a comparison of small words. -/
theorem select_le (u w : BitVec 32) (x y : ℕ) (hu : u = BitVec.ofNat 32 x) (hw : w = BitVec.ofNat 32 y) (hx : x < 2 ^ 31) (hy : y < 2 ^ 31) (p n : EReal) (hn : n = ⊥) :
    Scalar.select (IntOp.cmpi .sle u w) p n = if x ≤ y then p else ⊥ := by
  subst hu; subst hw
  rw [sle_ofNat x y hx hy, hn]
  by_cases h : x ≤ y
  · rw [if_pos h, if_pos h]; rfl
  · rw [if_neg h, if_neg h]; rfl

/-- The left block of the diagonal, masked: keys `512 q + k`, queries `512 q + c`. -/
theorem pay82_apply (q : ℕ) (hq : q < 16) (k : Fin 256) :
    k0_pay82 (F := Ideal) (BitVec.ofNat 32 q) (Scalar.muli 2#32 (BitVec.ofNat 32 q)) s (ix2 k c)
      = if 512 * q + k.val ≤ 512 * q + c.val then s (ix3 (0 : Fin 1) k c) else ⊥ := by
  unfold k0_pay82
  have hk := k.isLt
  have hc := c.isLt
  refine Eq.trans (b := Scalar.select (α := EReal) (IntOp.cmpi .sle ((2#32 * BitVec.ofNat 32 q) * 256#32 + BitVec.ofNat 32 (0 * 256 + k.val)) ((BitVec.ofNat 32 q * 512#32 + 0#32) + BitVec.ofNat 32 (0 * 512 + c.val))) (s (ix3 (0 : Fin 1) k c)) (Ideal.ofBits .f32 0xFF800000#32)) ?_ (select_le _ _ (512 * q + k.val) (512 * q + c.val) ?_ ?_ (by omega) (by omega) _ _ negInf)
  · exact congrArg (fun t : EReal => Scalar.select (α := EReal) _ t _) (drop_apply s shapeCasts_S1x256x512_S256x512 k c)
  · apply BitVec.eq_of_toNat_eq
    show ((2#32 * BitVec.ofNat 32 q) * 256#32 + BitVec.ofNat 32 (0 * 256 + k.val)).toNat = _
    simp only [BitVec.toNat_add, BitVec.toNat_mul, BitVec.toNat_ofNat]
    omega
  · apply BitVec.eq_of_toNat_eq
    show ((BitVec.ofNat 32 q * 512#32 + 0#32) + BitVec.ofNat 32 (0 * 512 + c.val)).toNat = _
    simp only [BitVec.toNat_add, BitVec.toNat_mul, BitVec.toNat_ofNat]
    omega

end

section
variable (kb : S256x128.Idx → EReal) (qr : S1x128x256.Idx → EReal) (m : S1x1x256.Idx → EReal) (s : S1x256x256.Idx → EReal)
  (v : S1x80x256.Idx → EReal) (a : S1x80x256.Idx → EReal) (c : Fin 256)

/-- One score of the right block of the diagonal. -/
theorem pay76_apply (k : Fin 256) :
    k0_pay76 (F := Ideal) kb qr (ix3 (0 : Fin 1) k c) = ∑ i : Fin 128, kb (ix2 k i) * qr (ix3 (0 : Fin 1) i c) := by
  unfold k0_pay76 k0_pay75
  refine (lead_apply _ shapeCasts_S256x256_S1x256x256 k c).trans ?_
  refine (matmul_plain_zero (φ₁ := .bf16) (φ₂ := .bf16) dot_S256x128_S128x256_S256x256_1_0_0_1_n_n rfl none kb _ (ix2 k c)).trans ?_
  exact Finset.sum_congr rfl fun i _ => mul_eq rfl (drop_apply qr shapeCasts_S1x128x256_S128x256 i c)

/-- The right block of the diagonal, masked: keys and queries from `512 q + 256`. -/
theorem pay95_apply (q : ℕ) (hq : q < 16) (k : Fin 256) :
    k0_pay95 (F := Ideal) (BitVec.ofNat 32 q) (Scalar.muli (Scalar.addi (Scalar.muli 2#32 (BitVec.ofNat 32 q)) 1#32) 256#32) s (ix2 k c)
      = if 512 * q + 256 + k.val ≤ 512 * q + (256 + c.val) then s (ix3 (0 : Fin 1) k c) else ⊥ := by
  unfold k0_pay95
  have hk := k.isLt
  have hc := c.isLt
  refine Eq.trans (b := Scalar.select (α := EReal) (IntOp.cmpi .sle (((2#32 * BitVec.ofNat 32 q + 1#32) * 256#32) + BitVec.ofNat 32 (0 * 256 + k.val)) ((BitVec.ofNat 32 q * 512#32 + 256#32) + BitVec.ofNat 32 (0 * 256 + c.val))) (s (ix3 (0 : Fin 1) k c)) (Ideal.ofBits .f32 0xFF800000#32)) ?_ (select_le _ _ (512 * q + 256 + k.val) (512 * q + (256 + c.val)) ?_ ?_ (by omega) (by omega) _ _ negInf)
  · exact congrArg (fun t : EReal => Scalar.select (α := EReal) _ t _) (drop_apply s shapeCasts_S1x256x256_S256x256 k c)
  · apply BitVec.eq_of_toNat_eq
    show (((2#32 * BitVec.ofNat 32 q + 1#32) * 256#32) + BitVec.ofNat 32 (0 * 256 + k.val)).toNat = _
    simp only [BitVec.toNat_add, BitVec.toNat_mul, BitVec.toNat_ofNat]
    omega
  · apply BitVec.eq_of_toNat_eq
    show ((BitVec.ofNat 32 q * 512#32 + 256#32) + BitVec.ofNat 32 (0 * 256 + c.val)).toNat = _
    simp only [BitVec.toNat_add, BitVec.toNat_mul, BitVec.toNat_ofNat]
    omega

variable (u w : BitVec 32)

theorem pay97_apply :
    k0_pay97 (F := Ideal) u w s m (ix2 (0 : Fin 1) c)
      = max (m (ix3 (0 : Fin 1) (0 : Fin 1) c)) ((Finset.univ : Finset (Fin 256)).sup fun k => k0_pay95 (F := Ideal) u w s (ix2 k c)) :=
  max_eq (drop_apply m shapeCasts_S1x1x256_S1x256 (0 : Fin 1) c)
    ((asRow_apply _ shapeCasts_S256_S1x256 c).trans (colMax_apply _ reduces_S256x256_S256 (.inl rfl) rfl c))

/-- The new weighted sum, the right block of the diagonal. -/
theorem pay99_apply (d : Fin 80) :
    k0_pay99 (F := Ideal) u w s m v a (ix3 (0 : Fin 1) d c)
      = a (ix3 (0 : Fin 1) d c) * Ideal.exp2 (m (ix3 (0 : Fin 1) (0 : Fin 1) c) - max (m (ix3 (0 : Fin 1) (0 : Fin 1) c)) ((Finset.univ : Finset (Fin 256)).sup fun k => k0_pay95 (F := Ideal) u w s (ix2 k c)))
        + ∑ k : Fin 256, v (ix3 (0 : Fin 1) d k)
            * Ideal.exp2 (k0_pay95 (F := Ideal) u w s (ix2 k c) - max (m (ix3 (0 : Fin 1) (0 : Fin 1) c)) ((Finset.univ : Finset (Fin 256)).sup fun k => k0_pay95 (F := Ideal) u w s (ix2 k c))) := by
  unfold k0_pay99
  refine (lead_apply _ shapeCasts_S80x256_S1x80x256 d c).trans ?_
  refine add_eq (mul_eq (drop_apply a shapeCasts_S1x80x256_S80x256 d c) ?_) ?_
  · refine (rows_apply _ broadcasts_S1x256_S80x256 d c).trans ?_
    exact weight_eq (drop_apply m shapeCasts_S1x1x256_S1x256 (0 : Fin 1) c) (pay97_apply m s c u w)
  · refine (matmul_plain_zero (φ₁ := .bf16) (φ₂ := .bf16) dot_S80x256_S256x256_S80x256_1_0_0_1_n_n rfl none _ _ (ix2 d c)).trans ?_
    refine Finset.sum_congr rfl fun k _ => mul_eq (drop_apply v shapeCasts_S1x80x256_S80x256 d k) ?_
    exact weight_eq rfl ((rows_apply _ broadcasts_S1x256_S256x256 k c).trans (pay97_apply m s c u w))

end

/-- What the two heads' weighted sums `h 0` and `h 1` and the gate leave at row `r`, column `n`. -/
theorem pay2_apply (h : Fin 2 → S1x80x512.Idx → EReal) (z : S512x128.Idx → EReal) (r : Fin 512) (n : Fin 128) :
    k0_pay2 (F := Ideal) (h 0) (h 0) (h 1) (h 1) z (ix2 r n)
      = Ideal.div (h ⟨n.val / 64, by omega⟩ (ix3 (0 : Fin 1) (⟨n.val % 64, by omega⟩ : Fin 80) r)) (h ⟨n.val / 64, by omega⟩ (ix3 (0 : Fin 1) (64 : Fin 80) r))
        * (z (ix2 r n) * FloatOps.logistic (F := Ideal) (φ := .f32) (z (ix2 r n))) := by
  have hn := n.isLt
  refine mul_eq ?_ rfl
  refine (transpose_apply [1, 0] _ transposes_S128x512_p1_0_S512x128 (ix2 r n) (ix2 n r) (by
    intro b
    match b with
    | 0 => rfl
    | 1 => rfl)).trans ?_
  have hq : ∀ (p : Fin 2) (d : Fin 64), divf (F := Ideal) (φ := .f32) (extractStridedSlice S64x512 ![0, 0] (shapeCast S80x512 (h p) shapeCasts_S1x80x512_S80x512) slices_S80x512_o0_0_S64x512)
      (broadcastTo S64x512 (extractStridedSlice S1x512 ![64, 0] (shapeCast S80x512 (h p) shapeCasts_S1x80x512_S80x512) slices_S80x512_o64_0_S1x512) broadcasts_S1x512_S64x512) (ix2 d r)
      = Ideal.div (h p (ix3 (0 : Fin 1) (⟨d.val, by omega⟩ : Fin 80) r)) (h p (ix3 (0 : Fin 1) (64 : Fin 80) r)) := by
    intro p d
    refine congr (congrArg Ideal.div ?_) ?_
    · refine (extractStridedSlice_apply _ _ slices_S80x512_o0_0_S64x512 (ix2 d r) (ix2 (⟨d.val, by omega⟩ : Fin 80) r) (by
        intro b
        match b with
        | 0 => show d.val = 0 + d.val; omega
        | 1 => show r.val = 0 + r.val; omega)).trans ?_
      exact drop_apply (h p) shapeCasts_S1x80x512_S80x512 _ r
    · refine (rows_apply _ broadcasts_S1x512_S64x512 d r).trans ?_
      refine (extractStridedSlice_apply _ _ slices_S80x512_o64_0_S1x512 (ix2 (0 : Fin 1) r) (ix2 (64 : Fin 80) r) (by
        intro b
        match b with
        | 0 => rfl
        | 1 => show r.val = 0 + r.val; omega)).trans ?_
      exact drop_apply (h p) shapeCasts_S1x80x512_S80x512 _ r
  refine (concatenate_ofFn_apply (t := S128x512) (s₁ := S64x512) 0 (N := 2)
    (fun p => divf (F := Ideal) (φ := .f32) (extractStridedSlice S64x512 ![0, 0] (shapeCast S80x512 (h p) shapeCasts_S1x80x512_S80x512) slices_S80x512_o0_0_S64x512)
      (broadcastTo S64x512 (extractStridedSlice S1x512 ![64, 0] (shapeCast S80x512 (h p) shapeCasts_S1x80x512_S80x512) slices_S80x512_o64_0_S1x512) broadcasts_S1x512_S64x512))
    concatenates_S64x512_S64x512_S128x512_d0 rfl 64 rfl (ix2 n r) ⟨n.val / 64, by omega⟩ rfl (ix2 (⟨n.val % 64, by omega⟩ : Fin 64) r) rfl fun b hb => by
      match b with
      | 0 => exact absurd rfl hb
      | 1 => rfl).trans ?_
  exact hq _ _

end Cert.KernelIdeal.Fox
end
-- ==== Proof.KV.Block.lean ====
module

public import proofs.«01_k».proof.Proof.KV.Online
public import proofs.«01_k».proof.Proof.KV.Pay

@[expose] public section

set_option maxRecDepth 16384

/-! The attention body's state is the one-pass softmax's: after the key blocks before `n` it holds the largest of the
first `256 n` scores and the values' sum weighted by them; the diagonal's two blocks add the rest of the visible keys. -/

noncomputable section

namespace Cert.KernelIdeal.Fox

open Cert.KernelIdeal Cert.KernelIdeal.Gen Cert.Fox
open Idealize.ShloMosaic hiding ix0 ix1 ix2 ix3 ix4 ix5
open Idealize.ShloMosaic.ValueIdx

variable (K : S8192x256.Idx → EReal) (Q : S1x256x512.Idx → EReal) (V : S1x160x8192.Idx → EReal) (hh : Fin 2) (q : ℕ)

/-- The score of key `j` with the block's query `c`. -/
def scoreOf (c : Fin 512) (j : ℕ) : EReal :=
  ∑ i : Fin 128, K (ix2 (⟨j % 8192, Nat.mod_lt _ (by decide)⟩ : Fin 8192) (⟨hh.val * 128 + i.val, by omega⟩ : Fin 256))
    * Q (ix3 (0 : Fin 1) (⟨hh.val * 128 + i.val, by omega⟩ : Fin 256) c)

/-- The same where the query block is number `q` and later keys are hidden. -/
def seenOf (c : Fin 512) (j : ℕ) : EReal := if j ≤ 512 * q + c.val then scoreOf K Q hh c j else ⊥

/-- Key `j`'s value row `d`. -/
def valOf (d : Fin 80) (j : ℕ) : EReal :=
  V (ix3 (0 : Fin 1) (⟨hh.val * 80 + d.val, by omega⟩ : Fin 160) (⟨j % 8192, Nat.mod_lt _ (by decide)⟩ : Fin 8192))

theorem score_blk (n : ℕ) (c : Fin 512) (k : Fin 256) :
    (∑ i : Fin 128, kblk (F := Ideal) K hh n (ix2 k i) * qrow (F := Ideal) Q hh (ix3 (0 : Fin 1) i c) : EReal) = scoreOf K Q hh c (n * 256 + k.val) := rfl

theorem val_blk (n : ℕ) (d : Fin 80) (k : Fin 256) :
    (vblk (F := Ideal) V hh n (ix3 (0 : Fin 1) d k) : EReal) = valOf V hh d (n * 256 + k.val) := rfl

variable (c : Fin 512) (hs : Scores (seenOf K Q hh q c))
include hs

/-- The state after the whole key blocks before `n`. -/
theorem hst_eq (n : ℕ) (hn : n ≤ 2 * q) :
    (hst (F := Ideal) K Q V hh n).m (ix3 (0 : Fin 1) (0 : Fin 1) c) = big (seenOf K Q hh q c) (n * 256)
      ∧ ∀ d, (hst (F := Ideal) K Q V hh n).a (ix3 (0 : Fin 1) d c) = acc (seenOf K Q hh q c) (valOf V hh d) (n * 256) := by
  induction n with
  | zero =>
    refine ⟨?_, fun d => ?_⟩
    · rw [Nat.zero_mul, big_zero]; exact negInf
    · rw [Nat.zero_mul, acc_zero]; exact Ideal.ofBits_zero_f32
  | succ n ih =>
    obtain ⟨im, ia⟩ := ih (by omega)
    have es : ∀ k : Fin 256, scoreOf K Q hh c (n * 256 + k.val) = seenOf K Q hh q c (n * 256 + k.val) := fun k => by
      have := k.isLt
      exact (if_pos (by omega)).symm
    have hx : mx (F := Ideal) K Q hh n (ix3 (0 : Fin 1) (0 : Fin 1) c)
        = (Finset.univ : Finset (Fin 256)).sup fun k => seenOf K Q hh q c (n * 256 + k.val) :=
      (pay5_apply _ _ c).trans (congrArg (Finset.sup Finset.univ) (funext fun k => (score_blk K Q hh n c k).trans (es k)))
    have hb := big_add (seenOf K Q hh q c) (n * 256) 256 _ hx
    rw [show (n + 1) * 256 = n * 256 + 256 from Nat.succ_mul n 256]
    refine ⟨?_, fun d => ?_⟩
    · refine (pay12_apply _ _ c).trans ?_
      rw [im]; exact hb
    · refine (pay13_apply _ _ _ _ _ c d).trans ?_
      rw [im, ia d, hb]
      refine Eq.trans ?_ (acc_add hs (valOf V hh d) (n * 256) 256 (by decide))
      refine add_eq rfl (Finset.sum_congr rfl fun k _ => mul_eq rfl (weight_eq ?_ rfl))
      exact (pay4_apply _ _ c k).trans ((score_blk K Q hh n c k).trans (es k))

/-- The state after the left block of the diagonal. -/
theorem diag1_eq (hq : q < 16) :
    (diag1 (F := Ideal) K Q V hh q).m (ix3 (0 : Fin 1) (0 : Fin 1) c) = big (seenOf K Q hh q c) (512 * q + 256)
      ∧ ∀ d, (diag1 (F := Ideal) K Q V hh q).a (ix3 (0 : Fin 1) d c) = acc (seenOf K Q hh q c) (valOf V hh d) (512 * q + 256) := by
  obtain ⟨im, ia⟩ := hst_eq K Q V hh q c hs (2 * q) (le_refl _)
  have e : 2 * q * 256 = 512 * q := by omega
  rw [e] at im
  have hr : ∀ k : Fin 256, k0_pay82 (F := Ideal) (BitVec.ofNat 32 q) (Scalar.muli 2#32 (BitVec.ofNat 32 q)) (sc (F := Ideal) K Q hh (2 * q)) (ix2 k c)
      = seenOf K Q hh q c (512 * q + k.val) := fun k => by
    refine (pay82_apply _ c q hq k).trans ?_
    unfold seenOf
    refine if_congr Iff.rfl ?_ rfl
    refine (pay4_apply _ _ c k).trans ((score_blk K Q hh (2 * q) c k).trans ?_)
    rw [e]
  have hx : ((Finset.univ : Finset (Fin 256)).sup fun k => k0_pay82 (F := Ideal) (BitVec.ofNat 32 q) (Scalar.muli 2#32 (BitVec.ofNat 32 q)) (sc (F := Ideal) K Q hh (2 * q)) (ix2 k c) : EReal)
      = (Finset.univ : Finset (Fin 256)).sup fun k => seenOf K Q hh q c (512 * q + k.val) :=
    congrArg (Finset.sup Finset.univ) (funext hr)
  have hb := big_add (seenOf K Q hh q c) (512 * q) 256 _ hx
  refine ⟨?_, fun d => ?_⟩
  · refine (pay85_apply _ _ c).trans ?_
    rw [im]; exact hb
  · refine (pay86_apply _ _ _ _ c d).trans ?_
    rw [im, ia d, hb, e]
    refine Eq.trans ?_ (acc_add hs (valOf V hh d) (512 * q) 256 (by decide))
    refine add_eq rfl (Finset.sum_congr rfl fun k _ => mul_eq ?_ (weight_eq (hr k) rfl))
    refine (val_blk V hh (2 * q) d k).trans ?_
    rw [e]

/-- At the end: the sum over all the keys. -/
theorem fin_eq (hq : q < 16) (d : Fin 80) :
    fin (F := Ideal) K Q V hh q (ix3 (0 : Fin 1) d c) = acc (seenOf K Q hh q c) (valOf V hh d) 8192 := by
  obtain ⟨im, ia⟩ := diag1_eq K Q V hh q c hs hq
  have hid : ∀ j, 512 * q + c.val < j → seenOf K Q hh q c j = ⊥ := fun j h => if_neg (by omega)
  have hc := c.isLt
  by_cases h : c.val < 256
  · refine (dif_pos h).trans ((ia d).trans ?_)
    exact (acc_ext (valOf V hh d) (512 * q + 256) 8192 (by omega) fun j hj => hid j (by omega)).symm
  · refine (dif_neg h).trans ?_
    have ec : (⟨256 + (c.val - 256), by omega⟩ : Fin 512) = c := Fin.ext (by show 256 + (c.val - 256) = c.val; omega)
    let c' : Fin 256 := ⟨c.val - 256, by omega⟩
    have im' : (diag1 (F := Ideal) K Q V hh q).m (ix3 (0 : Fin 1) (0 : Fin 1) (⟨256 + c'.val, by have := c'.isLt; omega⟩ : Fin 512))
        = big (seenOf K Q hh q c) (512 * q + 256) := (congrArg (fun i => (diag1 (F := Ideal) K Q V hh q).m (ix3 (0 : Fin 1) (0 : Fin 1) i)) ec).trans im
    have ia' : (diag1 (F := Ideal) K Q V hh q).a (ix3 (0 : Fin 1) d (⟨256 + c'.val, by have := c'.isLt; omega⟩ : Fin 512))
        = acc (seenOf K Q hh q c) (valOf V hh d) (512 * q + 256) := (congrArg (fun i => (diag1 (F := Ideal) K Q V hh q).a (ix3 (0 : Fin 1) d i)) ec).trans (ia d)
    have e : (2 * q + 1) * 256 = 512 * q + 256 := by omega
    have hr : ∀ k : Fin 256, k0_pay95 (F := Ideal) (BitVec.ofNat 32 q) (Scalar.muli (Scalar.addi (Scalar.muli 2#32 (BitVec.ofNat 32 q)) 1#32) 256#32)
        (k0_pay76 (kblk (F := Ideal) K hh (2 * q + 1)) (qright (F := Ideal) Q hh)) (ix2 k c') = seenOf K Q hh q c (512 * q + 256 + k.val) := fun k => by
      refine (pay95_apply _ c' q hq k).trans ?_
      unfold seenOf
      have ec' : 256 + c'.val = c.val := by show 256 + (c.val - 256) = c.val; omega
      rw [ec']
      refine if_congr Iff.rfl ?_ rfl
      refine (pay76_apply _ _ c' k).trans ?_
      refine Eq.trans (Finset.sum_congr rfl fun i _ => ?_) (score_blk K Q hh (2 * q + 1) c k |>.trans (by rw [e]))
      exact mul_eq rfl (congrArg (fun u => Q (ix3 (0 : Fin 1) (⟨hh.val * 128 + i.val, by omega⟩ : Fin 256) u)) ec)
    have hx : ((Finset.univ : Finset (Fin 256)).sup fun k => k0_pay95 (F := Ideal) (BitVec.ofNat 32 q) (Scalar.muli (Scalar.addi (Scalar.muli 2#32 (BitVec.ofNat 32 q)) 1#32) 256#32)
        (k0_pay76 (kblk (F := Ideal) K hh (2 * q + 1)) (qright (F := Ideal) Q hh)) (ix2 k c') : EReal)
        = (Finset.univ : Finset (Fin 256)).sup fun k => seenOf K Q hh q c (512 * q + 256 + k.val) :=
      congrArg (Finset.sup Finset.univ) (funext hr)
    have hb := big_add (seenOf K Q hh q c) (512 * q + 256) 256 _ hx
    refine (pay99_apply _ _ _ _ c' _ _ d).trans ?_
    refine Eq.trans (add_eq (mul_eq ia' (weight_eq im' ((max_eq im' rfl).trans hb))) (Finset.sum_congr rfl fun k _ =>
      mul_eq (c := valOf V hh d (512 * q + 256 + k.val)) ((val_blk V hh (2 * q + 1) d k).trans (by rw [e])) (weight_eq (hr k) ((max_eq im' rfl).trans hb)))) ?_
    refine (acc_add hs (valOf V hh d) (512 * q + 256) 256 (by decide)).trans ?_
    exact (acc_ext (valOf V hh d) (512 * q + 256 + 256) 8192 (by omega) fun j hj => hid j (by omega)).symm

end Cert.KernelIdeal.Fox
end
-- ==== Proof.KV.Ref.lean ====
module

public import proofs.«01_k».proof.Proof.KV.Online
public import proofs.«01_k».proof.Proof.KV.Vec
public import proofs.«01_k».proof.Proof.Gen.ReferenceIdeal.Read
public import Idealize.ShloMosaic.Lib.KernelVsHost

@[expose] public section

set_option maxRecDepth 16384

/-! The attention's reference at one place of its result: the softmax's quotients times the values, times the gate. -/

noncomputable section

namespace Cert.ReferenceIdeal.Fox

open Cert.ReferenceIdeal Cert.ReferenceIdeal.Gen Cert.ReferenceIdeal.Read Cert.Fox
open Idealize.ShloMosaic hiding ix0 ix1 ix2 ix3 ix4 ix5
open Idealize.ShloMosaic.ValueIdx

variable (x0 : S4x512x8192.Idx → EReal) (x1 : S32768x512.Idx → EReal) (x2 : S4x320x8192.Idx → EReal) (x3 : S32768x4736.Idx → EReal)
variable (b h : Fin 4) (t : Fin 8192)

/-- The score of key `j` with query `t`, both of batch `b` and head `h`. -/
def score (j : ℕ) : EReal :=
  ∑ i : Fin 128, x1 (ix2 (⟨b.val * 8192 + j % 8192, by omega⟩ : Fin 32768) (⟨h.val * 128 + i.val, by omega⟩ : Fin 512))
    * x0 (ix3 b (⟨h.val * 128 + i.val, by omega⟩ : Fin 512) t)

/-- The same with later keys hidden. -/
def seen (j : ℕ) : EReal := if j ≤ t.val then score x0 x1 b h t j else ⊥

/-- Key `j`'s value row `d`. -/
def value (d : Fin 80) (j : ℕ) : EReal :=
  x2 (ix3 b (⟨h.val * 80 + d.val, by omega⟩ : Fin 320) (⟨j % 8192, Nat.mod_lt _ (by decide)⟩ : Fin 8192))

theorem q_apply (i : Fin 128) : val_main_v1 (F := Ideal) x0 (ix4 b h i t) = x0 (ix3 b (⟨h.val * 128 + i.val, by omega⟩ : Fin 512) t) := by
  refine (val_main_v1_apply (F := Ideal) x0 _).trans (congrArg x0 (funext fun a => Fin.ext ?_))
  match a with
  | 0 => show (((b.val * 4 + h.val) * 128 + i.val) * 8192 + t.val) / 4194304 = b.val; omega
  | 1 => show (((b.val * 4 + h.val) * 128 + i.val) * 8192 + t.val) / 8192 % 512 = h.val * 128 + i.val; omega
  | 2 => show (((b.val * 4 + h.val) * 128 + i.val) * 8192 + t.val) % 8192 = t.val; omega

theorem k_apply (s : Fin 8192) (i : Fin 128) : val_main_v3 (F := Ideal) x1 (ix4 b s h i)
    = x1 (ix2 (⟨b.val * 8192 + s.val % 8192, by omega⟩ : Fin 32768) (⟨h.val * 128 + i.val, by omega⟩ : Fin 512)) := by
  refine (val_main_v3_apply (F := Ideal) x1 _).trans (congrArg x1 (funext fun a => Fin.ext ?_))
  match a with
  | 0 => show (((b.val * 8192 + s.val) * 4 + h.val) * 128 + i.val) / 512 = b.val * 8192 + s.val % 8192; omega
  | 1 => show (((b.val * 8192 + s.val) * 4 + h.val) * 128 + i.val) % 512 = h.val * 128 + i.val; omega

theorem v_apply (d : Fin 64) (s : Fin 8192) : val_main_v6 (F := Ideal) x2 (ix4 b h d s) = value x2 b h ⟨d.val, by omega⟩ s.val := by
  refine (val_main_v6_apply (F := Ideal) x2 _).trans ((val_main_v5_apply (F := Ideal) x2 _).trans (congrArg x2 (funext fun a => Fin.ext ?_)))
  match a with
  | 0 => show (((b.val * 4 + h.val) * 80 + d.val) * 8192 + s.val) / 2621440 = b.val; omega
  | 1 => show (((b.val * 4 + h.val) * 80 + d.val) * 8192 + s.val) / 8192 % 320 = h.val * 80 + d.val; omega
  | 2 => show (((b.val * 4 + h.val) * 80 + d.val) * 8192 + s.val) % 8192 = s.val % 8192; omega

theorem dot_apply (s : Fin 8192) : val_main_v8 (F := Ideal) x0 x1 (ix4 b h t s) = score x0 x1 b h t s.val := by
  refine (val_main_v8_apply x0 x1 _).trans (Finset.sum_congr rfl fun i _ => ?_)
  refine Eq.trans ?_ (mul_comm (G := EReal) _ _)
  refine congr (congrArg (HMul.hMul (α := EReal)) ?_) ?_
  · refine Eq.trans ?_ (q_apply x0 b h t i)
    exact congrArg (val_main_v1 (F := Ideal) x0) (funext fun a => by match a with | 0 => rfl | 1 => rfl | 2 => rfl | 3 => rfl)
  · refine Eq.trans ?_ (k_apply x1 b h s i)
    exact congrArg (val_main_v3 (F := Ideal) x1) (funext fun a => by match a with | 0 => rfl | 1 => rfl | 2 => rfl | 3 => rfl)

theorem mask_apply (s : Fin 8192) : val_main_call0_v1 (F := Ideal) (ix4 b h t s) = if s.val ≤ t.val then 1#1 else 0#1 := by
  refine (val_main_call0_v1_apply (F := Ideal) _).trans ?_
  refine (val_main_v14_apply (F := Ideal) _).trans ?_
  rw [val_main_v12_apply, val_main_v13_apply, val_main_v10_apply, val_main_v11_apply]
  exact sle_ofNat s.val t.val (by omega) (by omega)

theorem seen_apply (s : Fin 8192) : val_main_v15 (F := Ideal) x0 x1 (ix4 b h t s) = seen x0 x1 b h t s.val := by
  refine (val_main_v15_apply (F := Ideal) x0 x1 _).trans ?_
  rw [mask_apply, dot_apply]
  unfold seen
  by_cases hs : s.val ≤ t.val
  · rw [if_pos hs, if_pos hs]; rfl
  · rw [if_neg hs, if_neg hs]
    refine Eq.trans (b := val_main_call0_v2 (F := Ideal) (ix4 b h t s)) rfl ?_
    exact (val_main_call0_v2_apply (F := Ideal) _).trans negInf

theorem max_apply : val_main_v16 (F := Ideal) x0 x1 (ix3 b h t) = big (seen x0 x1 b h t) 8192 := by
  refine (lastMax_apply (val_main_v15 (F := Ideal) x0 x1) reducesTo_S4x4x8192x8192_S4x4x8192_d3 h_S_ b h t).trans ?_
  have e := big_add (seen x0 x1 b h t) 0 8192 _ rfl
  rw [Nat.zero_add] at e
  refine Eq.trans ?_ ((max_eq_right (by rw [big_zero]; exact bot_le)).symm.trans e)
  exact congrArg (Finset.sup Finset.univ) (funext fun s => (seen_apply x0 x1 b h t s).trans (congrArg _ (Nat.zero_add _).symm))

theorem two_word : Ideal.ofBits .f32 0x40000000#32 = ((2 : ℝ) : EReal) := by
  simp [Ideal.ofBits, Ideal.ieee, -EReal.coe_mul]; norm_num

theorem weight_apply (s : Fin 8192) : val_main_v21 (F := Ideal) x0 x1 (ix4 b h t s)
    = Ideal.exp2 (seen x0 x1 b h t s.val - big (seen x0 x1 b h t) 8192) := by
  refine (val_main_v21_apply (F := Ideal) x0 x1 _).trans ?_
  refine Eq.trans (b := Ideal.pow (val_main_v20 (F := Ideal) (ix4 b h t s)) (val_main_v19 (F := Ideal) x0 x1 (ix4 b h t s))) rfl ?_
  refine Eq.trans (congr (congrArg Ideal.pow ((val_main_v20_apply (F := Ideal) _).trans two_word)) ?_) (two_pow _)
  refine (val_main_v19_apply (F := Ideal) x0 x1 _).trans ?_
  refine congr (congrArg (HSub.hSub (α := EReal)) (seen_apply x0 x1 b h t s)) ?_
  refine (val_main_v18_apply (F := Ideal) x0 x1 _).trans ((val_main_v17_apply (F := Ideal) x0 x1 _).trans (Eq.trans ?_ (max_apply x0 x1 b h t)))
  exact congrArg (val_main_v16 (F := Ideal) x0 x1) (funext fun a => by match a with | 0 => rfl | 1 => rfl | 2 => rfl)

theorem total_apply : val_main_v22 (F := Ideal) x0 x1 (ix3 b h t) = acc (seen x0 x1 b h t) (fun _ => 1) 8192 := by
  refine (val_main_v22_apply x0 x1 _).trans ?_
  refine (congrArg (· + _) Ideal.ofBits_zero_f32).trans ((zero_add _).trans ?_)
  unfold acc
  refine Eq.trans (Finset.sum_congr rfl fun s _ => ?_) (Finset.sum_range _).symm
  refine Eq.trans ?_ ((weight_apply x0 x1 b h t s).trans (one_mul _).symm)
  exact congrArg (val_main_v21 (F := Ideal) x0 x1) (funext fun a => by match a with | 0 => rfl | 1 => rfl | 2 => rfl | 3 => rfl)

theorem prob_apply (s : Fin 8192) : val_main_v25 (F := Ideal) x0 x1 (ix4 b h t s)
    = Ideal.div (Ideal.exp2 (seen x0 x1 b h t s.val - big (seen x0 x1 b h t) 8192)) (acc (seen x0 x1 b h t) (fun _ => 1) 8192) := by
  refine (val_main_v25_apply (F := Ideal) x0 x1 _).trans ?_
  refine congr (congrArg Ideal.div (weight_apply x0 x1 b h t s)) ?_
  refine (val_main_v24_apply (F := Ideal) x0 x1 _).trans ((val_main_v23_apply (F := Ideal) x0 x1 _).trans (Eq.trans ?_ (total_apply x0 x1 b h t)))
  exact congrArg (val_main_v22 (F := Ideal) x0 x1) (funext fun a => by match a with | 0 => rfl | 1 => rfl | 2 => rfl)

variable (hs : Scores (seen x0 x1 b h t))
include hs

theorem att_apply (d : Fin 64) : val_main_v26 (F := Ideal) x0 x1 x2 (ix4 b h d t)
    = Ideal.div (acc (seen x0 x1 b h t) (value x2 b h ⟨d.val, by omega⟩) 8192) (acc (seen x0 x1 b h t) (fun _ => 1) 8192) := by
  refine (val_main_v26_apply x0 x1 x2 _).trans ?_
  refine Eq.trans ?_ (acc_div hs (value x2 b h ⟨d.val, by omega⟩) 8192 (by decide)).symm
  refine Eq.trans (Finset.sum_congr rfl fun s _ => ?_) (Finset.sum_range _).symm
  refine congr (congrArg (HMul.hMul (α := EReal)) ?_) ?_
  · refine Eq.trans ?_ (v_apply x2 b h d s)
    exact congrArg (val_main_v6 (F := Ideal) x2) (funext fun a => by match a with | 0 => rfl | 1 => rfl | 2 => rfl | 3 => rfl)
  · refine Eq.trans ?_ (prob_apply x0 x1 b h t s)
    exact congrArg (val_main_v25 (F := Ideal) x0 x1) (funext fun a => by match a with | 0 => rfl | 1 => rfl | 2 => rfl | 3 => rfl)

/-- The reference's value at row `t` of batch `b` and column `d` of head `h`. -/
theorem ref_apply (d : Fin 64) (row : Fin 32768) (col : Fin 256) (hr : row.val = b.val * 8192 + t.val) (hc : col.val = h.val * 64 + d.val) :
    val_main_v31 (F := Ideal) x0 x1 x2 x3 (ix2 row col)
      = Ideal.div (acc (seen x0 x1 b h t) (value x2 b h ⟨d.val, by omega⟩) 8192) (acc (seen x0 x1 b h t) (fun _ => 1) 8192)
        * (x3 (ix2 row (⟨1536 + col.val, by omega⟩ : Fin 4736))
          * FloatOps.logistic (F := Ideal) (φ := .f32) (x3 (ix2 row (⟨1536 + col.val, by omega⟩ : Fin 4736)))) := by
  refine (val_main_v31_apply (F := Ideal) x0 x1 x2 x3 _).trans ?_
  refine (val_main_v30_apply (F := Ideal) x0 x1 x2 x3 _).trans ?_
  refine congr (congrArg (HMul.hMul (α := EReal)) ?_) ?_
  · refine (val_main_v28_apply (F := Ideal) x0 x1 x2 _).trans ((val_main_v27_apply (F := Ideal) x0 x1 x2 _).trans
      (Eq.trans (congrArg (val_main_v26 (F := Ideal) x0 x1 x2) (funext fun a => Fin.ext ?_)) (att_apply x0 x1 x2 b h t hs d)))
    match a with
    | 0 => show (row.val * 256 + col.val) / 2097152 = b.val; omega
    | 1 => show (row.val * 256 + col.val) / 64 % 4 = h.val; omega
    | 2 => show (row.val * 256 + col.val) % 64 = d.val; omega
    | 3 => show (row.val * 256 + col.val) / 256 % 8192 = t.val; omega
  · refine (val_main_v29_apply (F := Ideal) x3 _).trans ?_
    have ez : val_main_v7 (F := Ideal) x3 (ix2 row col) = x3 (ix2 row (⟨1536 + col.val, by omega⟩ : Fin 4736)) :=
      (val_main_v7_apply (F := Ideal) x3 _).trans (congrArg x3 (funext fun a => by match a with | 0 => rfl | 1 => rfl))
    have e1 : Ideal.ofBits .f32 0x3F800000#32 = 1 := by simp [Ideal.ofBits, Ideal.ieee, -EReal.coe_mul]; norm_num
    refine congr (congrArg (HMul.hMul (α := EReal)) ez) ?_
    refine (val_main_call1_v5_apply (F := Ideal) x3 _).trans ?_
    show Ideal.div _ _ = Ideal.div 1 (1 + Ideal.exp (-_))
    refine congr (congrArg Ideal.div ((val_main_call1_v4_apply (F := Ideal) _).trans e1)) ?_
    refine (val_main_call1_v3_apply (F := Ideal) x3 _).trans ?_
    refine congr (congrArg (HAdd.hAdd (α := EReal)) ((val_main_call1_v2_apply (F := Ideal) _).trans e1)) ?_
    exact congrArg (fun z : EReal => Ideal.exp (-z)) ez

end Cert.ReferenceIdeal.Fox
end
-- ==== Proof.KV.Pre.lean ====
module

public import proofs.«01_k».proof.Proof.KV.Online
public import proofs.«01_k».proof.Proof.KV.Ref
public import proofs.«01_k».proof.Proof.Gen.Pre_attention_operands
public import Idealize.ShloMosaic.Lib.ReduceAll

@[expose] public section

set_option maxRecDepth 16384

/-! What the precondition says: queries and keys are reals and row 64 of each head's values is ones; so scores are reals. -/

noncomputable section

namespace Cert.ReferenceIdeal.Fox

open Cert.ReferenceIdeal Cert.Fox Cert.Pre_attention_operands.Gen
open Idealize.ShloMosaic hiding ix0 ix1 ix2 ix3 ix4 ix5
open Idealize.ShloMosaic.ValueIdx

theorem inf_word : Ideal.ofBits .f32 0x7F800000#32 = ⊤ := by
  simp [Ideal.ofBits, Ideal.ieee]

/-- A number whose absolute value is below the top is a real. -/
theorem real_of_abs (x : EReal) (h : BitVec.ofBool (decide (max x (-x) < ⊤)) = 1#1) : ∃ r : ℝ, x = r := by
  have h' : max x (-x) < ⊤ := by
    by_contra hn
    rw [decide_eq_false hn] at h
    exact absurd h (by decide)
  induction x with
  | bot => exact absurd h' (by simp)
  | top => exact absurd h' (by simp)
  | coe r => exact ⟨r, rfl⟩

theorem eq_of_word (x y : EReal) (h : BitVec.ofBool (decide (x = y)) = 1#1) : x = y := by
  by_contra hn
  rw [decide_eq_false hn] at h
  exact absurd h (by decide)

variable (x0 : S4x512x8192.Idx → EReal) (x1 : S32768x512.Idx → EReal) (x2 : S4x320x8192.Idx → EReal) (x3 : S32768x4736.Idx → EReal)

theorem operands (hp : Cert.Pre_attention_operands.fn (F := Ideal) x0 x1 x2 x3 = fun _ => 1#1) :
    (∀ i, ∃ r : ℝ, x0 i = r) ∧ (∀ i, ∃ r : ℝ, x1 i = r)
      ∧ ∀ (b h : Fin 4) (j : Fin 8192), x2 (ix3 b (⟨h.val * 80 + 64, by omega⟩ : Fin 320) j) = 1 := by
  have e := congrFun hp ix0
  unfold Cert.Pre_attention_operands.fn Cert.Pre_attention_operands.fn_part1 at e
  obtain ⟨e1, ev⟩ := IntOp.andi_eq_one.1 e
  obtain ⟨eq, ek⟩ := IntOp.andi_eq_one.1 e1
  have hsub : Subsingleton (Cert.Pre_attention_operands.S_).Idx := ⟨fun a b => funext fun i => i.elim0⟩
  refine ⟨fun i => ?_, fun i => ?_, fun b h j => ?_⟩
  · have w := Host.reduce_andi_all _ _ _ _ _ eq i
    refine real_of_abs (x0 i) (Eq.trans ?_ w)
    refine congrArg (fun z => BitVec.ofBool (decide (max (x0 i) (-(x0 i)) < z))) ?_
    exact inf_word.symm
  · have w := Host.reduce_andi_all _ _ _ _ _ ek i
    refine real_of_abs (x1 i) (Eq.trans ?_ w)
    refine congrArg (fun z => BitVec.ofBool (decide (max (x1 i) (-(x1 i)) < z))) ?_
    exact inf_word.symm
  · have w := Host.reduce_andi_all _ _ _ _ _ ev (ix3 b h j)
    refine eq_of_word _ _ (Eq.trans ?_ w)
    have e1 : Ideal.ofBits .f32 0x3F800000#32 = 1 := by simp [Ideal.ofBits, Ideal.ieee, -EReal.coe_mul]; norm_num
    refine congr (congrArg (fun y z : EReal => BitVec.ofBool (decide (y = z))) ?_) e1.symm
    refine Eq.symm ?_
    refine (shapeCast_apply _ shapeCasts_S4x4x1x8192_S4x4x8192 (ix3 b h j) (ix4 b h (0 : Fin 1) j) ?_).trans ?_
    · rw [Shape.rowMajor_val_three, Shape.rowMajor_val_four]
      show ((b.val * 4 + h.val) * 1 + 0) * 8192 + j.val = (b.val * 4 + h.val) * 8192 + j.val
      omega
    refine (extractStridedSlice_apply ![0, 0, 64, 0] _ slices_S4x4x80x8192_S4x4x1x8192_0_0_64_0 (ix4 b h (0 : Fin 1) j)
      (ix4 b h (⟨64, by decide⟩ : Fin 80) j) fun a => ?_).trans ?_
    · match a with
      | 0 => exact (Nat.zero_add _).symm
      | 1 => exact (Nat.zero_add _).symm
      | 2 => rfl
      | 3 => exact (Nat.zero_add _).symm
    refine shapeCast_apply _ shapeCasts_S4x320x8192_S4x4x80x8192 (ix4 b h (⟨64, by decide⟩ : Fin 80) j)
      (ix3 b (⟨h.val * 80 + 64, by omega⟩ : Fin 320) j) ?_
    rw [Shape.rowMajor_val_three, Shape.rowMajor_val_four]
    show (b.val * 320 + (h.val * 80 + 64)) * 8192 + j.val = ((b.val * 4 + h.val) * 80 + 64) * 8192 + j.val
    omega

variable (b h : Fin 4) (t : Fin 8192)

/-- Scores of reals are reals, and the first key is visible to every query. -/
theorem scores (h0 : ∀ i, ∃ r : ℝ, x0 i = r) (h1 : ∀ i, ∃ r : ℝ, x1 i = r) : Scores (seen x0 x1 b h t) := by
  have hr : ∀ j, ∃ r : ℝ, score x0 x1 b h t j = r := by
    choose f0 h0 using h0
    choose f1 h1 using h1
    intro j
    unfold score
    refine ⟨∑ i : Fin 128, f1 (ix2 (⟨b.val * 8192 + j % 8192, by omega⟩ : Fin 32768) (⟨h.val * 128 + i.val, by omega⟩ : Fin 512))
        * f0 (ix3 b (⟨h.val * 128 + i.val, by omega⟩ : Fin 512) t), ?_⟩
    rw [coe_sum]
    exact Finset.sum_congr rfl fun i _ => by rw [h0, h1, EReal.coe_mul]
  refine ⟨fun j => ?_, ?_⟩
  · unfold seen
    obtain ⟨r, e⟩ := hr j
    rw [e]
    split
    · exact EReal.coe_ne_top r
    · exact bot_ne_top
  · unfold seen
    obtain ⟨r, e⟩ := hr 0
    rw [e, if_pos (Nat.zero_le _)]
    exact EReal.coe_ne_bot r

end Cert.ReferenceIdeal.Fox
end
-- ==== Proof.KV.Out.lean ====
module

public import proofs.«01_k».proof.Defs
public import proofs.«01_k».proof.Proof.KI.Body
public import proofs.«01_k».proof.Proof.KV.Block
public import proofs.«01_k».proof.Proof.KV.Pre
public import proofs.«01_k».proof.Proof.Gen.ReferenceIdeal.Run

@[expose] public section

set_option maxRecDepth 16384

/-! The attention: where queries and keys are reals and row 64 of each head's values is ones, the result array of the
call is the reference's, place by place. -/

noncomputable section

namespace Cert.KernelIdeal.Fox

open Cert.KernelIdeal Cert.KernelIdeal.Gen Cert.Fox
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Queries, keys, values and projection as launched. -/
abbrev qArr (c : Dev nD) : S4x512x8192.Idx → EReal := m ((c : Thread nD τ).loc main_arg0)
abbrev kArr (c : Dev nD) : S32768x512.Idx → EReal := m ((c : Thread nD τ).loc main_arg1)
abbrev vArr (c : Dev nD) : S4x320x8192.Idx → EReal := m ((c : Thread nD τ).loc main_arg2)
abbrev zArr (c : Dev nD) : S32768x4736.Idx → EReal := m ((c : Thread nD τ).loc main_arg3)

/-- What the result array is shown to hold: the reference's value of the arguments. -/
abbrev G (c : Dev nD) : S32768x256.Idx → EReal :=
  Cert.ReferenceIdeal.Read.val_main_v31 (F := Ideal) (qArr m c) (kArr m c) (vArr m c) (zArr m c)

theorem t_lt (t : Fin cfg0.N) : t.val < 128 := by
  have := t.isLt; have e : cfg0.N = 128 := N_0; omega

/-- A point's batch, its pair of heads and its block of queries. -/
def bat (t : Fin cfg0.N) : Fin 4 := ⟨t.val / 32, by have := t_lt t; omega⟩
def pair (t : Fin cfg0.N) : ℕ := t.val / 16 % 2
def qb (t : Fin cfg0.N) : ℕ := t.val % 16

theorem pair_lt (t : Fin cfg0.N) : pair t < 2 := Nat.mod_lt _ (by decide)
theorem qb_lt (t : Fin cfg0.N) : qb t < 16 := Nat.mod_lt _ (by decide)

theorem coord_2 (t : Fin cfg0.N) : ((grid0.coords t) 2).val = qb t := by
  revert t; decide +kernel

theorem index_0 (t : Fin cfg0.N) : win0_0.index t 0 = (bat t).val ∧ win0_0.index t 1 = pair t ∧ win0_0.index t 2 = qb t := by
  revert t; decide +kernel

theorem index_1 (t : Fin cfg0.N) : win0_1.index t 0 = (bat t).val ∧ win0_1.index t 1 = pair t := by
  revert t; decide +kernel

theorem index_2 (t : Fin cfg0.N) : win0_2.index t 0 = (bat t).val ∧ win0_2.index t 1 = pair t ∧ win0_2.index t 2 = 0 := by
  revert t; decide +kernel

theorem index_3 (t : Fin cfg0.N) : win0_3.index t 0 = (bat t).val * 16 + qb t ∧ win0_3.index t 1 = 12 + pair t := by
  revert t; decide +kernel

theorem index_4 (t : Fin cfg0.N) : win0_4.index t 0 = (bat t).val * 16 + qb t ∧ win0_4.index t 1 = pair t := by
  revert t; decide +kernel

/-- Head `hh` of a point's pair, and query `r` of its block. -/
def head (t : Fin cfg0.N) (hh : Fin 2) : Fin 4 := ⟨pair t * 2 + hh.val, by have := pair_lt t; omega⟩
def tok (t : Fin cfg0.N) (r : Fin 512) : Fin 8192 := ⟨512 * qb t + r.val, by have := qb_lt t; omega⟩
def row (t : Fin cfg0.N) (r : Fin 512) : Fin 32768 := ⟨((bat t).val * 16 + qb t) * 512 + r.val, by have := qb_lt t; omega⟩
def col (t : Fin cfg0.N) (n : Fin 128) : Fin 256 := ⟨pair t * 128 + n.val, by have := pair_lt t; omega⟩

theorem blk_0 (c : Dev nD) (t : Fin cfg0.N) (hh : Fin 2) (i : Fin 128) (r : Fin 512) :
    iblk m c 0 t (ix3 (0 : Fin 1) (⟨hh.val * 128 + i.val, by omega⟩ : Fin 256) r)
      = qArr m c (ix3 (bat t) (⟨(head t hh).val * 128 + i.val, by omega⟩ : Fin 512) (tok t r)) := by
  refine congrArg (qArr m c) (funext fun a => Fin.ext ?_)
  match a with
  | 0 => exact (Pipeline.Window.rect_emb_val win0_0 t (ix3 (0 : Fin 1) (⟨hh.val * 128 + i.val, by omega⟩ : Fin 256) r) 0).trans
            (by rw [(index_0 t).1]; show (bat t).val * 1 + 0 = (bat t).val; omega)
  | 1 => exact (Pipeline.Window.rect_emb_val win0_0 t (ix3 (0 : Fin 1) (⟨hh.val * 128 + i.val, by omega⟩ : Fin 256) r) 1).trans
            (by rw [(index_0 t).2.1]; show pair t * 256 + (hh.val * 128 + i.val) = (pair t * 2 + hh.val) * 128 + i.val; omega)
  | 2 => exact (Pipeline.Window.rect_emb_val win0_0 t (ix3 (0 : Fin 1) (⟨hh.val * 128 + i.val, by omega⟩ : Fin 256) r) 2).trans
            (by rw [(index_0 t).2.2]; show qb t * 512 + r.val = 512 * qb t + r.val; omega)

theorem blk_1 (c : Dev nD) (t : Fin cfg0.N) (hh : Fin 2) (j : Fin 8192) (i : Fin 128) :
    iblk m c 1 t (ix2 j (⟨hh.val * 128 + i.val, by omega⟩ : Fin 256))
      = kArr m c (ix2 (⟨(bat t).val * 8192 + j.val, by omega⟩ : Fin 32768) (⟨(head t hh).val * 128 + i.val, by omega⟩ : Fin 512)) := by
  refine congrArg (kArr m c) (funext fun a => Fin.ext ?_)
  match a with
  | 0 => exact (Pipeline.Window.rect_emb_val win0_1 t (ix2 j (⟨hh.val * 128 + i.val, by omega⟩ : Fin 256)) 0).trans
            (by rw [(index_1 t).1]; rfl)
  | 1 => exact (Pipeline.Window.rect_emb_val win0_1 t (ix2 j (⟨hh.val * 128 + i.val, by omega⟩ : Fin 256)) 1).trans
            (by rw [(index_1 t).2]; show pair t * 256 + (hh.val * 128 + i.val) = (pair t * 2 + hh.val) * 128 + i.val; omega)

theorem blk_2 (c : Dev nD) (t : Fin cfg0.N) (hh : Fin 2) (d : Fin 80) (j : Fin 8192) :
    iblk m c 2 t (ix3 (0 : Fin 1) (⟨hh.val * 80 + d.val, by omega⟩ : Fin 160) j)
      = vArr m c (ix3 (bat t) (⟨(head t hh).val * 80 + d.val, by omega⟩ : Fin 320) j) := by
  refine congrArg (vArr m c) (funext fun a => Fin.ext ?_)
  match a with
  | 0 => exact (Pipeline.Window.rect_emb_val win0_2 t (ix3 (0 : Fin 1) (⟨hh.val * 80 + d.val, by omega⟩ : Fin 160) j) 0).trans
            (by rw [(index_2 t).1]; show (bat t).val * 1 + 0 = (bat t).val; omega)
  | 1 => exact (Pipeline.Window.rect_emb_val win0_2 t (ix3 (0 : Fin 1) (⟨hh.val * 80 + d.val, by omega⟩ : Fin 160) j) 1).trans
            (by rw [(index_2 t).2.1]; show pair t * 160 + (hh.val * 80 + d.val) = (pair t * 2 + hh.val) * 80 + d.val; omega)
  | 2 => exact Pipeline.Window.rect_emb_val_of_index_zero win0_2 t 2 (index_2 t).2.2 (ix3 (0 : Fin 1) (⟨hh.val * 80 + d.val, by omega⟩ : Fin 160) j)

theorem blk_3 (c : Dev nD) (t : Fin cfg0.N) (r : Fin 512) (n : Fin 128) :
    iblk m c 3 t (ix2 r n) = zArr m c (ix2 (row t r) (⟨1536 + (col t n).val, by omega⟩ : Fin 4736)) := by
  refine congrArg (zArr m c) (funext fun a => Fin.ext ?_)
  match a with
  | 0 => exact (Pipeline.Window.rect_emb_val win0_3 t (ix2 r n) 0).trans (by rw [(index_3 t).1]; rfl)
  | 1 => exact (Pipeline.Window.rect_emb_val win0_3 t (ix2 r n) 1).trans
            (by rw [(index_3 t).2]; show (12 + pair t) * 128 + n.val = 1536 + (pair t * 128 + n.val); omega)

/-- Where the output block's place lies in the result array. -/
theorem emb_4 (t : Fin cfg0.N) (r : Fin 512) (n : Fin 128) : (win0_4.rect t).emb (ix2 r n) = ix2 (row t r) (col t n) := by
  refine funext fun a => Fin.ext ?_
  match a with
  | 0 => exact (Pipeline.Window.rect_emb_val win0_4 t (ix2 r n) 0).trans (by rw [(index_4 t).1]; rfl)
  | 1 => exact (Pipeline.Window.rect_emb_val win0_4 t (ix2 r n) 1).trans (by rw [(index_4 t).2]; rfl)

/-- A block's scores are the arrays'. -/
theorem seen_blk (c : Dev nD) (t : Fin cfg0.N) (hh : Fin 2) (r : Fin 512) :
    seenOf (iblk m c 1 t) (iblk m c 0 t) hh (qb t) r = Cert.ReferenceIdeal.Fox.seen (qArr m c) (kArr m c) (bat t) (head t hh) (tok t r) := by
  funext j
  have e : scoreOf (iblk m c 1 t) (iblk m c 0 t) hh r j = Cert.ReferenceIdeal.Fox.score (qArr m c) (kArr m c) (bat t) (head t hh) (tok t r) j :=
    Finset.sum_congr rfl fun i _ => mul_eq (blk_1 m c t hh ⟨j % 8192, Nat.mod_lt _ (by decide)⟩ i) (blk_0 m c t hh i r)
  unfold seenOf Cert.ReferenceIdeal.Fox.seen
  rw [e]
  rfl

/-- And its values. -/
theorem val_blk' (c : Dev nD) (t : Fin cfg0.N) (hh : Fin 2) (d : Fin 80) :
    valOf (iblk m c 2 t) hh d = Cert.ReferenceIdeal.Fox.value (vArr m c) (bat t) (head t hh) d :=
  funext fun j => blk_2 m c t hh d ⟨j % 8192, Nat.mod_lt _ (by decide)⟩

variable (hp : Cert.Pre_KernelIdeal_attention_operands m)
include hp

theorem scores_at (c : Dev nD) (b h : Fin 4) (t : Fin 8192) : Scores (Cert.ReferenceIdeal.Fox.seen (qArr m c) (kArr m c) b h t) :=
  have o := Cert.ReferenceIdeal.Fox.operands _ _ _ _ (hp c)
  Cert.ReferenceIdeal.Fox.scores _ _ b h t o.1 o.2.1

/-- A head's weighted sum of one value row, in the arrays. -/
theorem fin_at (c : Dev nD) (t : Fin cfg0.N) (hh : Fin 2) (d : Fin 80) (r : Fin 512) :
    fin (F := Ideal) (iblk m c 1 t) (iblk m c 0 t) (iblk m c 2 t) hh (qb t) (ix3 (0 : Fin 1) d r)
      = acc (Cert.ReferenceIdeal.Fox.seen (qArr m c) (kArr m c) (bat t) (head t hh) (tok t r))
          (Cert.ReferenceIdeal.Fox.value (vArr m c) (bat t) (head t hh) d) 8192 := by
  have hs := scores_at m hp c (bat t) (head t hh) (tok t r)
  rw [← seen_blk] at hs
  refine (fin_eq (iblk m c 1 t) (iblk m c 0 t) (iblk m c 2 t) hh (qb t) r hs (qb_lt t) d).trans ?_
  rw [seen_blk, val_blk']

theorem ones_at (c : Dev nD) (b h : Fin 4) : Cert.ReferenceIdeal.Fox.value (vArr m c) b h 64 = fun _ => 1 :=
  funext fun j => (Cert.ReferenceIdeal.Fox.operands _ _ _ _ (hp c)).2.2 b h ⟨j % 8192, Nat.mod_lt _ (by decide)⟩

/-- What a point leaves at one place of its block. -/
theorem outAt_apply (c : Dev nD) (t : Fin cfg0.N) (r : Fin 512) (n : Fin 128) :
    outAt (F := Ideal) m c t (ix2 r n) = G m c (ix2 (row t r) (col t n)) := by
  unfold outAt outBlk
  rw [coord_2]
  refine (pay2_apply (fun hh => fin (F := Ideal) (iblk m c 1 t) (iblk m c 0 t) (iblk m c 2 t) hh (qb t)) (iblk m c 3 t) r n).trans ?_
  refine Eq.trans ?_ (Cert.ReferenceIdeal.Fox.ref_apply (qArr m c) (kArr m c) (vArr m c) (zArr m c) (bat t)
    (head t ⟨n.val / 64, by omega⟩) (tok t r) (scores_at m hp c _ _ _) ⟨n.val % 64, by omega⟩ (row t r) (col t n)
    (by show ((bat t).val * 16 + qb t) * 512 + r.val = (bat t).val * 8192 + (512 * qb t + r.val); omega)
    (by show pair t * 128 + n.val = (pair t * 2 + n.val / 64) * 64 + n.val % 64; omega)).symm
  refine mul_eq (congr (congrArg Ideal.div ?_) ?_) ?_
  · exact fin_at m hp c t ⟨n.val / 64, by omega⟩ ⟨n.val % 64, by omega⟩ r
  · exact (fin_at m hp c t ⟨n.val / 64, by omega⟩ 64 r).trans (by rw [ones_at m hp])
  · exact congrArg (fun z : EReal => z * FloatOps.logistic (F := Ideal) (φ := .f32) z) (blk_3 m c t r n)

/-- What a point writes back is its block of the reference's value. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  funext j
  obtain ⟨r, n, rfl⟩ : ∃ (r : Fin 512) (n : Fin 128), j = ix2 r n := ⟨j 0, j 1, funext fun a => by match a with | 0 => rfl | 1 => rfl⟩
  exact (outAt_apply m hp c t r n).trans (congrArg (G m c) (emb_4 t r n)).symm

omit hp in
/-- An index of the result array is in point `t`'s block exactly when its row and column are the block's. -/
theorem mem_blk (t : Fin cfg0.N) (i : S32768x256.Idx) (h : (bat t).val * 16 + qb t = (i 0 : Nat) / 512) (h' : pair t = (i 1 : Nat) / 128) :
    i ∈ ((cfg0.win 4).blk t).view.set := by
  show i ∈ ((View.whole main_v0).slice (win0_4.rect t)).set
  rw [View.set_slice_whole, Rect.mem_set_unit]
  intro a
  match a with
  | 0 => show win0_4.index t 0 * 512 ≤ (i 0 : Nat) ∧ (i 0 : Nat) < win0_4.index t 0 * 512 + 512
         rw [(index_4 t).1]; omega
  | 1 => show win0_4.index t 1 * 128 ≤ (i 1 : Nat) ∧ (i 1 : Nat) < win0_4.index t 1 * 128 + 128
         rw [(index_4 t).2]; omega

omit hp in
/-- The result's blocks tile its array. -/
theorem cover (i : S32768x256.Idx) : ∃ t : Fin cfg0.N, (cfg0.win 4).flush t = true ∧ i ∈ ((cfg0.win 4).blk t).view.set := by
  have h0 : (i 0 : Nat) < 32768 := (i 0).isLt
  have h1 : (i 1 : Nat) < 256 := (i 1).isLt
  have hN : cfg0.N = 128 := N_0
  refine ⟨⟨(i 0 : Nat) / 8192 * 32 + (i 1 : Nat) / 128 * 16 + (i 0 : Nat) / 512 % 16, by omega⟩, flush0_4 _, mem_blk _ i ?_ ?_⟩
  · show ((i 0 : Nat) / 8192 * 32 + (i 1 : Nat) / 128 * 16 + (i 0 : Nat) / 512 % 16) / 32 * 16
      + ((i 0 : Nat) / 8192 * 32 + (i 1 : Nat) / 128 * 16 + (i 0 : Nat) / 512 % 16) % 16 = (i 0 : Nat) / 512
    omega
  · show ((i 0 : Nat) / 8192 * 32 + (i 1 : Nat) / 128 * 16 + (i 0 : Nat) / 512 % 16) / 16 % 2 = (i 1 : Nat) / 128
    omega

/-- So the result array ends holding the reference's value. -/
theorem final (c : Dev nD) : (dats m 0 c).arrAt 4 cfg0.N = G m c :=
  (dats m 0 c).arrAt_eq_of_cover 4 (G m c) (fun t _ => flushed_eq m hp c t) cover

/-- Every run leaves the reference's value in the result array and its arguments as they were. -/
theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final m hp c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c)))⟩) (run_main m ρ)

end Cert.KernelIdeal.Fox

namespace Cert.Proof

open Idealize.ShloMosaic Idealize.SL.Sem Idealize.ShloMosaic.TcCoe

/-- The attention's kernel and reference leave equal results. -/
theorem algebraic1 : Cert.algebraic_KernelIdeal_ReferenceIdeal_pre_attention_operands := by
  intro m g m' g' hp h
  refine ⟨fun c => Cert.KernelIdeal.Fox.G m c, Cert.KernelIdeal.Fox.run_value m g hp, ?_⟩
  refine (θ_run Cert.ReferenceIdeal.defs _ _).mono (fun r hr c => ⟨(hr c).1.trans ?_, (hr c).2⟩)
    (Cert.ReferenceIdeal.Value.run (F := Ideal) m' g')
  obtain ⟨h0, h1, h2, h3⟩ := h c
  rw [Cert.ReferenceIdeal.Read.val_main_v31_eq, h0, h1, h2, h3]

end Cert.Proof
end
-- ==== Proof.In.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Mm
public import Idealize.ShloMosaic.Lib.Quiescent

@[expose] public section

set_option maxRecDepth 16384

/-! The input projection: the result array of the call is the reference's, place by place. -/

noncomputable section

namespace Cert.Kernel2Ideal.In

open Cert.Kernel2Ideal Cert.Kernel2Ideal.Gen Cert.Fox
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A row over its root mean square, times the gain, at one place. -/
def nrm (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- One place of the projection: the normalised row into a column of the weights. -/
def proj (x g : Fin 1024 → EReal) (w : Fin 1024 → EReal) : EReal := ∑ k : Fin 1024, nrm x g k * w k

/-- The body's normalised rows. -/
theorem pay7_apply (x : S512x1024.Idx → EReal) (g : S1x1024.Idx → EReal) (r : Fin 512) (k : Fin 1024) :
    k0_pay7 (F := Ideal) x g (ix2 r k) = nrm (fun i => x (ix2 r i)) (fun i => g (ix2 0 i)) k := by
  have e : broadcastTo S512x1024 (rsqrt (F := Ideal) (φ := .f32) (addf (F := Ideal) (φ := .f32) (divf (F := Ideal) (φ := .f32) (shapeCast S512x1 (multiReduction (F := Ideal) .add [1] S512 (mulf (F := Ideal) (φ := .f32) x x) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))) broadcasts_S512x1_S512x1024 (ix2 r k)
      = Ideal.rsqrt (Ideal.div (∑ i : Fin 1024, x (ix2 r i) * x (ix2 r i)) (Ideal.ofBits .f32 0x44800000#32) + Ideal.ofBits .f32 0x358637BD#32) := by
    refine (broadcastTo_apply _ broadcasts_S512x1_S512x1024 (ix2 r k) (ix2 r (0 : Fin 1)) ?_).trans ?_
    · intro a; match a with
      | 0 => rfl
      | 1 => rfl
    · refine congrArg (fun t => Ideal.rsqrt (Ideal.div t (Ideal.ofBits .f32 0x44800000#32) + Ideal.ofBits .f32 0x358637BD#32)) ?_
      refine (shapeCast_apply _ shapeCasts_S512_S512x1 (ix2 r (0 : Fin 1)) (ix1 r) ?_).trans ?_
      · rw [rowMajor_val1 (ix1 r), rowMajor_val2 (ix2 r (0 : Fin 1)) 1 rfl]
        show r.val = r.val * 1 + 0
        omega
      · refine (Ideal.multiReduction_add_single _ _ reduces_S512x1024_S512 (.inl rfl) rfl (ix1 r)).trans (Finset.sum_congr rfl fun i _ => ?_)
        have el : reduces_S512x1024_S512.lift (ix1 r) i = ix2 r i := funext fun a => by match a with | 0 => rfl | 1 => rfl
        rw [el]; rfl
  have e' : broadcastTo S512x1024 g broadcasts_S1x1024_S512x1024 (ix2 r k) = g (ix2 0 k) := by
    refine broadcastTo_apply _ broadcasts_S1x1024_S512x1024 (ix2 r k) (ix2 (0 : Fin 1) k) ?_
    intro a; match a with
    | 0 => rfl
    | 1 => rfl
  exact congr (congrArg (HMul.hMul (α := EReal)) (congrArg (HMul.hMul (α := EReal) (x (ix2 r k))) e)) e'

/-- The reference's normalised rows. -/
theorem ref_nrm (x : S32768x1024.Idx → EReal) (g : S1x1024.Idx → EReal) (r : Fin 32768) (k : Fin 1024) :
    Cert.Reference2Ideal.Read.val_main_v11 (F := Ideal) x g (ix2 r k) = nrm (fun i => x (ix2 r i)) (fun i => g (ix2 0 i)) k := by
  simp only [Cert.Reference2Ideal.Read.val_main_v11_apply, Cert.Reference2Ideal.Read.val_main_v9_apply,
    Cert.Reference2Ideal.Read.val_main_v8_apply, Cert.Reference2Ideal.Read.val_main_v7_apply, Cert.Reference2Ideal.Read.val_main_v6_apply,
    Cert.Reference2Ideal.Read.val_main_v5_apply, Cert.Reference2Ideal.Read.val_main_v4_apply, Cert.Reference2Ideal.Read.val_main_v3_apply,
    Cert.Reference2Ideal.Read.val_main_v2_apply, Cert.Reference2Ideal.Read.val_main_v1_apply, Cert.Reference2Ideal.Read.val_main_v0_apply,
    Cert.Reference2Ideal.Read.val_main_v10_apply, Cert.Reference2Ideal.Read.val_main_cst_apply, Cert.Reference2Ideal.Read.val_main_cst_0_apply,
    Cert.Reference2Ideal.Read.val_main_cst_1_apply]
  refine congr (congrArg (HMul.hMul (α := EReal)) (congrArg (HMul.hMul (α := EReal) (x (ix2 r k))) ?_)) ?_
  · refine congrArg (fun t => Ideal.rsqrt (Ideal.div t (Ideal.ofBits .f32 0x44800000#32) + Ideal.ofBits .f32 0x358637BD#32)) ?_
    refine (congrArg (· + _) Ideal.ofBits_zero_f32).trans ((zero_add _).trans (Finset.sum_congr rfl fun i _ => ?_))
    refine congrArg (fun j => (x j : EReal) * x j) (funext fun a => ?_)
    match a with
    | 0 => rfl
    | 1 => rfl
  · refine congrArg g (funext fun a => by match a with | 0 => rfl | 1 => rfl)

/-- The reference's value at one place. -/
theorem ref_apply (x : S32768x1024.Idx → EReal) (g : S1x1024.Idx → EReal) (w : S1024x4736.Idx → EReal) (r : Fin 32768) (n : Fin 4736) :
    Cert.Reference2Ideal.Read.val_main_v13 (F := Ideal) x g w (ix2 r n)
      = proj (fun i => x (ix2 r i)) (fun i => g (ix2 0 i)) (fun k => w (ix2 k n)) := by
  refine (Cert.Reference2Ideal.Read.val_main_v13_apply x g w (ix2 r n)).trans (Finset.sum_congr rfl fun k _ => ?_)
  refine congr (congrArg (HMul.hMul (α := EReal)) ?_) ?_
  · refine (congrArg _ ?_).trans (ref_nrm x g r k)
    exact funext fun a => by match a with | 0 => rfl | 1 => rfl
  · exact congrArg w (funext fun a => by match a with | 0 => rfl | 1 => rfl)

/-- The product of the normalised rows with all the weights. -/
def whole (h : S512x1024.Idx → EReal) (w : S1024x4736.Idx → EReal) : S512x4736.Idx → EReal :=
  fun j => ∑ k : Fin 1024, h (ix2 (j 0) k) * w (ix2 k (j 1))

/-- A piece of the output block holding what `whole` has at its places. -/
def Ok (W : S512x4736.Idx → EReal) (p : View.Piece (Elt Ideal) S512x4736 .f32) : Prop := ∀ x, p.2 x = W (p.1.emb x)

/-- The contents pieces leave, each holding what `W` has there, is `W` wherever a piece lies. -/
theorem canon_ok (W : S512x4736.Idx → EReal) (y : S512x4736.Idx) :
    ∀ L : List (View.Piece (Elt Ideal) S512x4736 .f32), (∀ p ∈ L, Ok W p) → (∃ p ∈ L, y ∈ p.1.set) → View.canon L y = W y
  | [], _, h => by obtain ⟨_, hm, _⟩ := h; exact absurd hm List.not_mem_nil
  | p :: L, hok, h => by
    by_cases hy : y ∈ p.1.set
    · obtain ⟨r, w⟩ := p
      obtain ⟨x, rfl⟩ : ∃ x, r.emb x = y := r.exists_idx_of_mem hy
      rw [View.canon_cons_emb]
      exact hok ⟨r, w⟩ List.mem_cons_self x
    · rw [View.canon_cons_of_not_mem p L hy]
      refine canon_ok W y L (fun q hq => hok q (List.mem_cons_of_mem _ hq)) ?_
      obtain ⟨q, hq, hyq⟩ := h
      rcases List.mem_cons.mp hq with rfl | hq
      · exact absurd hyq hy
      · exact ⟨q, hq, hyq⟩

section Cols
variable {κ : Kind} {sp : Space}

/-- A product with 512 columns of the weights, stored at those columns. -/
theorem ok_512 (h : S512x1024.Idx → EReal) (v : View sig κ sp S1024x4736 .bf16) (f : v.ty.Contents (Elt Ideal)) (o : ℕ)
    (inb : ∀ a, ![0, o] a + S512x512.size a ≤ S512x4736.size a) (inb' : ∀ a, ![0, o] a + S1024x512.size a ≤ S1024x4736.size a) :
    Ok (whole h (v.read (Elt Ideal) f)) ⟨Rect.unit (s := S512x4736) ![0, o] S512x512.size inb,
      matmul (F := Ideal) (φ₁ := .bf16) (φ₂ := .bf16) dot_S512x1024_S1024x512_S512x512_1_0_0_1_n_n none h
        (v.readAt (Elt Ideal) (Rect.unit (s := S1024x4736) ![0, o] S1024x512.size inb').toLoadRect f) (constant S512x512 .f32 0x00000000#32)⟩ := by
  intro x
  refine (matmul_plain_zero (φ₁ := .bf16) (φ₂ := .bf16) dot_S512x1024_S1024x512_S512x512_1_0_0_1_n_n rfl none h _ x).trans ?_
  refine Finset.sum_congr rfl fun k _ => ?_
  refine congr (congrArg (HMul.hMul (α := EReal)) (congrArg h ?_)) (congrArg (v.read (Elt Ideal) f) ?_)
  · funext a; apply Fin.ext
    match a with
    | 0 => show (x 0).val = 0 + 1 * (x 0).val; omega
    | 1 => rfl
  · funext a; apply Fin.ext
    match a with
    | 0 => show 0 + 1 * k.val = k.val; omega
    | 1 => rfl

/-- A product with the last 128 columns of the weights, stored at those columns. -/
theorem ok_128 (h : S512x1024.Idx → EReal) (v : View sig κ sp S1024x4736 .bf16) (f : v.ty.Contents (Elt Ideal)) (o : ℕ)
    (inb : ∀ a, ![0, o] a + S512x128.size a ≤ S512x4736.size a) (inb' : ∀ a, ![0, o] a + S1024x128.size a ≤ S1024x4736.size a) :
    Ok (whole h (v.read (Elt Ideal) f)) ⟨Rect.unit (s := S512x4736) ![0, o] S512x128.size inb,
      matmul (F := Ideal) (φ₁ := .bf16) (φ₂ := .bf16) dot_S512x1024_S1024x128_S512x128_1_0_0_1_n_n none h
        (v.readAt (Elt Ideal) (Rect.unit (s := S1024x4736) ![0, o] S1024x128.size inb').toLoadRect f) (constant S512x128 .f32 0x00000000#32)⟩ := by
  intro x
  refine (matmul_plain_zero (φ₁ := .bf16) (φ₂ := .bf16) dot_S512x1024_S1024x128_S512x128_1_0_0_1_n_n rfl none h _ x).trans ?_
  refine Finset.sum_congr rfl fun k _ => ?_
  refine congr (congrArg (HMul.hMul (α := EReal)) (congrArg h ?_)) (congrArg (v.read (Elt Ideal) f) ?_)
  · funext a; apply Fin.ext
    match a with
    | 0 => show (x 0).val = 0 + 1 * (x 0).val; omega
    | 1 => rfl
  · funext a; apply Fin.ext
    match a with
    | 0 => show 0 + 1 * k.val = k.val; omega
    | 1 => rfl

end Cols

/-- Every piece the body stores holds the product's columns there. -/
theorem pieces_ok (c : Dev nD) (i : grid0.Coords) (arg1 : Memref sig .tc .vmem S512x1024 .f32) (harg1 : arg1.IsWhole)
    (arg2 : Memref sig .tc .vmem S1x1024 .f32) (harg2 : arg2.IsWhole) (arg3 : Memref sig .tc .vmem S1024x4736 .bf16) (harg3 : arg3.IsWhole)
    (arg4 : Memref sig .tc .vmem S512x4736 .f32) (harg4 : arg4.IsWhole)
    (x0 : Vec Ideal S512x1024 .f32) (x1 : Vec Ideal S1x1024 .f32) (x2 : Vec Ideal S1024x4736 .bf16) :
    ∀ p ∈ (kernelRun0_A c i arg1 harg1 arg2 harg2 arg3 harg3 arg4 harg4 x0 x1 x2).1, Ok (whole (k0_pay7 (F := Ideal) x0 x1) x2) p := by
  have e0 : View.readAt (Elt Ideal) arg1.view (Rect.unit (s := S512x1024) ![0, 0] S512x1024.size inb_S512x1024_S512x1024_0_0).toLoadRect (harg1.unread x0) = x0 := by
    rw [View.readAt_eq_ld, harg1.read_unread, View.ld_unit_zero hz]
  have e1 : View.readAt (Elt Ideal) arg2.view (Rect.unit (s := S1x1024) ![0, 0] S1x1024.size inb_S1x1024_S1x1024_0_0).toLoadRect (harg2.unread x1) = x1 := by
    rw [View.readAt_eq_ld, harg2.read_unread, View.ld_unit_zero hz]
  have e2 : arg3.view.read (Elt Ideal) (harg3.unread x2) = x2 := harg3.read_unread x2
  have h5 := fun o inb inb' => ok_512 (k0_pay7 (F := Ideal) x0 x1) arg3.view (harg3.unread x2) o inb inb'
  have h1 := fun o inb inb' => ok_128 (k0_pay7 (F := Ideal) x0 x1) arg3.view (harg3.unread x2) o inb inb'
  rw [e2] at h5 h1
  unfold kernelRun0_A kernelRun0_A.sl.r
  simp only [List.forall_mem_cons]
  rw [e0, e1]
  refine ⟨h1 4608 _ _, h5 4096 _ _, h5 3584 _ _, h5 3072 _ _, h5 2560 _ _, h5 2048 _ _, h5 1536 _ _, h5 1024 _ _, h5 512 _ _, h5 0 _ _, fun p hp => absurd hp List.not_mem_nil⟩

/-- What the result array is shown to hold: the reference's value of the arguments. -/
abbrev G (c : Dev nD) : S32768x4736.Idx → EReal :=
  Cert.Reference2Ideal.Read.val_main_v13 (F := Ideal) (m ((c : Thread nD τ).loc main_arg0)) (m ((c : Thread nD τ).loc main_arg1))
    (m ((c : Thread nD τ).loc main_arg2))

/-- Row `r` of point `t`'s blocks, in the arrays. -/
def row (t : Fin cfg0.N) (r : Fin 512) : Fin 32768 := ⟨t.val * 512 + r.val, by
  have := t.isLt; have e : cfg0.N = 64 := N_0; omega⟩

theorem index_0 (t : Fin cfg0.N) : win0_0.index t 0 = t.val ∧ win0_0.index t 1 = 0 := by revert t; decide +kernel
theorem index_1 (t : Fin cfg0.N) : win0_1.index t 0 = 0 ∧ win0_1.index t 1 = 0 := by revert t; decide +kernel
theorem index_2 (t : Fin cfg0.N) : win0_2.index t 0 = 0 ∧ win0_2.index t 1 = 0 := by revert t; decide +kernel
theorem index_3 (t : Fin cfg0.N) : win0_3.index t 0 = t.val ∧ win0_3.index t 1 = 0 := by revert t; decide +kernel

theorem blk_0 (c : Dev nD) (t : Fin cfg0.N) (r : Fin 512) (k : Fin 1024) :
    iblk m c 0 t (ix2 r k) = m ((c : Thread nD τ).loc main_arg0) (ix2 (row t r) k) := by
  refine congrArg (m ((c : Thread nD τ).loc main_arg0)) (funext fun a => Fin.ext ?_)
  match a with
  | 0 => exact (Pipeline.Window.rect_emb_val win0_0 t (ix2 r k) 0).trans (congrArg (· * 512 + r.val) (index_0 t).1)
  | 1 => exact Pipeline.Window.rect_emb_val_of_index_zero win0_0 t 1 (index_0 t).2 (ix2 r k)

theorem blk_1 (c : Dev nD) (t : Fin cfg0.N) (r : Fin 1) (k : Fin 1024) :
    iblk m c 1 t (ix2 r k) = m ((c : Thread nD τ).loc main_arg1) (ix2 r k) := by
  refine congrArg (m ((c : Thread nD τ).loc main_arg1)) (funext fun a => Fin.ext ?_)
  match a with
  | 0 => exact Pipeline.Window.rect_emb_val_of_index_zero win0_1 t 0 (index_1 t).1 (ix2 r k)
  | 1 => exact Pipeline.Window.rect_emb_val_of_index_zero win0_1 t 1 (index_1 t).2 (ix2 r k)

theorem blk_2 (c : Dev nD) (t : Fin cfg0.N) (r : Fin 1024) (k : Fin 4736) :
    iblk m c 2 t (ix2 r k) = m ((c : Thread nD τ).loc main_arg2) (ix2 r k) := by
  refine congrArg (m ((c : Thread nD τ).loc main_arg2)) (funext fun a => Fin.ext ?_)
  match a with
  | 0 => exact Pipeline.Window.rect_emb_val_of_index_zero win0_2 t 0 (index_2 t).1 (ix2 r k)
  | 1 => exact Pipeline.Window.rect_emb_val_of_index_zero win0_2 t 1 (index_2 t).2 (ix2 r k)

/-- Where the output block's place lies in the result array. -/
theorem emb_3 (t : Fin cfg0.N) (r : Fin 512) (n : Fin 4736) : (win0_3.rect t).emb (ix2 r n) = ix2 (row t r) n := by
  refine funext fun a => Fin.ext ?_
  match a with
  | 0 => exact (Pipeline.Window.rect_emb_val win0_3 t (ix2 r n) 0).trans (congrArg (· * 512 + r.val) (index_3 t).1)
  | 1 => exact Pipeline.Window.rect_emb_val_of_index_zero win0_3 t 1 (index_3 t).2 (ix2 r n)

/-- What a point writes back is its block of the reference's value. -/
theorem flushed_eq (c : Dev nD) (t : Fin cfg0.N) :
    (dats m 0 c).flushed 3 t = ((cfg0.win 3).blk t).view.read (Elt Ideal) (G m c) := by
  rw [Value.flushed3_A m c t]
  unfold out0_A_3
  rw [View.read_writes_junk_eq_canon]
  funext j
  obtain ⟨r, n, rfl⟩ : ∃ (r : Fin 512) (n : Fin 4736), j = ix2 r n := ⟨j 0, j 1, funext fun a => by match a with | 0 => rfl | 1 => rfl⟩
  refine (canon_ok _ (ix2 r n) _ (pieces_ok c _ _ _ _ _ _ _ _ _ _ _ _) (cover0_A_3 c _ _ _ _ _ _ _ _ _ _ _ _ (ix2 r n))).trans ?_
  refine Eq.trans ?_ (congrArg (G m c) (emb_3 t r n)).symm
  refine Eq.trans ?_ (ref_apply _ _ _ (row t r) n).symm
  refine Finset.sum_congr rfl fun k _ => ?_
  refine congr (congrArg (HMul.hMul (α := EReal)) ((pay7_apply _ _ r k).trans ?_)) (blk_2 m c t k n)
  exact congrArg₂ (fun x g => nrm x g k) (funext (blk_0 m c t r)) (funext (blk_1 m c t 0))

/-- An index of the result array is in point `t`'s block when its row is one of the block's. -/
theorem mem_blk (t : Fin cfg0.N) (i : S32768x4736.Idx) (h : t.val = (i 0 : Nat) / 512) :
    i ∈ ((cfg0.win 3).blk t).view.set := by
  have h0 : (i 0 : Nat) < 32768 := (i 0).isLt
  have h1 : (i 1 : Nat) < 4736 := (i 1).isLt
  show i ∈ ((View.whole main_v0).slice (win0_3.rect t)).set
  rw [View.set_slice_whole, Rect.mem_set_unit]
  intro a
  match a with
  | 0 => show win0_3.index t 0 * 512 ≤ (i 0 : Nat) ∧ (i 0 : Nat) < win0_3.index t 0 * 512 + 512
         rw [(index_3 t).1]; omega
  | 1 => show win0_3.index t 1 * 4736 ≤ (i 1 : Nat) ∧ (i 1 : Nat) < win0_3.index t 1 * 4736 + 4736
         rw [(index_3 t).2]; omega

/-- The result's blocks tile its array. -/
theorem cover (i : S32768x4736.Idx) : ∃ t : Fin cfg0.N, (cfg0.win 3).flush t = true ∧ i ∈ ((cfg0.win 3).blk t).view.set := by
  have h0 : (i 0 : Nat) < 32768 := (i 0).isLt
  have hN : cfg0.N = 64 := N_0
  exact ⟨⟨(i 0 : Nat) / 512, by omega⟩, flush0_3 _, mem_blk _ i rfl⟩

/-- So the result array ends holding the reference's value. -/
theorem final (c : Dev nD) : (dats m 0 c).arrAt 3 cfg0.N = G m c :=
  (dats m 0 c).arrAt_eq_of_cover 3 (G m c) (fun t _ => flushed_eq m c t) cover

end Cert.Kernel2Ideal.In

namespace Cert.Proof

open Idealize.ShloMosaic Idealize.SL.Sem Idealize.ShloMosaic.TcCoe

/-- The input projection's kernel and reference leave equal results. -/
theorem algebraic2 : Cert.algebraic_Kernel2Ideal_Reference2Ideal := by
  intro m g m' g' _ h
  refine ⟨fun c => Cert.Kernel2Ideal.In.G m c, ?_, ?_⟩
  · exact (θ_run Cert.Kernel2Ideal.defs _ _).mono (fun r hr c => ⟨(hr c).1.trans (Cert.Kernel2Ideal.In.final m c), (hr c).2⟩)
      (Cert.Kernel2Ideal.Value.run_blocks (F := Ideal) m g)
  · refine (θ_run Cert.Reference2Ideal.defs _ _).mono (fun r hr c => ⟨(hr c).1.trans ?_, (hr c).2⟩)
      (Cert.Reference2Ideal.Value.run (F := Ideal) m' g')
    obtain ⟨h0, h1, h2⟩ := h c
    rw [h0, h1, h2]
    rfl

/-- The input projection's reference runs to its end, leaves its arguments and declares no semaphore. -/
theorem frame_r2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

end Cert.Proof
end
-- ==== Proof.Out.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Mm
public import Idealize.ShloMosaic.Lib.Quiescent

@[expose] public section

set_option maxRecDepth 16384

/-! The output projection: the result array of the call is the reference's, place by place. -/

noncomputable section

namespace Cert.Kernel3Ideal.Out

open Cert.Kernel3Ideal Cert.Kernel3Ideal.Gen Cert.Fox
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Five matrices of 256 columns laid side by side, at one place. -/
theorem cat_apply {α : Type} {n : ℕ} (x : Fin 5 → (⟨2, ![n, 256]⟩ : Shape).Idx → α)
    (h : Shape.Concatenates ([(⟨2, ![n, 256]⟩ : Shape), ⟨2, ![n, 256]⟩, ⟨2, ![n, 256]⟩, ⟨2, ![n, 256]⟩, ⟨2, ![n, 256]⟩]) ⟨2, ![n, 1280]⟩ 1)
    (r : Fin n) (k : Fin 1280) :
    concatenate (⟨2, ![n, 1280]⟩ : Shape) 1 [⟨⟨2, ![n, 256]⟩, x 0⟩, ⟨⟨2, ![n, 256]⟩, x 1⟩, ⟨⟨2, ![n, 256]⟩, x 2⟩, ⟨⟨2, ![n, 256]⟩, x 3⟩, ⟨⟨2, ![n, 256]⟩, x 4⟩] h (ix2 r k)
      = x ⟨k.val / 256, by omega⟩ (ix2 r ⟨k.val % 256, by omega⟩) :=
  concatenate_ofFn_apply (t := ⟨2, ![n, 1280]⟩) (s₁ := ⟨2, ![n, 256]⟩) 1 x h rfl 256 rfl (ix2 r k) ⟨k.val / 256, by omega⟩ rfl
    (ix2 r ⟨k.val % 256, by omega⟩) rfl fun b hb => by
      match b with
      | 0 => rfl
      | 1 => exact absurd rfl hb

/-- What the result array is shown to hold: the reference's value of the arguments. -/
abbrev G (c : Dev nD) : S32768x1024.Idx → EReal :=
  Cert.Reference3Ideal.Read.val_main_v8 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Row `r` of point `t`'s blocks, in the arrays. -/
def row (t : Fin cfg0.N) (r : Fin 1024) : Fin 32768 := ⟨t.val * 1024 + r.val, by
  have := t.isLt; have e : cfg0.N = 32 := N_0; omega⟩

theorem index_0 (t : Fin cfg0.N) : win0_0.index t 0 = t.val ∧ win0_0.index t 1 = 0 := by
  revert t; decide +kernel

theorem index_1 (t : Fin cfg0.N) : win0_1.index t 0 = t.val ∧ win0_1.index t 1 = 0 := by
  revert t; decide +kernel

theorem index_2 (t : Fin cfg0.N) : win0_2.index t 0 = t.val ∧ win0_2.index t 1 = 0 := by
  revert t; decide +kernel

theorem index_3 (t : Fin cfg0.N) : win0_3.index t 0 = t.val ∧ win0_3.index t 1 = 0 := by
  revert t; decide +kernel

theorem index_4 (t : Fin cfg0.N) : win0_4.index t 0 = t.val ∧ win0_4.index t 1 = 0 := by
  revert t; decide +kernel

theorem index_5 (t : Fin cfg0.N) : win0_5.index t 0 = 0 ∧ win0_5.index t 1 = 0 := by
  revert t; decide +kernel

theorem index_6 (t : Fin cfg0.N) : win0_6.index t 0 = t.val ∧ win0_6.index t 1 = 0 := by
  revert t; decide +kernel

theorem index_7 (t : Fin cfg0.N) : win0_7.index t 0 = t.val ∧ win0_7.index t 1 = 0 := by
  revert t; decide +kernel

theorem blk_0 (c : Dev nD) (t : Fin cfg0.N) (r : Fin 1024) (k : Fin 256) :
    iblk m c 0 t (ix2 r k) = m ((c : Thread nD τ).loc main_arg0) (ix2 (row t r) k) := by
  refine congrArg (m ((c : Thread nD τ).loc main_arg0)) (funext fun a => Fin.ext ?_)
  match a with
  | 0 => exact (Pipeline.Window.rect_emb_val win0_0 t (ix2 r k) 0).trans (congrArg (· * 1024 + r.val) (index_0 t).1)
  | 1 => exact Pipeline.Window.rect_emb_val_of_index_zero win0_0 t 1 (index_0 t).2 (ix2 r k)

theorem blk_1 (c : Dev nD) (t : Fin cfg0.N) (r : Fin 1024) (k : Fin 256) :
    iblk m c 1 t (ix2 r k) = m ((c : Thread nD τ).loc main_arg1) (ix2 (row t r) k) := by
  refine congrArg (m ((c : Thread nD τ).loc main_arg1)) (funext fun a => Fin.ext ?_)
  match a with
  | 0 => exact (Pipeline.Window.rect_emb_val win0_1 t (ix2 r k) 0).trans (congrArg (· * 1024 + r.val) (index_1 t).1)
  | 1 => exact Pipeline.Window.rect_emb_val_of_index_zero win0_1 t 1 (index_1 t).2 (ix2 r k)

theorem blk_2 (c : Dev nD) (t : Fin cfg0.N) (r : Fin 1024) (k : Fin 256) :
    iblk m c 2 t (ix2 r k) = m ((c : Thread nD τ).loc main_arg2) (ix2 (row t r) k) := by
  refine congrArg (m ((c : Thread nD τ).loc main_arg2)) (funext fun a => Fin.ext ?_)
  match a with
  | 0 => exact (Pipeline.Window.rect_emb_val win0_2 t (ix2 r k) 0).trans (congrArg (· * 1024 + r.val) (index_2 t).1)
  | 1 => exact Pipeline.Window.rect_emb_val_of_index_zero win0_2 t 1 (index_2 t).2 (ix2 r k)

theorem blk_3 (c : Dev nD) (t : Fin cfg0.N) (r : Fin 1024) (k : Fin 256) :
    iblk m c 3 t (ix2 r k) = m ((c : Thread nD τ).loc main_arg3) (ix2 (row t r) k) := by
  refine congrArg (m ((c : Thread nD τ).loc main_arg3)) (funext fun a => Fin.ext ?_)
  match a with
  | 0 => exact (Pipeline.Window.rect_emb_val win0_3 t (ix2 r k) 0).trans (congrArg (· * 1024 + r.val) (index_3 t).1)
  | 1 => exact Pipeline.Window.rect_emb_val_of_index_zero win0_3 t 1 (index_3 t).2 (ix2 r k)

theorem blk_4 (c : Dev nD) (t : Fin cfg0.N) (r : Fin 1024) (k : Fin 256) :
    iblk m c 4 t (ix2 r k) = m ((c : Thread nD τ).loc main_arg4) (ix2 (row t r) k) := by
  refine congrArg (m ((c : Thread nD τ).loc main_arg4)) (funext fun a => Fin.ext ?_)
  match a with
  | 0 => exact (Pipeline.Window.rect_emb_val win0_4 t (ix2 r k) 0).trans (congrArg (· * 1024 + r.val) (index_4 t).1)
  | 1 => exact Pipeline.Window.rect_emb_val_of_index_zero win0_4 t 1 (index_4 t).2 (ix2 r k)

theorem blk_5 (c : Dev nD) (t : Fin cfg0.N) (r : Fin 1280) (k : Fin 1024) :
    iblk m c 5 t (ix2 r k) = m ((c : Thread nD τ).loc main_arg5) (ix2 r k) := by
  refine congrArg (m ((c : Thread nD τ).loc main_arg5)) (funext fun a => Fin.ext ?_)
  match a with
  | 0 => exact Pipeline.Window.rect_emb_val_of_index_zero win0_5 t 0 (index_5 t).1 (ix2 r k)
  | 1 => exact Pipeline.Window.rect_emb_val_of_index_zero win0_5 t 1 (index_5 t).2 (ix2 r k)

theorem blk_6 (c : Dev nD) (t : Fin cfg0.N) (r : Fin 1024) (k : Fin 1024) :
    iblk m c 6 t (ix2 r k) = m ((c : Thread nD τ).loc main_arg6) (ix2 (row t r) k) := by
  refine congrArg (m ((c : Thread nD τ).loc main_arg6)) (funext fun a => Fin.ext ?_)
  match a with
  | 0 => exact (Pipeline.Window.rect_emb_val win0_6 t (ix2 r k) 0).trans (congrArg (· * 1024 + r.val) (index_6 t).1)
  | 1 => exact Pipeline.Window.rect_emb_val_of_index_zero win0_6 t 1 (index_6 t).2 (ix2 r k)

/-- Where the output block's place lies in the result array. -/
theorem emb_7 (t : Fin cfg0.N) (r : Fin 1024) (n : Fin 1024) : (win0_7.rect t).emb (ix2 r n) = ix2 (row t r) n := by
  refine funext fun a => Fin.ext ?_
  match a with
  | 0 => exact (Pipeline.Window.rect_emb_val win0_7 t (ix2 r n) 0).trans (congrArg (· * 1024 + r.val) (index_7 t).1)
  | 1 => exact Pipeline.Window.rect_emb_val_of_index_zero win0_7 t 1 (index_7 t).2 (ix2 r n)

/-- The reference's value at one place: the residual plus the product with the five parts side by side. -/
theorem ref_apply (x0 x1 x2 x3 x4 : S32768x256.Idx → EReal) (x5 : S1280x1024.Idx → EReal) (x6 : S32768x1024.Idx → EReal)
    (r : Fin 32768) (n : Fin 1024) :
    Cert.Reference3Ideal.Read.val_main_v8 (F := Ideal) x0 x1 x2 x3 x4 x5 x6 (ix2 r n) = x6 (ix2 r n)
      + ∑ k : Fin 1280, (![x0, x1, x2, x3, x4] : Fin 5 → S32768x256.Idx → EReal)
          ⟨k.val / 256, by omega⟩ (ix2 r ⟨k.val % 256, by omega⟩) * x5 (ix2 k n) := by
  refine congrArg (x6 (ix2 r n) + ·) ((Cert.Reference3Ideal.Read.val_main_v7_apply x0 x1 x2 x3 x4 x5 (ix2 r n)).trans
    (Finset.sum_congr rfl fun k _ => ?_))
  refine congr (congrArg (HMul.hMul (α := EReal)) ?_) ?_
  · refine (congrArg _ ?_).trans (cat_apply ![x0, x1, x2, x3, x4] _ r k)
    exact funext fun a => by match a with | 0 => rfl | 1 => rfl
  · exact congrArg x5 (funext fun a => by match a with | 0 => rfl | 1 => rfl)

/-- The body's value at one place of the block. -/
theorem pay_apply (x0 x1 x2 x3 x4 : S1024x256.Idx → EReal) (x6 : S1024x1024.Idx → EReal) (x5 : S1280x1024.Idx → EReal)
    (r : Fin 1024) (n : Fin 1024) :
    k0_pay1 (F := Ideal) x0 x1 x2 x3 x4 x6 x5 (ix2 r n) = x6 (ix2 r n)
      + ∑ k : Fin 1280, (![x0, x1, x2, x3, x4] : Fin 5 → S1024x256.Idx → EReal)
          ⟨k.val / 256, by omega⟩ (ix2 r ⟨k.val % 256, by omega⟩) * x5 (ix2 k n) := by
  refine congrArg (HAdd.hAdd (α := EReal) (x6 (ix2 r n))) ?_
  refine (matmul_plain_zero (φ₁ := .bf16) (φ₂ := .bf16) dot_S1024x1280_S1280x1024_S1024x1024_1_0_0_1_n_n rfl none _ x5 (ix2 r n)).trans ?_
  exact Finset.sum_congr rfl fun k _ => congrArg (HMul.hMul (α := EReal) · (x5 (ix2 k n))) (cat_apply ![x0, x1, x2, x3, x4] _ r k)

theorem hz : (![0, 0] : Fin 2 → Nat) = fun _ => 0 := funext fun a => by fin_cases a <;> rfl

/-- Five families of blocks that are rows of five arrays: the family picked by the column is too. -/
theorem pick_eq {n N : ℕ} (x : Fin 5 → (⟨2, ![n, 256]⟩ : Shape).Idx → EReal) (y : Fin 5 → (⟨2, ![N, 256]⟩ : Shape).Idx → EReal)
    (r : Fin n) (R : Fin N) (h0 : ∀ k, x 0 (ix2 r k) = y 0 (ix2 R k)) (h1 : ∀ k, x 1 (ix2 r k) = y 1 (ix2 R k))
    (h2 : ∀ k, x 2 (ix2 r k) = y 2 (ix2 R k)) (h3 : ∀ k, x 3 (ix2 r k) = y 3 (ix2 R k))
    (h4 : ∀ k, x 4 (ix2 r k) = y 4 (ix2 R k)) (p : Fin 5) (k : Fin 256) : x p (ix2 r k) = y p (ix2 R k) := by
  match p with
  | 0 => exact h0 k
  | 1 => exact h1 k
  | 2 => exact h2 k
  | 3 => exact h3 k
  | 4 => exact h4 k

/-- What a point writes back is its block of the reference's value. -/
theorem flushed_eq (c : Dev nD) (t : Fin cfg0.N) :
    (dats m 0 c).flushed 7 t = ((cfg0.win 7).blk t).view.read (Elt Ideal) (G m c) := by
  rw [Value.flushed7 m c t]
  unfold out0_7
  rw [View.canon_unit_zero hz, View.ld_unit_zero hz, View.ld_unit_zero hz, View.ld_unit_zero hz, View.ld_unit_zero hz,
    View.ld_unit_zero hz, View.ld_unit_zero hz, View.ld_unit_zero hz]
  funext j
  obtain ⟨r, n, rfl⟩ : ∃ (r : Fin 1024) (n : Fin 1024), j = ix2 r n := ⟨j 0, j 1, funext fun a => by match a with | 0 => rfl | 1 => rfl⟩
  refine (pay_apply _ _ _ _ _ _ _ r n).trans ?_
  refine Eq.trans ?_ (congrArg (G m c) (emb_7 t r n)).symm
  refine Eq.trans ?_ (ref_apply _ _ _ _ _ _ _ (row t r) n).symm
  refine congr (congrArg (HAdd.hAdd (α := EReal)) (blk_6 m c t r n)) (Finset.sum_congr rfl fun k _ => ?_)
  refine congr (congrArg (HMul.hMul (α := EReal)) ?_) (blk_5 m c t k n)
  exact pick_eq _ _ r (row t r) (blk_0 m c t r) (blk_1 m c t r) (blk_2 m c t r) (blk_3 m c t r) (blk_4 m c t r) _ _

/-- An index of the result array is in point `t`'s block exactly when its row is one of the block's. -/
theorem mem_blk (t : Fin cfg0.N) (i : S32768x1024.Idx) (h : t.val = (i 0 : Nat) / 1024) :
    i ∈ ((cfg0.win 7).blk t).view.set := by
  have h0 : (i 0 : Nat) < 32768 := (i 0).isLt
  have h1 : (i 1 : Nat) < 1024 := (i 1).isLt
  show i ∈ ((View.whole main_v0).slice (win0_7.rect t)).set
  rw [View.set_slice_whole, Rect.mem_set_unit]
  intro a
  match a with
  | 0 => show win0_7.index t 0 * 1024 ≤ (i 0 : Nat) ∧ (i 0 : Nat) < win0_7.index t 0 * 1024 + 1024
         rw [(index_7 t).1]; omega
  | 1 => show win0_7.index t 1 * 1024 ≤ (i 1 : Nat) ∧ (i 1 : Nat) < win0_7.index t 1 * 1024 + 1024
         rw [(index_7 t).2]; omega

/-- The result's blocks tile its array. -/
theorem cover (i : S32768x1024.Idx) : ∃ t : Fin cfg0.N, (cfg0.win 7).flush t = true ∧ i ∈ ((cfg0.win 7).blk t).view.set := by
  have h0 : (i 0 : Nat) < 32768 := (i 0).isLt
  have hN : cfg0.N = 32 := N_0
  exact ⟨⟨(i 0 : Nat) / 1024, by omega⟩, flush0_7 _, mem_blk _ i rfl⟩

/-- So the result array ends holding the reference's value. -/
theorem final (c : Dev nD) : (dats m 0 c).arrAt 7 cfg0.N = G m c :=
  (dats m 0 c).arrAt_eq_of_cover 7 (G m c) (fun t _ => flushed_eq m c t) cover

end Cert.Kernel3Ideal.Out

namespace Cert.Proof

open Idealize.ShloMosaic Idealize.SL.Sem Idealize.ShloMosaic.TcCoe

/-- The output projection's kernel and reference leave equal results. -/
theorem algebraic3 : Cert.algebraic_Kernel3Ideal_Reference3Ideal := by
  intro m g m' g' _ h
  refine ⟨fun c => Cert.Kernel3Ideal.Out.G m c, ?_, ?_⟩
  · exact (θ_run Cert.Kernel3Ideal.defs _ _).mono (fun r hr c => ⟨(hr c).1.trans (Cert.Kernel3Ideal.Out.final m c), (hr c).2⟩)
      (Cert.Kernel3Ideal.Value.run_blocks (F := Ideal) m g)
  · refine (θ_run Cert.Reference3Ideal.defs _ _).mono (fun r hr c => ⟨(hr c).1.trans ?_, (hr c).2⟩)
      (Cert.Reference3Ideal.Value.run (F := Ideal) m' g')
    obtain ⟨h0, h1, h2, h3, h4, h5, h6⟩ := h c
    rw [h0, h1, h2, h3, h4, h5, h6]
    rfl

/-- The output projection's reference runs to its end, leaves its arguments and declares no semaphore. -/
theorem frame_r3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

end Cert.Proof
end
-- ==== Proof.Hd.lean ====
module

public import proofs.«01_k».proof.Proof.KV.Vec

@[expose] public section

/-! Heads of 64 columns: sums over a head written as sums over all columns or over a pair of heads with the others masked,
the root mean square of a head, and the softmax of a row. -/

noncomputable section

namespace Cert.Fox

open Idealize.ShloMosaic hiding ix0 ix1 ix2 ix3 ix4 ix5
open Idealize.ShloMosaic.ValueIdx

/-- A sum over 256 columns that counts one head's columns only. -/
theorem head_sum (x : Fin 256 → EReal) (j : Fin 256) :
    ∑ k : Fin 256, x k * (if k.val / 64 = j.val / 64 then 1 else 0) = ∑ d : Fin 64, x ⟨j.val / 64 * 64 + d.val, by omega⟩ := by
  have e : ∑ k : Fin 256, x k * (if k.val / 64 = j.val / 64 then 1 else 0)
      = ∑ h : Fin 4, ∑ d : Fin 64, x ⟨h.val * 64 + d.val, by omega⟩ * (if h.val = j.val / 64 then 1 else 0) := by
    rw [← Fintype.sum_prod_type']
    refine (Fintype.sum_equiv (finProdFinEquiv (m := 4) (n := 64)) _ _ fun p => ?_).symm
    obtain ⟨h, d⟩ := p
    have ev : (finProdFinEquiv (h, d) : Fin (4 * 64)).val = h.val * 64 + d.val := by
      show d.val + 64 * h.val = _
      omega
    have ei : (finProdFinEquiv (h, d) : Fin 256) = ⟨h.val * 64 + d.val, by omega⟩ := Fin.ext ev
    have eq : (h.val * 64 + d.val) / 64 = h.val := by omega
    show _ = x (finProdFinEquiv (h, d) : Fin 256) * (if (finProdFinEquiv (h, d) : Fin 256).val / 64 = j.val / 64 then 1 else 0)
    rw [ei]
    show _ = x _ * (if (h.val * 64 + d.val) / 64 = j.val / 64 then 1 else 0)
    rw [eq]
  rw [e, Finset.sum_eq_single (⟨j.val / 64, by omega⟩ : Fin 4)]
  · exact Finset.sum_congr rfl fun d _ => by rw [if_pos rfl, mul_one]
  · intro h _ hne
    refine Finset.sum_eq_zero fun d _ => ?_
    rw [if_neg (fun hh => hne (Fin.ext hh)), mul_zero]
  · exact fun hn => absurd (Finset.mem_univ _) hn

/-- The same of numbers split into themselves and what is left of them: reals leave nothing. -/
theorem split_sum (x : Fin 256 → EReal) (hx : ∀ k, ∃ r : ℝ, x k = r) (j : Fin 256) :
    (∑ k : Fin 256, x k * (if k.val / 64 = j.val / 64 then 1 else 0)) + ∑ k : Fin 256, (x k - x k) * (if k.val / 64 = j.val / 64 then 1 else 0)
      = ∑ d : Fin 64, x ⟨j.val / 64 * 64 + d.val, by omega⟩ := by
  have z : ∑ k : Fin 256, (x k - x k) * (if k.val / 64 = j.val / 64 then 1 else 0 : EReal) = 0 :=
    Finset.sum_eq_zero fun k _ => by
      obtain ⟨r, e⟩ := hx k
      rw [e, ← EReal.coe_sub, sub_self, EReal.coe_zero, zero_mul]
  rw [z, add_zero, head_sum]

/-- A sum over 128 lanes of which the first 64 count. -/
theorem low_sum (f g : Fin 128 → EReal) :
    ∑ k : Fin 128, (if k.val < 64 then f k else 0) * g k = ∑ d : Fin 64, f ⟨d.val, by omega⟩ * g ⟨d.val, by omega⟩ := by
  refine (Fin.sum_univ_add (a := 64) (b := 64) (fun k : Fin 128 => (if k.val < 64 then f k else 0) * g k)).trans ?_
  refine Eq.trans (congr (congrArg (HAdd.hAdd (α := EReal)) ?_) (Finset.sum_eq_zero fun d _ => ?_)) (add_zero _)
  · refine Finset.sum_congr rfl fun d _ => ?_
    show (if d.val < 64 then f _ else 0) * g _ = _
    rw [if_pos d.isLt]; rfl
  · show (if 64 + d.val < 64 then f _ else 0) * g _ = _
    rw [if_neg (by omega), zero_mul]

/-- A sum over 128 lanes of which the last 64 count. -/
theorem high_sum (f g : Fin 128 → EReal) :
    ∑ k : Fin 128, (if k.val < 64 then 0 else f k) * g k = ∑ d : Fin 64, f ⟨64 + d.val, by omega⟩ * g ⟨64 + d.val, by omega⟩ := by
  refine (Fin.sum_univ_add (a := 64) (b := 64) (fun k : Fin 128 => (if k.val < 64 then 0 else f k) * g k)).trans ?_
  refine Eq.trans (congr (congrArg (HAdd.hAdd (α := EReal)) (Finset.sum_eq_zero fun d _ => ?_)) ?_) (zero_add _)
  · show (if d.val < 64 then 0 else f _) * g _ = _
    rw [if_pos d.isLt, zero_mul]
  · refine Finset.sum_congr rfl fun d _ => ?_
    show (if 64 + d.val < 64 then 0 else f _) * g _ = _
    rw [if_neg (by omega)]; rfl

/-- A real, nonnegative factor of every term is a factor of the sum. -/
theorem sum_mul_real {ι : Type} (s : Finset ι) (f : ι → EReal) (c : ℝ) (hc : 0 ≤ c) : ∑ i ∈ s, f i * c = (∑ i ∈ s, f i) * c := by
  classical
  induction s using Finset.induction_on with
  | empty => rw [Finset.sum_empty, Finset.sum_empty, zero_mul]
  | insert a s ha ih =>
    rw [Finset.sum_insert ha, Finset.sum_insert ha, ih]
    exact (EReal.right_distrib_of_nonneg_of_ne_top (EReal.coe_nonneg.mpr hc) (EReal.coe_ne_top c) _ _).symm

theorem word_64 : Ideal.ofBits .f32 0x42800000#32 = ((64 : ℝ) : EReal) := by
  simp [Ideal.ofBits, Ideal.ieee, -EReal.coe_mul]; norm_num

theorem word_64th : Ideal.ofBits .f32 0x3C800000#32 = (((64 : ℝ)⁻¹ : ℝ) : EReal) := by
  simp [Ideal.ofBits, Ideal.ieee, -EReal.coe_mul]; norm_num

theorem word_8th : Ideal.ofBits .f32 0x3E000000#32 = ((0.125 : ℝ) : EReal) := by
  simp [Ideal.ofBits, Ideal.ieee, -EReal.coe_mul]; norm_num

/-- Division by 64 is the product with its inverse. -/
theorem div_64 (x : EReal) : x * Ideal.ofBits .f32 0x3C800000#32 = Ideal.div x (Ideal.ofBits .f32 0x42800000#32) := by
  rw [word_64, word_64th]
  unfold Ideal.div
  rw [if_neg (by exact_mod_cast (by norm_num : (64 : ℝ) ≠ 0)), EReal.coe_inv]

/-- A head's entry over the head's root mean square, times the gain. -/
def hrms (x : Fin 64 → EReal) (g : EReal) (d : Fin 64) : EReal :=
  x d * Ideal.rsqrt (Ideal.div (∑ i : Fin 64, x i * x i) (Ideal.ofBits .f32 0x42800000#32) + Ideal.ofBits .f32 0x358637BD#32) * g

/-- The columns of head `h` of a row. -/
def head (x : Fin 256 → EReal) (h : Fin 4) (d : Fin 64) : EReal := x ⟨h.val * 64 + d.val, by omega⟩

/-- The head of a column, and the column's place in it. -/
def hd (j : Fin 256) : Fin 4 := ⟨j.val / 64, by omega⟩
def lane (j : Fin 256) : Fin 64 := ⟨j.val % 64, Nat.mod_lt _ (by decide)⟩

theorem head_lane (x : Fin 256 → EReal) (j : Fin 256) : head x (hd j) (lane j) = x j :=
  congrArg x (Fin.ext (by show j.val / 64 * 64 + j.val % 64 = j.val; omega))

/-- The root mean square taken by a product with the matrix that says which columns share a head. -/
theorem rms_apply (x : Fin 256 → EReal) (hx : ∀ k, ∃ r : ℝ, x k = r) (B : Fin 256 → EReal) (g : EReal) (j : Fin 256)
    (hB : ∀ k, B k = if k.val / 64 = j.val / 64 then 1 else 0) :
    x j * Ideal.rsqrt (((∑ k : Fin 256, x k * x k * B k) + ∑ k : Fin 256, (x k * x k - x k * x k) * B k) * Ideal.ofBits .f32 0x3C800000#32
        + Ideal.ofBits .f32 0x358637BD#32) * g = hrms (head x (hd j)) g (lane j) := by
  have e := split_sum (fun k => x k * x k) (fun k => by
    obtain ⟨r, e⟩ := hx k
    exact ⟨r * r, by rw [e, EReal.coe_mul]⟩) j
  unfold hrms
  rw [head_lane x j]
  refine congrArg (fun z => x j * Ideal.rsqrt (z + Ideal.ofBits .f32 0x358637BD#32) * g) ?_
  refine (div_64 _).trans (congrArg (fun z => Ideal.div z (Ideal.ofBits .f32 0x42800000#32)) ?_)
  refine Eq.trans ?_ e
  simp only [hB]

/-- Floor division of a nonnegative word by 64, as a quotient rounded to zero and corrected by the signs. -/
def quot64 (x : BitVec 32) : BitVec 32 :=
  Scalar.select
    (IntOp.andi
      (IntOp.cmpi .ne (IntOp.subi ((IntOp.cmpi .sgt x 0#32).zeroExtend 32) ((IntOp.cmpi .slt x 0#32).zeroExtend 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem quot64_ofNat (k : Fin 256) : quot64 (BitVec.ofNat 32 k.val) = BitVec.ofNat 32 (k.val / 64) := by
  revert k; decide +kernel

/-- Whether two columns share a head, as a word. -/
theorem same_head (k j : Fin 256) :
    ((IntOp.cmpi .eq (quot64 (BitVec.ofNat 32 k.val)) (quot64 (BitVec.ofNat 32 j.val))).zeroExtend 32).toInt = if k.val / 64 = j.val / 64 then 1 else 0 := by
  rw [quot64_ofNat, quot64_ofNat]
  have h : ∀ a b : Fin 4, ((IntOp.cmpi .eq (BitVec.ofNat 32 a.val) (BitVec.ofNat 32 b.val)).zeroExtend 32).toInt = if a.val = b.val then 1 else 0 := by
    decide +kernel
  exact h ⟨k.val / 64, by omega⟩ ⟨j.val / 64, by omega⟩

/-- The same as a number. -/
theorem same_head_real (k j : Fin 256) :
    (FloatOps.sitofp (F := Ideal) .f32 ((IntOp.cmpi .eq (quot64 (BitVec.ofNat 32 k.val)) (quot64 (BitVec.ofNat 32 j.val))).zeroExtend 32) : EReal)
      = if k.val / 64 = j.val / 64 then 1 else 0 := by
  show ((((IntOp.cmpi .eq (quot64 (BitVec.ofNat 32 k.val)) (quot64 (BitVec.ofNat 32 j.val))).zeroExtend 32).toInt : ℝ) : EReal) = _
  rw [same_head]
  split <;> simp

/-- The lane within a pair of heads, as the remainder by 128 corrected by the signs, is below 64. -/
def lowLane (x : BitVec 32) : BitVec 1 :=
  IntOp.cmpi .slt
    (Scalar.select
      (IntOp.andi
        (IntOp.xori (IntOp.cmpi .slt (IntOp.remsi .vector x (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector x (Scalar.select (Scalar.cmpi .eq 128#32 0#32) 1#32 128#32)) 0#32))
      (IntOp.addi (IntOp.remsi .vector x (Scalar.select (Scalar.cmpi .eq 128#32 0#32) 1#32 128#32)) (Scalar.select (Scalar.cmpi .eq 128#32 0#32) 1#32 128#32))
      (IntOp.remsi .vector x (Scalar.select (Scalar.cmpi .eq 128#32 0#32) 1#32 128#32)))
    64#32

theorem lowLane_ofNat (k : Fin 128) : lowLane (BitVec.ofNat 32 k.val) = if k.val < 64 then 1#1 else 0#1 := by
  revert k; decide +kernel

theorem not_lowLane_ofNat (k : Fin 128) : IntOp.xori (lowLane (BitVec.ofNat 32 k.val)) 1#1 = if k.val < 64 then 0#1 else 1#1 := by
  revert k; decide +kernel

/-- A choice by the lane. -/
theorem select_low (k : Fin 128) (a b : EReal) : Scalar.select (lowLane (BitVec.ofNat 32 k.val)) a b = if k.val < 64 then a else b := by
  rw [lowLane_ofNat]
  split <;> rfl

theorem select_high (k : Fin 128) (a b : EReal) : Scalar.select (IntOp.xori (lowLane (BitVec.ofNat 32 k.val)) 1#1) a b = if k.val < 64 then b else a := by
  rw [not_lowLane_ofNat]
  split <;> rfl

/-- A product of an `M×K` matrix by the transpose of an `N×K` one. -/
theorem matmul_nt_zero {M K N : ℕ} {φ₁ φ₂ : FTy} (d : DotDims ⟨2, ![M, K]⟩ ⟨2, ![N, K]⟩ ⟨2, ![M, N]⟩)
    (hd : d = DotDims.transposedRhs M K N) (p : Option ContractPrecision)
    (x : FVec Ideal ⟨2, ![M, K]⟩ φ₁) (y : FVec Ideal ⟨2, ![N, K]⟩ φ₂) (r : Fin M) (c : Fin N) :
    matmul d p x y (constant _ .f32 0x00000000#32) (ix2 r c) = ∑ k : Fin K, ((x (ix2 r k) : EReal) * y (ix2 c k)) := by
  subst hd
  refine (Ideal.matmul_apply₁_of (DotDims.transposedRhs M K N) (a := 1) rfl (K := K) rfl x y (constant (F := Ideal) (⟨2, ![M, N]⟩ : Shape) .f32 0x00000000#32) (ix2 r c)
    (fun k => ix2 r k) (fun k => ix2 c k) (fun k => ?_) fun k => ?_).trans ?_
  · funext a
    match a with
    | 0 => rfl
    | 1 => rfl
  · funext a
    match a with
    | 0 => rfl
    | 1 => rfl
  · show Ideal.ofBits .f32 0x00000000#32 + _ = _
    rw [Ideal.ofBits_zero_f32, zero_add]

/-- The largest entry of a row, repeated along it. -/
theorem rowMax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩) (i : Fin a) (j : Fin b) :
    broadcastTo (⟨2, ![a, b]⟩ : Shape) (shapeCast (⟨2, ![a, 1]⟩ : Shape) (multiReduction .maximumf [1] (⟨1, ![a]⟩ : Shape) x 0xFF800000#32 h hφ hacc) hc) hb (ix2 i j)
      = (Finset.univ : Finset (Fin b)).sup fun k => (x (ix2 i k) : EReal) := by
  refine (broadcastTo_apply _ hb (ix2 i j) (ix2 i (0 : Fin 1)) ?_).trans ?_
  · intro c
    match c with
    | 0 =>
      show i.val = if a = 1 then 0 else i.val
      split
      · have := i.isLt; omega
      · rfl
    | 1 => rfl
  refine (shapeCast_apply _ hc (ix2 i (0 : Fin 1)) (ix1 i) ?_).trans ?_
  · rw [Shape.rowMajor_val_two, Shape.rowMajor_val_one]
    show i.val = i.val * 1 + 0
    omega
  refine (Ideal.multiReduction_maximumf_single x 0xFF800000#32 h hφ hacc (ix1 i)).trans ?_
  refine (congrArg (fun t => (Finset.univ : Finset (Fin b)).fold max t (x ∘ h.lift (ix1 i))) negInf).trans ?_
  refine congrArg (fun f : Fin b → EReal => (Finset.univ : Finset (Fin b)).fold max ⊥ f) (funext fun k => congrArg x (funext fun c => ?_))
  match c with
  | 0 => rfl
  | 1 => rfl

/-- The sum of a row, repeated along it. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (i : Fin a) (j : Fin b) :
    broadcastTo (⟨2, ![a, b]⟩ : Shape) (shapeCast (⟨2, ![a, 1]⟩ : Shape) (multiReduction .add [1] (⟨1, ![a]⟩ : Shape) x 0x00000000#32 h hφ hacc) hc) hb (ix2 i j)
      = ∑ k : Fin b, (x (ix2 i k) : EReal) := by
  refine (broadcastTo_apply _ hb (ix2 i j) (ix2 i (0 : Fin 1)) ?_).trans ?_
  · intro c
    match c with
    | 0 =>
      show i.val = if a = 1 then 0 else i.val
      split
      · have := i.isLt; omega
      · rfl
    | 1 => rfl
  refine (shapeCast_apply _ hc (ix2 i (0 : Fin 1)) (ix1 i) ?_).trans ?_
  · rw [Shape.rowMajor_val_two, Shape.rowMajor_val_one]
    show i.val = i.val * 1 + 0
    omega
  refine (Ideal.multiReduction_add_single _ _ h hφ hacc (ix1 i)).trans (Finset.sum_congr rfl fun k _ => congrArg x (funext fun c => ?_))
  match c with
  | 0 => rfl
  | 1 => rfl

/-- The softmax of a row. -/
def soft {n : ℕ} (s : Fin n → EReal) (k : Fin n) : EReal :=
  Ideal.div (Ideal.exp (s k - Finset.univ.sup s)) (∑ i : Fin n, Ideal.exp (s i - Finset.univ.sup s))

end Cert.Fox
end
-- ==== Proof.MA.Pay.lean ====
module

public import proofs.«01_k».proof.Defs
public import proofs.«01_k».proof.Proof.Gen.Kernel4Ideal.Value
public import proofs.«01_k».proof.Proof.Mm
public import proofs.«01_k».proof.Proof.Hd

@[expose] public section

set_option maxRecDepth 16384

/-! The memory attention: what the body computes from its blocks, at one place. -/

noncomputable section

namespace Cert.Kernel4Ideal.MA

open Cert.Kernel4Ideal Cert.Kernel4Ideal.Gen Cert.Fox
open Idealize.ShloMosaic hiding ix0 ix1 ix2 ix3 ix4 ix5
open Idealize.ShloMosaic.ValueIdx Idealize.ShloMosaic.TcCoe Idealize.SL.Sem

/-- The score of a query row against a memory row, for one head. -/
def score (x g : Fin 256 → EReal) (kn : Fin 256 → Fin 256 → EReal) (h : Fin 4) (k : Fin 256) : EReal :=
  (∑ d : Fin 64, hrms (head x h) (head g h d) d * head (kn k) h d) * Ideal.ofBits .f32 0x3E000000#32

/-- One place of the result: the memory's values weighted by the softmax of the scores, times the gate. -/
def att (x g : Fin 256 → EReal) (kn v : Fin 256 → Fin 256 → EReal) (z : EReal) (j : Fin 256) : EReal :=
  (∑ k : Fin 256, soft (score x g kn (hd j)) k * v k j) * (z * Ideal.div 1 (1 + Ideal.exp (-z)))

/-- The queries as the body has them. -/
abbrev Q (x : S512x256.Idx → EReal) (g : S1x256.Idx → EReal) : S512x256.Idx → EReal :=
  k0_pay6 (F := Ideal) x g (k0_pay2 (F := Ideal) x) k0_pay3 (iota .tc S256x256 32 [1] iota_S256x256_d1_w32) 64#32 k0_pay4 k0_pay5
    (Scalar.extui (Scalar.cmpi .sgt 64#32 0#32)) (Scalar.extui (Scalar.cmpi .slt 64#32 0#32))

/-- Which columns share a head, as the body has it. -/
abbrev B : S256x256.Idx → EReal := fun i =>
  FloatOps.sitofp (F := Ideal) .f32 ((IntOp.cmpi .eq (quot64 (iota .tc S256x256 32 [0] iota_S256x256_d0_w32 i)) (quot64 (iota .tc S256x256 32 [1] iota_S256x256_d1_w32 i))).zeroExtend 32)

theorem B_apply (k j : Fin 256) : B (ix2 k j) = if k.val / 64 = j.val / 64 then 1 else 0 := by
  refine Eq.trans ?_ (same_head_real k j)
  unfold B
  rw [iota_single_apply, iota_single_apply]

/-- The body's queries: the row's heads normalised, times an eighth. -/
theorem Q_apply (x : S512x256.Idx → EReal) (g : S1x256.Idx → EReal) (r : Fin 512) (j : Fin 256) (hx : ∀ k, ∃ a : ℝ, x (ix2 r k) = a) :
    Q x g (ix2 r j) = hrms (head (fun k => x (ix2 r k)) (hd j)) (g (ix2 0 j)) (lane j) * Ideal.ofBits .f32 0x3E000000#32 := by
  have e := rms_apply (fun k => x (ix2 r k)) hx (fun k => B (ix2 k j)) (g (ix2 0 j)) j (fun k => B_apply k j)
  refine Eq.trans ?_ (congrArg (· * Ideal.ofBits .f32 0x3E000000#32) e)
  have e1 := matmul_plain_zero (φ₁ := .bf16) (φ₂ := .bf16) dot_S512x256_S256x256_S512x256_1_0_0_1_n_n rfl none (fun i => x i * x i) B (ix2 r j)
  have e2 := matmul_plain_zero (φ₁ := .bf16) (φ₂ := .bf16) dot_S512x256_S256x256_S512x256_1_0_0_1_n_n rfl none (fun i => x i * x i - x i * x i) B (ix2 r j)
  have e3 := rows_apply g broadcasts_S1x256_S512x256 r j
  show x (ix2 r j) * Ideal.rsqrt ((matmul (F := Ideal) (φ₁ := .bf16) (φ₂ := .bf16) dot_S512x256_S256x256_S512x256_1_0_0_1_n_n none (fun i => x i * x i) B (constant S512x256 .f32 0x00000000#32) (ix2 r j)
      + matmul (F := Ideal) (φ₁ := .bf16) (φ₂ := .bf16) dot_S512x256_S256x256_S512x256_1_0_0_1_n_n none (fun i => x i * x i - x i * x i) B (constant S512x256 .f32 0x00000000#32) (ix2 r j))
        * Ideal.ofBits .f32 0x3C800000#32 + Ideal.ofBits .f32 0x358637BD#32)
      * broadcastTo S512x256 g broadcasts_S1x256_S512x256 (ix2 r j) * Ideal.ofBits .f32 0x3E000000#32 = _
  rw [e1, e2, e3]

/-- The body's lane masks. -/
abbrev lo512 : IVec S512x128 1 := k0_pay10 (Scalar.select (Scalar.cmpi .eq 128#32 0#32) 1#32 128#32) k0_pay7 k0_pay8 k0_pay9

theorem lo512_apply (r : Fin 512) (k : Fin 128) : lo512 (ix2 r k) = lowLane (BitVec.ofNat 32 k.val) := by
  have e : ∀ i, lo512 i = lowLane (iota .tc S512x128 32 [1] iota_S512x128_d1_w32 i) := fun i => rfl
  rw [e, iota_single_apply]

theorem lo256_apply (r : Fin 256) (k : Fin 128) : k0_pay11 (ix2 r k) = lowLane (BitVec.ofNat 32 k.val) := by
  have e : ∀ i, k0_pay11 i = lowLane (iota .tc S256x128 32 [1] iota_S256x128_d1_w32 i) := fun i => rfl
  rw [e, iota_single_apply]

/-- The softmax of the rows of a block of scores. -/
theorem pay16_apply (s : S512x256.Idx → EReal) (r : Fin 512) (k : Fin 256) : k0_pay16 (F := Ideal) s (ix2 r k) = soft (fun i => s (ix2 r i)) k := by
  have em := rowMax_apply s reduces_S512x256_S512 (.inl rfl) rfl shapeCasts_S512_S512x1 broadcasts_S512x1_S512x256 r
  have ee : ∀ i : Fin 256, exp (F := Ideal) (φ := .f32) (subf (F := Ideal) (φ := .f32) s (broadcastTo S512x256 (shapeCast S512x1 (multiReduction (F := Ideal) .maximumf [1] S512 s 0xFF800000#32 reduces_S512x256_S512 (.inl rfl) rfl) shapeCasts_S512_S512x1) broadcasts_S512x1_S512x256)) (ix2 r i)
      = Ideal.exp (s (ix2 r i) - Finset.univ.sup fun k => s (ix2 r k)) := fun i =>
    congrArg (fun t => Ideal.exp (s (ix2 r i) - t)) (em i)
  refine congrArg₂ Ideal.div (ee k) ?_
  exact (rowSum_apply _ reduces_S512x256_S512 (.inl rfl) rfl shapeCasts_S512_S512x1 broadcasts_S512x1_S512x256 r k).trans
    (Finset.sum_congr rfl fun i _ => ee i)

theorem zero_bf16 : Ideal.ofBits .bf16 0x0000#16 = 0 := by
  simp [Ideal.ofBits, Ideal.ieee]

section Pair
variable (o : ℕ) (ho : o + 128 ≤ 256)

/-- A block of 128 columns. -/
theorem cols_apply {n : ℕ} (x : (⟨2, ![n, 256]⟩ : Shape).Idx → EReal) (h : (⟨2, ![n, 256]⟩ : Shape).Slices ![0, o] ⟨2, ![n, 128]⟩) (r : Fin n) (k : Fin 128) :
    extractStridedSlice (⟨2, ![n, 128]⟩ : Shape) ![0, o] x h (ix2 r k) = x (ix2 r ⟨o + k.val, by omega⟩) :=
  extractStridedSlice_apply ![0, o] x h (ix2 r k) (ix2 r ⟨o + k.val, by omega⟩) fun c => by
    match c with
    | 0 => show r.val = 0 + r.val; omega
    | 1 => rfl

/-- The scores of the first head of a pair. -/
theorem dotLow (q : S512x256.Idx → EReal) (kn : S256x256.Idx → EReal) (h : S512x256.Slices ![0, o] S512x128) (h' : S256x256.Slices ![0, o] S256x128)
    (r : Fin 512) (k : Fin 256) :
    matmul (F := Ideal) (φ₁ := .bf16) (φ₂ := .bf16) dot_S512x128_S256x128_S512x256_1_1_0_0_n_n none
        (select lo512 (extractStridedSlice S512x128 ![0, o] q h) (broadcast S512x128 (Scalar.ofBits (F := Ideal) .bf16 0x0000#16)))
        (extractStridedSlice S256x128 ![0, o] kn h') (constant S512x256 .f32 0x00000000#32) (ix2 r k)
      = ∑ d : Fin 64, q (ix2 r ⟨o + d.val, by omega⟩) * kn (ix2 k ⟨o + d.val, by omega⟩) := by
  refine (matmul_nt_zero (φ₁ := .bf16) (φ₂ := .bf16) dot_S512x128_S256x128_S512x256_1_1_0_0_n_n rfl none _ _ r k).trans ?_
  refine Eq.trans ?_ (low_sum (fun c => q (ix2 r ⟨o + c.val, by omega⟩)) (fun c => kn (ix2 k ⟨o + c.val, by omega⟩)))
  refine Finset.sum_congr rfl fun c _ => congr (congrArg (HMul.hMul (α := EReal)) ?_) (cols_apply o ho kn h' k c)
  refine Eq.trans ?_ (select_low c _ _)
  rw [← lo512_apply r c]
  exact congrArg₂ (Scalar.select (lo512 (ix2 r c))) (cols_apply o ho q h r c) zero_bf16

/-- The scores of the second head of a pair. -/
theorem dotHigh (q : S512x256.Idx → EReal) (kn : S256x256.Idx → EReal) (h : S512x256.Slices ![0, o] S512x128) (h' : S256x256.Slices ![0, o] S256x128)
    (r : Fin 512) (k : Fin 256) :
    matmul (F := Ideal) (φ₁ := .bf16) (φ₂ := .bf16) dot_S512x128_S256x128_S512x256_1_1_0_0_n_n none
        (select (xori lo512 (constantI S512x128 1 1#1)) (extractStridedSlice S512x128 ![0, o] q h) (broadcast S512x128 (Scalar.ofBits (F := Ideal) .bf16 0x0000#16)))
        (extractStridedSlice S256x128 ![0, o] kn h') (constant S512x256 .f32 0x00000000#32) (ix2 r k)
      = ∑ d : Fin 64, q (ix2 r ⟨o + (64 + d.val), by omega⟩) * kn (ix2 k ⟨o + (64 + d.val), by omega⟩) := by
  refine (matmul_nt_zero (φ₁ := .bf16) (φ₂ := .bf16) dot_S512x128_S256x128_S512x256_1_1_0_0_n_n rfl none _ _ r k).trans ?_
  refine Eq.trans ?_ (high_sum (fun c => q (ix2 r ⟨o + c.val, by omega⟩)) (fun c => kn (ix2 k ⟨o + c.val, by omega⟩)))
  refine Finset.sum_congr rfl fun c _ => congr (congrArg (HMul.hMul (α := EReal)) ?_) (cols_apply o ho kn h' k c)
  refine Eq.trans ?_ (select_high c _ _)
  rw [← lo512_apply r c]
  exact congrArg₂ (Scalar.select (IntOp.xori (lo512 (ix2 r c)) 1#1)) (cols_apply o ho q h r c) zero_bf16

/-- The values of the first head of a pair, weighted. -/
theorem outLow (p : S512x256.Idx → EReal) (v : S256x256.Idx → EReal) (h' : S256x256.Slices ![0, o] S256x128) (r : Fin 512) (c : Fin 128) :
    matmul (F := Ideal) (φ₁ := .bf16) (φ₂ := .bf16) dot_S512x256_S256x128_S512x128_1_0_0_1_n_n none p
        (select k0_pay11 (extractStridedSlice S256x128 ![0, o] v h') (broadcast S256x128 (Scalar.ofBits (F := Ideal) .bf16 0x0000#16)))
        (constant S512x128 .f32 0x00000000#32) (ix2 r c)
      = if c.val < 64 then ∑ k : Fin 256, p (ix2 r k) * v (ix2 k ⟨o + c.val, by omega⟩) else 0 := by
  refine (matmul_plain_zero (φ₁ := .bf16) (φ₂ := .bf16) dot_S512x256_S256x128_S512x128_1_0_0_1_n_n rfl none p _ (ix2 r c)).trans ?_
  have e : ∀ k : Fin 256, select k0_pay11 (extractStridedSlice S256x128 ![0, o] v h') (broadcast S256x128 (Scalar.ofBits (F := Ideal) .bf16 0x0000#16)) (ix2 k c)
      = if c.val < 64 then v (ix2 k ⟨o + c.val, by omega⟩) else 0 := fun k => by
    refine Eq.trans ?_ (select_low c _ _)
    rw [← lo256_apply k c]
    exact congrArg₂ (Scalar.select (k0_pay11 (ix2 k c))) (cols_apply o ho v h' k c) zero_bf16
  refine (Finset.sum_congr rfl fun k _ => congrArg (p (ix2 r k) * ·) (e k)).trans ?_
  split
  · rfl
  · exact Finset.sum_eq_zero fun k _ => mul_zero _

/-- The values of the second head of a pair, weighted. -/
theorem outHigh (p : S512x256.Idx → EReal) (v : S256x256.Idx → EReal) (h' : S256x256.Slices ![0, o] S256x128) (r : Fin 512) (c : Fin 128) :
    matmul (F := Ideal) (φ₁ := .bf16) (φ₂ := .bf16) dot_S512x256_S256x128_S512x128_1_0_0_1_n_n none p
        (select (xori k0_pay11 (constantI S256x128 1 1#1)) (extractStridedSlice S256x128 ![0, o] v h') (broadcast S256x128 (Scalar.ofBits (F := Ideal) .bf16 0x0000#16)))
        (constant S512x128 .f32 0x00000000#32) (ix2 r c)
      = if c.val < 64 then 0 else ∑ k : Fin 256, p (ix2 r k) * v (ix2 k ⟨o + c.val, by omega⟩) := by
  refine (matmul_plain_zero (φ₁ := .bf16) (φ₂ := .bf16) dot_S512x256_S256x128_S512x128_1_0_0_1_n_n rfl none p _ (ix2 r c)).trans ?_
  have e : ∀ k : Fin 256, select (xori k0_pay11 (constantI S256x128 1 1#1)) (extractStridedSlice S256x128 ![0, o] v h') (broadcast S256x128 (Scalar.ofBits (F := Ideal) .bf16 0x0000#16)) (ix2 k c)
      = if c.val < 64 then 0 else v (ix2 k ⟨o + c.val, by omega⟩) := fun k => by
    refine Eq.trans ?_ (select_high c _ _)
    rw [← lo256_apply k c]
    exact congrArg₂ (Scalar.select (IntOp.xori (k0_pay11 (ix2 k c)) 1#1)) (cols_apply o ho v h' k c) zero_bf16
  refine (Finset.sum_congr rfl fun k _ => congrArg (p (ix2 r k) * ·) (e k)).trans ?_
  split
  · exact Finset.sum_eq_zero fun k _ => mul_zero _
  · rfl

end Pair

/-- The scores of a head from the body's queries are the head's scores. -/
theorem score_of (x : S512x256.Idx → EReal) (g : S1x256.Idx → EReal) (kn : S256x256.Idx → EReal) (r : Fin 512) (hx : ∀ k, ∃ a : ℝ, x (ix2 r k) = a)
    (h : Fin 4) (k : Fin 256) (J : Fin 64 → Fin 256) (hJ : ∀ d, (J d).val = h.val * 64 + d.val) :
    ∑ d : Fin 64, Q x g (ix2 r (J d)) * kn (ix2 k (J d))
      = score (fun j => x (ix2 r j)) (fun j => g (ix2 0 j)) (fun k j => kn (ix2 k j)) h k := by
  unfold score
  rw [word_8th]
  refine Eq.trans ?_ (sum_mul_real Finset.univ (fun d : Fin 64 => hrms (head (fun j => x (ix2 r j)) h) (head (fun j => g (ix2 0 j)) h d) d * head (fun j => kn (ix2 k j)) h d) 0.125 (by norm_num))
  refine Finset.sum_congr rfl fun d _ => ?_
  have ej : J d = ⟨h.val * 64 + d.val, by omega⟩ := Fin.ext (hJ d)
  have eh : hd (J d) = h := Fin.ext (by have := hJ d; show (J d).val / 64 = h.val; omega)
  have el : lane (J d) = d := Fin.ext (by have := hJ d; show (J d).val % 64 = d.val; omega)
  rw [Q_apply x g r (J d) hx, eh, el, ← word_8th, ej]
  exact mul_right_comm _ _ _

/-- What the body stores, from its blocks. -/
abbrev body (x z : S512x256.Idx → EReal) (kn v : S256x256.Idx → EReal) (g : S1x256.Idx → EReal) : S512x256.Idx → EReal :=
  k0_pay1 (F := Ideal) v k0_pay11
    (k0_pay16 (F := Ideal) (k0_pay13 (F := Ideal) (Q x g) kn (Scalar.select (Scalar.cmpi .eq 128#32 0#32) 1#32 128#32) k0_pay7 k0_pay8 k0_pay9))
    (k0_pay17 (F := Ideal) (k0_pay14 (F := Ideal) (Q x g) (Scalar.select (Scalar.cmpi .eq 128#32 0#32) 1#32 128#32) k0_pay7 k0_pay8 k0_pay9) (k0_pay15 (F := Ideal) kn) (constant S512x256 .f32 0x00000000#32))
    (k0_pay18 (F := Ideal) (Q x g) kn lo512) (k0_pay19 (F := Ideal) v k0_pay11)
    (k0_pay20 (F := Ideal) (k0_pay12 (F := Ideal) (Q x g) kn (Scalar.select (Scalar.cmpi .eq 128#32 0#32) 1#32 128#32) k0_pay7 k0_pay8 k0_pay9))
    (constant S512x128 .f32 0x00000000#32) z

theorem trunc_apply (x : FVec Ideal S512x256 .f32) (h) (i : S512x256.Idx) : truncf (F := Ideal) .bf16 x h i = x i := rfl

/-- The weighted values of the four heads, before the gate. -/
def mix (x : S512x256.Idx → EReal) (kn v : S256x256.Idx → EReal) (g : S1x256.Idx → EReal) : S512x256.Idx → EReal :=
  concatenate S512x256 1
    [⟨S512x128, addf (F := Ideal) (φ := .f32) (matmul (F := Ideal) (φ₁ := .bf16) (φ₂ := .bf16) dot_S512x256_S256x128_S512x128_1_0_0_1_n_n none (k0_pay20 (F := Ideal) (k0_pay12 (F := Ideal) (Q x g) kn (Scalar.select (Scalar.cmpi .eq 128#32 0#32) 1#32 128#32) k0_pay7 k0_pay8 k0_pay9)) (k0_pay19 (F := Ideal) v k0_pay11) (constant S512x128 .f32 0x00000000#32))
        (matmul (F := Ideal) (φ₁ := .bf16) (φ₂ := .bf16) dot_S512x256_S256x128_S512x128_1_0_0_1_n_n none (truncf (F := Ideal) .bf16 (k0_pay16 (F := Ideal) (k0_pay13 (F := Ideal) (Q x g) kn (Scalar.select (Scalar.cmpi .eq 128#32 0#32) 1#32 128#32) k0_pay7 k0_pay8 k0_pay9)) bitsLt_bf16_f32) (select (xori k0_pay11 (constantI S256x128 1 1#1)) (extractStridedSlice S256x128 ![0, 0] v slices_S256x256_o0_0_S256x128) (broadcast S256x128 (Scalar.ofBits (F := Ideal) .bf16 0x0000#16))) (constant S512x128 .f32 0x00000000#32))⟩,
      ⟨S512x128, addf (F := Ideal) (φ := .f32) (matmul (F := Ideal) (φ₁ := .bf16) (φ₂ := .bf16) dot_S512x256_S256x128_S512x128_1_0_0_1_n_n none (truncf (F := Ideal) .bf16 (k0_pay17 (F := Ideal) (k0_pay14 (F := Ideal) (Q x g) (Scalar.select (Scalar.cmpi .eq 128#32 0#32) 1#32 128#32) k0_pay7 k0_pay8 k0_pay9) (k0_pay15 (F := Ideal) kn) (constant S512x256 .f32 0x00000000#32)) bitsLt_bf16_f32) (select k0_pay11 (extractStridedSlice S256x128 ![0, 128] v slices_S256x256_o0_128_S256x128) (broadcast S256x128 (Scalar.ofBits (F := Ideal) .bf16 0x0000#16))) (constant S512x128 .f32 0x00000000#32))
        (matmul (F := Ideal) (φ₁ := .bf16) (φ₂ := .bf16) dot_S512x256_S256x128_S512x128_1_0_0_1_n_n none (truncf (F := Ideal) .bf16 (k0_pay18 (F := Ideal) (Q x g) kn lo512) bitsLt_bf16_f32) (select (xori k0_pay11 (constantI S256x128 1 1#1)) (extractStridedSlice S256x128 ![0, 128] v slices_S256x256_o0_128_S256x128) (broadcast S256x128 (Scalar.ofBits (F := Ideal) .bf16 0x0000#16))) (constant S512x128 .f32 0x00000000#32))⟩]
    concatenates_S512x128_S512x128_S512x256_d1

theorem body_eq (x z : S512x256.Idx → EReal) (kn v : S256x256.Idx → EReal) (g : S1x256.Idx → EReal) (i : S512x256.Idx) :
    body x z kn v g i = mix x kn v g i * (z i * Ideal.div 1 (1 + Ideal.exp (-z i))) := by
  have e : ∀ (c : S512x256.Idx → EReal), truncf (F := Ideal) .bf16 (mulf (F := Ideal) (φ := .f32) c (mulf (F := Ideal) (φ := .f32) z (logistic (F := Ideal) (φ := .f32) z))) bitsLt_bf16_f32 i
      = c i * (z i * Ideal.div 1 (1 + Ideal.exp (-z i))) := fun c => rfl
  refine Eq.trans ?_ (e (mix x kn v g))
  unfold mix body k0_pay1
  rfl

section Body
variable (x z : S512x256.Idx → EReal) (kn v : S256x256.Idx → EReal) (g : S1x256.Idx → EReal) (r : Fin 512) (hx : ∀ k, ∃ a : ℝ, x (ix2 r k) = a)

/-- The weights of a head at a row. -/
abbrev wt (h : Fin 4) (k : Fin 256) : EReal := soft (score (fun j => x (ix2 r j)) (fun j => g (ix2 0 j)) (fun k j => kn (ix2 k j)) h) k

include hx in
theorem wt_0 (k : Fin 256) : k0_pay20 (F := Ideal) (k0_pay12 (F := Ideal) (Q x g) kn (Scalar.select (Scalar.cmpi .eq 128#32 0#32) 1#32 128#32) k0_pay7 k0_pay8 k0_pay9) (ix2 r k) = wt x kn g r 0 k := by
  refine (pay16_apply (k0_pay12 (F := Ideal) (Q x g) kn (Scalar.select (Scalar.cmpi .eq 128#32 0#32) 1#32 128#32) k0_pay7 k0_pay8 k0_pay9) r k).trans ?_
  refine congrArg (fun s => soft s k) (funext fun i => ?_)
  refine (dotLow 0 (by omega) (Q x g) kn slices_S512x256_o0_0_S512x128 slices_S256x256_o0_0_S256x128 r i).trans ?_
  exact score_of x g kn r hx 0 i (fun d => ⟨0 + d.val, by omega⟩) fun d => rfl

include hx in
theorem wt_1 (k : Fin 256) : k0_pay16 (F := Ideal) (k0_pay13 (F := Ideal) (Q x g) kn (Scalar.select (Scalar.cmpi .eq 128#32 0#32) 1#32 128#32) k0_pay7 k0_pay8 k0_pay9) (ix2 r k) = wt x kn g r 1 k := by
  refine (pay16_apply (k0_pay13 (F := Ideal) (Q x g) kn (Scalar.select (Scalar.cmpi .eq 128#32 0#32) 1#32 128#32) k0_pay7 k0_pay8 k0_pay9) r k).trans ?_
  refine congrArg (fun s => soft s k) (funext fun i => ?_)
  refine (dotHigh 0 (by omega) (Q x g) kn slices_S512x256_o0_0_S512x128 slices_S256x256_o0_0_S256x128 r i).trans ?_
  exact score_of x g kn r hx 1 i (fun d => ⟨0 + (64 + d.val), by omega⟩) fun d => by show 0 + (64 + d.val) = 1 * 64 + d.val; omega

include hx in
theorem wt_2 (k : Fin 256) : k0_pay17 (F := Ideal) (k0_pay14 (F := Ideal) (Q x g) (Scalar.select (Scalar.cmpi .eq 128#32 0#32) 1#32 128#32) k0_pay7 k0_pay8 k0_pay9) (k0_pay15 (F := Ideal) kn) (constant S512x256 .f32 0x00000000#32) (ix2 r k) = wt x kn g r 2 k := by
  refine (pay16_apply (matmul (F := Ideal) (φ₁ := .bf16) (φ₂ := .bf16) dot_S512x128_S256x128_S512x256_1_1_0_0_n_n none (k0_pay14 (F := Ideal) (Q x g) (Scalar.select (Scalar.cmpi .eq 128#32 0#32) 1#32 128#32) k0_pay7 k0_pay8 k0_pay9) (k0_pay15 (F := Ideal) kn) (constant S512x256 .f32 0x00000000#32)) r k).trans ?_
  refine congrArg (fun s => soft s k) (funext fun i => ?_)
  refine (dotLow 128 (by omega) (Q x g) kn slices_S512x256_o0_128_S512x128 slices_S256x256_o0_128_S256x128 r i).trans ?_
  exact score_of x g kn r hx 2 i (fun d => ⟨128 + d.val, by omega⟩) fun d => rfl

omit hx in
theorem pay18_eq (q : S512x256.Idx → EReal) (kn : S256x256.Idx → EReal) (m : IVec S512x128 1) : k0_pay18 (F := Ideal) q kn m = k0_pay16 (F := Ideal) (matmul (F := Ideal) (φ₁ := .bf16) (φ₂ := .bf16) dot_S512x128_S256x128_S512x256_1_1_0_0_n_n none
    (select (xori m (constantI S512x128 1 1#1)) (extractStridedSlice S512x128 ![0, 128] q slices_S512x256_o0_128_S512x128) (broadcast S512x128 (Scalar.ofBits (F := Ideal) .bf16 0x0000#16)))
    (extractStridedSlice S256x128 ![0, 128] kn slices_S256x256_o0_128_S256x128) (constant S512x256 .f32 0x00000000#32)) := by
  unfold k0_pay18 k0_pay16
  rfl

include hx in
theorem wt_3 (k : Fin 256) : k0_pay18 (F := Ideal) (Q x g) kn lo512 (ix2 r k) = wt x kn g r 3 k := by
  refine (congrFun (pay18_eq (Q x g) kn lo512) (ix2 r k)).trans ((pay16_apply _ r k).trans ?_)
  refine congrArg (fun s => soft s k) (funext fun i => ?_)
  refine (dotHigh 128 (by omega) (Q x g) kn slices_S512x256_o0_128_S512x128 slices_S256x256_o0_128_S256x128 r i).trans ?_
  exact score_of x g kn r hx 3 i (fun d => ⟨128 + (64 + d.val), by omega⟩) fun d => by show 128 + (64 + d.val) = 3 * 64 + d.val; omega

include hx in
/-- The body's result at one place. -/
theorem body_apply (j : Fin 256) :
    body x z kn v g (ix2 r j) = att (fun j => x (ix2 r j)) (fun j => g (ix2 0 j)) (fun k j => kn (ix2 k j)) (fun k j => v (ix2 k j)) (z (ix2 r j)) j := by
  have L := fun (o : ℕ) (ho : o + 128 ≤ 256) (h' : S256x256.Slices ![0, o] S256x128) (p : S512x256.Idx → EReal) c => outLow o ho p v h' r c
  have H := fun (o : ℕ) (ho : o + 128 ≤ 256) (h' : S256x256.Slices ![0, o] S256x128) (p : S512x256.Idx → EReal) c => outHigh o ho p v h' r c
  rw [body_eq]
  refine congrArg (fun P => P * (z (ix2 r j) * Ideal.div 1 (1 + Ideal.exp (-z (ix2 r j))))) (show mix x kn v g (ix2 r j) = ∑ k : Fin 256, wt x kn g r (hd j) k * v (ix2 k j) from ?_)
  unfold mix
  by_cases hj : j.val < 128
  · refine (concatenate_pair_apply_left (t := S512x256) 1 _ _ concatenates_S512x128_S512x128_S512x256_d1 (ix2 r j) rfl (ix2 r (⟨j.val, hj⟩ : Fin 128)) fun b => by
      match b with
      | 0 => rfl
      | 1 => rfl).trans ?_
    refine (congrArg₂ (fun a b : EReal => a + b) (L 0 (by omega) slices_S256x256_o0_0_S256x128 _ ⟨j.val, hj⟩) (H 0 (by omega) slices_S256x256_o0_0_S256x128 _ ⟨j.val, hj⟩)).trans ?_
    have ej : (⟨0 + j.val, by omega⟩ : Fin 256) = j := Fin.ext (Nat.zero_add _)
    by_cases hl : j.val < 64
    · rw [if_pos hl, if_pos hl, add_zero]
      have eh : hd j = 0 := Fin.ext (by show j.val / 64 = 0; omega)
      rw [eh]
      exact Finset.sum_congr rfl fun k _ => congr (congrArg (HMul.hMul (α := EReal)) (wt_0 x kn g r hx k)) (congrArg (fun t => v (ix2 k t)) ej)
    · rw [if_neg hl, if_neg hl, zero_add]
      have eh : hd j = 1 := Fin.ext (by show j.val / 64 = 1; omega)
      rw [eh]
      exact Finset.sum_congr rfl fun k _ => congr (congrArg (HMul.hMul (α := EReal)) ((trunc_apply _ _ _).trans (wt_1 x kn g r hx k))) (congrArg (fun t => v (ix2 k t)) ej)
  · have hj' : j.val - 128 < 128 := by omega
    refine (concatenate_pair_apply_right (t := S512x256) 1 _ _ concatenates_S512x128_S512x128_S512x256_d1 (ix2 r j) rfl rfl (ix2 r (⟨j.val - 128, hj'⟩ : Fin 128)) (fun b hb => by
      match b with
      | 0 => rfl
      | 1 => exact absurd rfl hb) (by show j.val - 128 + 128 = j.val; omega)).trans ?_
    refine (congrArg₂ (fun a b : EReal => a + b) (L 128 (by omega) slices_S256x256_o0_128_S256x128 _ ⟨j.val - 128, hj'⟩) (H 128 (by omega) slices_S256x256_o0_128_S256x128 _ ⟨j.val - 128, hj'⟩)).trans ?_
    have ej : (⟨128 + (j.val - 128), by omega⟩ : Fin 256) = j := Fin.ext (by show 128 + (j.val - 128) = j.val; omega)
    by_cases hl : j.val - 128 < 64
    · rw [if_pos hl, if_pos hl, add_zero]
      have eh : hd j = 2 := Fin.ext (by show j.val / 64 = 2; omega)
      rw [eh]
      exact Finset.sum_congr rfl fun k _ => congr (congrArg (HMul.hMul (α := EReal)) ((trunc_apply _ _ _).trans (wt_2 x kn g r hx k))) (congrArg (fun t => v (ix2 k t)) ej)
    · rw [if_neg hl, if_neg hl, zero_add]
      have eh : hd j = 3 := Fin.ext (by show j.val / 64 = 3; omega)
      rw [eh]
      exact Finset.sum_congr rfl fun k _ => congr (congrArg (HMul.hMul (α := EReal)) ((trunc_apply _ _ _).trans (wt_3 x kn g r hx k))) (congrArg (fun t => v (ix2 k t)) ej)

end Body

end Cert.Kernel4Ideal.MA
end
-- ==== Proof.MA.Ref.lean ====
module

public import proofs.«01_k».proof.Proof.MA.Pay
public import proofs.«01_k».proof.Proof.KV.Pre
public import proofs.«01_k».proof.Proof.Gen.Reference4Ideal.Read
public import proofs.«01_k».proof.Proof.Gen.Pre_memory_queries

@[expose] public section

set_option maxRecDepth 16384

/-! The memory attention's reference at one place of its result. -/

noncomputable section

namespace Cert.Reference4Ideal.MA

open Cert.Pre_memory_queries.Gen Cert.Reference4Ideal Cert.Reference4Ideal.Gen Cert.Reference4Ideal.Read Cert.Fox Cert.Kernel4Ideal.MA Cert.ReferenceIdeal.Fox
open Idealize.ShloMosaic hiding ix0 ix1 ix2 ix3 ix4 ix5
open Idealize.ShloMosaic.ValueIdx

variable (x0 : S32768x4736.Idx → EReal) (x1 x2 : S1024x256.Idx → EReal) (x3 : S1x256.Idx → EReal)
variable (b h : Fin 4) (t : Fin 8192)

/-- The query row `t` of batch `b`, and row `k` of the batch's memory. -/
def qrow (j : Fin 256) : EReal := x0 (ix2 (⟨b.val * 8192 + t.val, by omega⟩ : Fin 32768) (⟨4096 + j.val, by omega⟩ : Fin 4736))
def mrow (y : S1024x256.Idx → EReal) (b : Fin 4) (k j : Fin 256) : EReal := y (ix2 (⟨b.val * 256 + k.val, by omega⟩ : Fin 1024) j)

theorem q_apply (d : Fin 64) : val_main_v1 (F := Ideal) x0 (ix4 b t h d) = head (qrow x0 b t) h d := by
  refine (val_main_v1_apply (F := Ideal) x0 _).trans ((val_main_v0_apply (F := Ideal) x0 _).trans (congrArg x0 (funext fun a => Fin.ext ?_)))
  match a with
  | 0 => show (((b.val * 8192 + t.val) * 4 + h.val) * 64 + d.val) / 256 = b.val * 8192 + t.val; omega
  | 1 => show 4096 + (((b.val * 8192 + t.val) * 4 + h.val) * 64 + d.val) % 256 = 4096 + (h.val * 64 + d.val); omega

theorem g_apply (d : Fin 64) : val_main_v15 (F := Ideal) x3 (ix4 b t h d) = head (fun j => x3 (ix2 0 j)) h d := by
  refine (val_main_v15_apply (F := Ideal) x3 _).trans ((val_main_v14_apply (F := Ideal) x3 _).trans ((val_main_v13_apply (F := Ideal) x3 _).trans (congrArg x3 (funext fun a => Fin.ext ?_))))
  match a with
  | 0 => rfl
  | 1 => show (h.val * 64 + d.val) % 256 = h.val * 64 + d.val; omega

theorem k_apply (k : Fin 256) (d : Fin 64) : val_main_v18 (F := Ideal) x1 (ix4 b k h d) = head (mrow x1 b k) h d := by
  refine (val_main_v18_apply (F := Ideal) x1 _).trans ((val_main_v17_apply (F := Ideal) x1 _).trans (congrArg x1 (funext fun a => Fin.ext ?_)))
  match a with
  | 0 => show (((b.val * 256 + k.val) * 4 + h.val) * 64 + d.val) / 256 = b.val * 256 + k.val; omega
  | 1 => show (((b.val * 256 + k.val) * 4 + h.val) * 64 + d.val) % 256 = h.val * 64 + d.val; omega

theorem v_apply (k : Fin 256) (d : Fin 64) : val_main_v20 (F := Ideal) x2 (ix4 b k h d) = head (mrow x2 b k) h d := by
  refine (val_main_v20_apply (F := Ideal) x2 _).trans ((val_main_v19_apply (F := Ideal) x2 _).trans (congrArg x2 (funext fun a => Fin.ext ?_)))
  match a with
  | 0 => show (((b.val * 256 + k.val) * 4 + h.val) * 64 + d.val) / 256 = b.val * 256 + k.val; omega
  | 1 => show (((b.val * 256 + k.val) * 4 + h.val) * 64 + d.val) % 256 = h.val * 64 + d.val; omega

theorem nrm_apply (d : Fin 64) : val_main_v16 (F := Ideal) x0 x3 (ix4 b t h d) = hrms (head (qrow x0 b t) h) (head (fun j => x3 (ix2 0 j)) h d) d := by
  refine (val_main_v16_apply (F := Ideal) x0 x3 _).trans ?_
  refine congr (congrArg (HMul.hMul (α := EReal)) ?_) (g_apply x3 b h t d)
  refine (val_main_v12_apply (F := Ideal) x0 _).trans ?_
  refine congr (congrArg (HMul.hMul (α := EReal)) (q_apply x0 b h t d)) ?_
  refine (val_main_v11_apply (F := Ideal) x0 _).trans ((val_main_v10_apply (F := Ideal) x0 _).trans ?_)
  show Ideal.rsqrt _ = Ideal.rsqrt _
  refine congrArg Ideal.rsqrt ((val_main_v9_apply (F := Ideal) x0 _).trans ?_)
  refine congr (congrArg (HAdd.hAdd (α := EReal)) ?_) (val_main_v8_apply (F := Ideal) _)
  refine (val_main_v7_apply (F := Ideal) x0 _).trans ?_
  refine congr (congrArg Ideal.div ?_) (val_main_v6_apply (F := Ideal) _)
  refine (val_main_v5_apply (F := Ideal) x0 _).trans ((val_main_v4_apply x0 _).trans ?_)
  refine (congrArg (· + _) Ideal.ofBits_zero_f32).trans ((zero_add _).trans (Finset.sum_congr rfl fun i _ => ?_))
  refine (val_main_v3_apply (F := Ideal) x0 _).trans ?_
  have e : val_main_v1 (F := Ideal) x0 (idx_main_v4 (idx_main_v5 (idx_main_v11 (ix4 b t h d))) i) = head (qrow x0 b t) h i :=
    (congrArg (val_main_v1 (F := Ideal) x0) (funext fun a => by match a with | 0 => rfl | 1 => rfl | 2 => rfl | 3 => rfl)).trans (q_apply x0 b h t i)
  exact congr (congrArg (HMul.hMul (α := EReal)) e) e

/-- The scores of the row for head `h`. -/
abbrev sc (k : Fin 256) : EReal := score (qrow x0 b t) (fun j => x3 (ix2 0 j)) (mrow x1 b) h k

theorem score_apply (k : Fin 256) : val_main_v23 (F := Ideal) x0 x1 x3 (ix4 b h t k) = sc x0 x1 x3 b h t k := by
  refine (val_main_v23_apply (F := Ideal) x0 x1 x3 _).trans ?_
  refine congr (congrArg (HMul.hMul (α := EReal)) ?_) (val_main_v22_apply (F := Ideal) _)
  refine (val_main_v21_apply x0 x1 x3 _).trans (Finset.sum_congr rfl fun d _ => ?_)
  refine congr (congrArg (HMul.hMul (α := EReal)) ?_) ?_
  · refine Eq.trans ?_ (nrm_apply x0 x3 b h t d)
    exact congrArg (val_main_v16 (F := Ideal) x0 x3) (funext fun a => by match a with | 0 => rfl | 1 => rfl | 2 => rfl | 3 => rfl)
  · refine Eq.trans ?_ (k_apply x1 b h k d)
    exact congrArg (val_main_v18 (F := Ideal) x1) (funext fun a => by match a with | 0 => rfl | 1 => rfl | 2 => rfl | 3 => rfl)

theorem max_apply : val_main_v24 (F := Ideal) x0 x1 x3 (ix3 b h t) = Finset.univ.sup (sc x0 x1 x3 b h t) :=
  (lastMax_apply (val_main_v23 (F := Ideal) x0 x1 x3) reducesTo_S4x4x8192x256_S4x4x8192_d3 Cert.Reference4Ideal.Gen.h_S_ b h t).trans
    (congrArg (Finset.sup Finset.univ) (funext fun k => score_apply x0 x1 x3 b h t k))

theorem weight_apply (k : Fin 256) : val_main_v28 (F := Ideal) x0 x1 x3 (ix4 b h t k)
    = Ideal.exp (sc x0 x1 x3 b h t k - Finset.univ.sup (sc x0 x1 x3 b h t)) := by
  refine (val_main_v28_apply (F := Ideal) x0 x1 x3 _).trans ?_
  show Ideal.exp _ = Ideal.exp _
  refine congrArg Ideal.exp ((val_main_v27_apply (F := Ideal) x0 x1 x3 _).trans ?_)
  refine congr (congrArg (HSub.hSub (α := EReal)) (score_apply x0 x1 x3 b h t k)) ?_
  refine (val_main_v26_apply (F := Ideal) x0 x1 x3 _).trans ((val_main_v25_apply (F := Ideal) x0 x1 x3 _).trans (Eq.trans ?_ (max_apply x0 x1 x3 b h t)))
  exact congrArg (val_main_v24 (F := Ideal) x0 x1 x3) (funext fun a => by match a with | 0 => rfl | 1 => rfl | 2 => rfl)

theorem prob_apply (k : Fin 256) : val_main_v32 (F := Ideal) x0 x1 x3 (ix4 b h t k) = soft (sc x0 x1 x3 b h t) k := by
  refine (val_main_v32_apply (F := Ideal) x0 x1 x3 _).trans ?_
  refine congr (congrArg Ideal.div (weight_apply x0 x1 x3 b h t k)) ?_
  refine (val_main_v31_apply (F := Ideal) x0 x1 x3 _).trans ((val_main_v30_apply (F := Ideal) x0 x1 x3 _).trans ((val_main_v29_apply x0 x1 x3 _).trans ?_))
  refine (congrArg (· + _) Ideal.ofBits_zero_f32).trans ((zero_add _).trans (Finset.sum_congr rfl fun i _ => ?_))
  refine Eq.trans ?_ (weight_apply x0 x1 x3 b h t i)
  exact congrArg (val_main_v28 (F := Ideal) x0 x1 x3) (funext fun a => by match a with | 0 => rfl | 1 => rfl | 2 => rfl | 3 => rfl)

/-- The reference's value at row `t` of batch `b`. -/
theorem ref_apply (j : Fin 256) (row : Fin 32768) (hr : row.val = b.val * 8192 + t.val) :
    val_main_v38 (F := Ideal) x0 x1 x2 x3 (ix2 row j)
      = att (qrow x0 b t) (fun j => x3 (ix2 0 j)) (mrow x1 b) (mrow x2 b) (x0 (ix2 row (⟨4352 + j.val, by omega⟩ : Fin 4736))) j := by
  refine (val_main_v38_apply (F := Ideal) x0 x1 x2 x3 _).trans ?_
  refine (val_main_v37_apply (F := Ideal) x0 x1 x2 x3 _).trans ?_
  refine congr (congrArg (HMul.hMul (α := EReal)) ?_) ?_
  · have e : val_main_v33 (F := Ideal) x0 x1 x2 x3 (ix4 b (hd j) (lane j) t) = ∑ k : Fin 256, soft (sc x0 x1 x3 b (hd j) t) k * mrow x2 b k j := by
      refine (val_main_v33_apply x0 x1 x2 x3 _).trans (Finset.sum_congr rfl fun k _ => ?_)
      refine Eq.trans ?_ (mul_comm (G := EReal) _ _)
      refine congr (congrArg (HMul.hMul (α := EReal)) ?_) ?_
      · refine Eq.trans ?_ ((v_apply x2 b (hd j) k (lane j)).trans (head_lane (mrow x2 b k) j))
        exact congrArg (val_main_v20 (F := Ideal) x2) (funext fun a => by match a with | 0 => rfl | 1 => rfl | 2 => rfl | 3 => rfl)
      · refine Eq.trans ?_ (prob_apply x0 x1 x3 b (hd j) t k)
        exact congrArg (val_main_v32 (F := Ideal) x0 x1 x3) (funext fun a => by match a with | 0 => rfl | 1 => rfl | 2 => rfl | 3 => rfl)
    refine (val_main_v35_apply (F := Ideal) x0 x1 x2 x3 _).trans ((val_main_v34_apply (F := Ideal) x0 x1 x2 x3 _).trans
      (Eq.trans (congrArg (val_main_v33 (F := Ideal) x0 x1 x2 x3) (funext fun a => Fin.ext ?_)) e))
    match a with
    | 0 => show (row.val * 256 + j.val) / 2097152 = b.val; omega
    | 1 => show (row.val * 256 + j.val) / 64 % 4 = j.val / 64; omega
    | 2 => show (row.val * 256 + j.val) % 64 = j.val % 64; omega
    | 3 => show (row.val * 256 + j.val) / 256 % 8192 = t.val; omega
  · refine (val_main_v36_apply (F := Ideal) x0 _).trans ?_
    have ez : val_main_v2 (F := Ideal) x0 (ix2 row j) = x0 (ix2 row (⟨4352 + j.val, by omega⟩ : Fin 4736)) :=
      (val_main_v2_apply (F := Ideal) x0 _).trans (congrArg x0 (funext fun a => by match a with | 0 => rfl | 1 => rfl))
    have e1 : Ideal.ofBits .f32 0x3F800000#32 = 1 := by simp [Ideal.ofBits, Ideal.ieee, -EReal.coe_mul]; norm_num
    refine congr (congrArg (HMul.hMul (α := EReal)) ez) ?_
    refine (val_main_call0_v5_apply (F := Ideal) x0 _).trans ?_
    show Ideal.div _ _ = Ideal.div 1 (1 + Ideal.exp (-_))
    refine congr (congrArg Ideal.div ((val_main_call0_v4_apply (F := Ideal) _).trans e1)) ?_
    refine (val_main_call0_v3_apply (F := Ideal) x0 _).trans ?_
    refine congr (congrArg (HAdd.hAdd (α := EReal)) ((val_main_call0_v2_apply (F := Ideal) _).trans e1)) ?_
    exact congrArg (fun z : EReal => Ideal.exp (-z)) ez

/-- The precondition says the queries are reals. -/
theorem queries (hp : Cert.Pre_memory_queries.fn (F := Ideal) x0 x1 x2 x3 = fun _ => 1#1) (row : Fin 32768) (j : Fin 256) :
    ∃ r : ℝ, x0 (ix2 row (⟨4096 + j.val, by omega⟩ : Fin 4736)) = r := by
  have e := congrFun hp ix0
  unfold Cert.Pre_memory_queries.fn at e
  have hsub : Subsingleton (Cert.Pre_memory_queries.S_).Idx := ⟨fun a b => funext fun i => i.elim0⟩
  have w := Host.reduce_andi_all _ _ _ _ _ e (ix2 row j)
  have es : extractStridedSlice Cert.Pre_memory_queries.S32768x256 ![0, 4096] x0 Cert.Pre_memory_queries.Facts.slices_S32768x4736_S32768x256_0_4096 (ix2 row j)
      = x0 (ix2 row (⟨4096 + j.val, by omega⟩ : Fin 4736)) :=
    extractStridedSlice_apply ![0, 4096] x0 _ (ix2 row j) _ fun a => by
      match a with
      | 0 => exact (Nat.zero_add _).symm
      | 1 => rfl
  refine real_of_abs _ (Eq.trans ?_ w)
  refine congrArg₂ (fun y z : EReal => BitVec.ofBool (decide (max y (-y) < z))) es.symm ?_
  exact inf_word.symm

end Cert.Reference4Ideal.MA
end
-- ==== Proof.MA.Out.lean ====
module

public import proofs.«01_k».proof.Proof.MA.Ref
public import Idealize.ShloMosaic.Lib.Quiescent

@[expose] public section

set_option maxRecDepth 16384

/-! The memory attention: the result array of the call is the reference's, place by place. -/

noncomputable section

namespace Cert.Kernel4Ideal.MA

open Cert.Kernel4Ideal Cert.Kernel4Ideal.Gen Cert.Fox
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- A piece of the output block holding what `W` has at its places. -/
def Ok (W : S512x256.Idx → EReal) (p : View.Piece (Elt Ideal) S512x256 .bf16) : Prop := ∀ x, p.2 x = W (p.1.emb x)

/-- The contents pieces leave, each holding what `W` has there, is `W` wherever a piece lies. -/
theorem canon_ok (W : S512x256.Idx → EReal) (y : S512x256.Idx) :
    ∀ L : List (View.Piece (Elt Ideal) S512x256 .bf16), (∀ p ∈ L, Ok W p) → (∃ p ∈ L, y ∈ p.1.set) → View.canon L y = W y
  | [], _, h => by obtain ⟨_, hm, _⟩ := h; exact absurd hm List.not_mem_nil
  | p :: L, hok, h => by
    by_cases hy : y ∈ p.1.set
    · obtain ⟨r, w⟩ := p
      obtain ⟨x, rfl⟩ : ∃ x, r.emb x = y := r.exists_idx_of_mem hy
      rw [View.canon_cons_emb]
      exact hok ⟨r, w⟩ List.mem_cons_self x
    · rw [View.canon_cons_of_not_mem p L hy]
      refine canon_ok W y L (fun q hq => hok q (List.mem_cons_of_mem _ hq)) ?_
      obtain ⟨q, hq, hyq⟩ := h
      rcases List.mem_cons.mp hq with rfl | hq
      · exact absurd hyq hy
      · exact ⟨q, hq, hyq⟩

theorem emb_whole (x : S512x256.Idx) : (Rect.unit (s := S512x256) ![0, 0] S512x256.size inb_S512x256_S512x256_0_0).emb x = x := by
  funext a; apply Fin.ext
  match a with
  | 0 => show 0 + 1 * (x 0).val = (x 0).val; omega
  | 1 => show 0 + 1 * (x 1).val = (x 1).val; omega

/-- The body stores its result over the whole block. -/
theorem pieces_ok (c : Dev nD) (i : grid0.Coords) (arg2 : Memref sig .tc .vmem S512x256 .f32) (harg2 : arg2.IsWhole)
    (arg3 : Memref sig .tc .vmem S512x256 .f32) (harg3 : arg3.IsWhole) (arg4 : Memref sig .tc .vmem S256x256 .bf16) (harg4 : arg4.IsWhole)
    (arg5 : Memref sig .tc .vmem S256x256 .bf16) (harg5 : arg5.IsWhole) (arg6 : Memref sig .tc .vmem S1x256 .f32) (harg6 : arg6.IsWhole)
    (arg7 : Memref sig .tc .vmem S512x256 .bf16) (harg7 : arg7.IsWhole)
    (x0 x1 : Vec Ideal S512x256 .f32) (x2 x3 : Vec Ideal S256x256 .bf16) (x4 : Vec Ideal S1x256 .f32) :
    ∀ p ∈ (kernelRun0_A c i arg2 harg2 arg3 harg3 arg4 harg4 arg5 harg5 arg6 harg6 arg7 harg7 x0 x1 x2 x3 x4).1, Ok (body x0 x1 x2 x3 x4) p := by
  have e0 : View.readAt (Elt Ideal) arg2.view (Rect.unit (s := S512x256) ![0, 0] S512x256.size inb_S512x256_S512x256_0_0).toLoadRect (harg2.unread x0) = x0 := by
    rw [View.readAt_eq_ld, harg2.read_unread, View.ld_unit_zero hz2]
  have e1 : View.readAt (Elt Ideal) arg3.view (Rect.unit (s := S512x256) ![0, 0] S512x256.size inb_S512x256_S512x256_0_0).toLoadRect (harg3.unread x1) = x1 := by
    rw [View.readAt_eq_ld, harg3.read_unread, View.ld_unit_zero hz2]
  have e2 : View.readAt (Elt Ideal) arg4.view (Rect.unit (s := S256x256) ![0, 0] S256x256.size inb_S256x256_S256x256_0_0).toLoadRect (harg4.unread x2) = x2 := by
    rw [View.readAt_eq_ld, harg4.read_unread, View.ld_unit_zero hz2]
  have e3 : View.readAt (Elt Ideal) arg5.view (Rect.unit (s := S256x256) ![0, 0] S256x256.size inb_S256x256_S256x256_0_0).toLoadRect (harg5.unread x3) = x3 := by
    rw [View.readAt_eq_ld, harg5.read_unread, View.ld_unit_zero hz2]
  have e4 : View.readAt (Elt Ideal) arg6.view (Rect.unit (s := S1x256) ![0, 0] S1x256.size inb_S1x256_S1x256_0_0).toLoadRect (harg6.unread x4) = x4 := by
    rw [View.readAt_eq_ld, harg6.read_unread, View.ld_unit_zero hz2]
  unfold kernelRun0_A
  simp only [List.forall_mem_cons]
  unfold kernelRun0_A.sl.r_11 kernelRun0_A.sl.r_12 kernelRun0_A.sl.r_13 kernelRun0_A.sl.r_14 kernelRun0_A.sl.r_15
    kernelRun0_A.sl.r_8 kernelRun0_A.sl.r_9 kernelRun0_A.sl.r_10 kernelRun0_A.sl.r_7 kernelRun0_A.sl.r_6
    kernelRun0_A.sl.r_3 kernelRun0_A.sl.r_2 kernelRun0_A.sl.r_4 kernelRun0_A.sl.r_5 kernelRun0_A.sl.r kernelRun0_A.sl.r_1
  rw [e0, e1, e2, e3, e4]
  exact ⟨fun x => congrArg (body x0 x1 x2 x3 x4) (emb_whole x).symm, fun p hp => absurd hp List.not_mem_nil⟩

/-- What the result array is shown to hold: the reference's value of the arguments. -/
abbrev G (c : Dev nD) : S32768x256.Idx → EReal :=
  Cert.Reference4Ideal.Read.val_main_v38 (F := Ideal) (m ((c : Thread nD τ).loc main_arg0)) (m ((c : Thread nD τ).loc main_arg1))
    (m ((c : Thread nD τ).loc main_arg2)) (m ((c : Thread nD τ).loc main_arg3))

/-- Row `r` of point `t`'s blocks, in the arrays, its batch and its place in the batch. -/
def row (t : Fin cfg0.N) (r : Fin 512) : Fin 32768 := ⟨t.val * 512 + r.val, by
  have := t.isLt; have e : cfg0.N = 64 := N_0; omega⟩
def bat (t : Fin cfg0.N) : Fin 4 := ⟨t.val / 16, by
  have := t.isLt; have e : cfg0.N = 64 := N_0; omega⟩
def pos (t : Fin cfg0.N) (r : Fin 512) : Fin 8192 := ⟨t.val % 16 * 512 + r.val, by omega⟩

theorem index_0 (t : Fin cfg0.N) : win0_0.index t 0 = t.val ∧ win0_0.index t 1 = 16 := by revert t; decide +kernel
theorem index_1 (t : Fin cfg0.N) : win0_1.index t 0 = t.val ∧ win0_1.index t 1 = 17 := by revert t; decide +kernel
theorem index_2 (t : Fin cfg0.N) : win0_2.index t 0 = t.val / 16 ∧ win0_2.index t 1 = 0 := by revert t; decide +kernel
theorem index_3 (t : Fin cfg0.N) : win0_3.index t 0 = t.val / 16 ∧ win0_3.index t 1 = 0 := by revert t; decide +kernel
theorem index_4 (t : Fin cfg0.N) : win0_4.index t 0 = 0 ∧ win0_4.index t 1 = 0 := by revert t; decide +kernel
theorem index_5 (t : Fin cfg0.N) : win0_5.index t 0 = t.val ∧ win0_5.index t 1 = 0 := by revert t; decide +kernel

theorem blk_0 (c : Dev nD) (t : Fin cfg0.N) (r : Fin 512) (k : Fin 256) :
    X0_0 m c t (ix2 r k) = m ((c : Thread nD τ).loc main_arg0) (ix2 (row t r) (⟨4096 + k.val, by omega⟩ : Fin 4736)) := by
  unfold X0_0 Pipeline.Window.fill
  rw [dif_pos (moved0_0 t (ix2 r k))]
  refine congrArg (m ((c : Thread nD τ).loc main_arg0)) (funext fun a => Fin.ext ?_)
  match a with
  | 0 => exact (Pipeline.Window.rect_emb_val win0_0 t _ 0).trans (congrArg (· * 512 + r.val) (index_0 t).1)
  | 1 => exact (Pipeline.Window.rect_emb_val win0_0 t _ 1).trans (congrArg (· * 256 + k.val) (index_0 t).2)

theorem blk_1 (c : Dev nD) (t : Fin cfg0.N) (r : Fin 512) (k : Fin 256) :
    X0_1 m c t (ix2 r k) = m ((c : Thread nD τ).loc main_arg0) (ix2 (row t r) (⟨4352 + k.val, by omega⟩ : Fin 4736)) := by
  unfold X0_1 Pipeline.Window.fill
  rw [dif_pos (moved0_1 t (ix2 r k))]
  refine congrArg (m ((c : Thread nD τ).loc main_arg0)) (funext fun a => Fin.ext ?_)
  match a with
  | 0 => exact (Pipeline.Window.rect_emb_val win0_1 t _ 0).trans (congrArg (· * 512 + r.val) (index_1 t).1)
  | 1 => exact (Pipeline.Window.rect_emb_val win0_1 t _ 1).trans (congrArg (· * 256 + k.val) (index_1 t).2)

theorem blk_2 (c : Dev nD) (t : Fin cfg0.N) (r k : Fin 256) :
    iblk m c 2 t (ix2 r k) = m ((c : Thread nD τ).loc main_arg1) (ix2 (⟨(bat t).val * 256 + r.val, by omega⟩ : Fin 1024) k) := by
  refine congrArg (m ((c : Thread nD τ).loc main_arg1)) (funext fun a => Fin.ext ?_)
  match a with
  | 0 => exact (Pipeline.Window.rect_emb_val win0_2 t (ix2 r k) 0).trans (congrArg (· * 256 + r.val) (index_2 t).1)
  | 1 => exact Pipeline.Window.rect_emb_val_of_index_zero win0_2 t 1 (index_2 t).2 (ix2 r k)

theorem blk_3 (c : Dev nD) (t : Fin cfg0.N) (r k : Fin 256) :
    iblk m c 3 t (ix2 r k) = m ((c : Thread nD τ).loc main_arg2) (ix2 (⟨(bat t).val * 256 + r.val, by omega⟩ : Fin 1024) k) := by
  refine congrArg (m ((c : Thread nD τ).loc main_arg2)) (funext fun a => Fin.ext ?_)
  match a with
  | 0 => exact (Pipeline.Window.rect_emb_val win0_3 t (ix2 r k) 0).trans (congrArg (· * 256 + r.val) (index_3 t).1)
  | 1 => exact Pipeline.Window.rect_emb_val_of_index_zero win0_3 t 1 (index_3 t).2 (ix2 r k)

theorem blk_4 (c : Dev nD) (t : Fin cfg0.N) (r : Fin 1) (k : Fin 256) :
    iblk m c 4 t (ix2 r k) = m ((c : Thread nD τ).loc main_arg3) (ix2 r k) := by
  refine congrArg (m ((c : Thread nD τ).loc main_arg3)) (funext fun a => Fin.ext ?_)
  match a with
  | 0 => exact Pipeline.Window.rect_emb_val_of_index_zero win0_4 t 0 (index_4 t).1 (ix2 r k)
  | 1 => exact Pipeline.Window.rect_emb_val_of_index_zero win0_4 t 1 (index_4 t).2 (ix2 r k)

/-- Where the output block's place lies in the result array. -/
theorem emb_5 (t : Fin cfg0.N) (r : Fin 512) (n : Fin 256) : (win0_5.rect t).emb (ix2 r n) = ix2 (row t r) n := by
  refine funext fun a => Fin.ext ?_
  match a with
  | 0 => exact (Pipeline.Window.rect_emb_val win0_5 t (ix2 r n) 0).trans (congrArg (· * 512 + r.val) (index_5 t).1)
  | 1 => exact Pipeline.Window.rect_emb_val_of_index_zero win0_5 t 1 (index_5 t).2 (ix2 r n)

/-- What a point writes back is its block of the reference's value. -/
theorem flushed_eq (hp : Cert.Pre_Kernel4Ideal_memory_queries m) (c : Dev nD) (t : Fin cfg0.N) :
    (dats m 0 c).flushed 5 t = ((cfg0.win 5).blk t).view.read (Elt Ideal) (G m c) := by
  rw [Value.flushed5_A m c t]
  unfold out0_A_5
  rw [View.read_writes_junk_eq_canon]
  funext j
  obtain ⟨r, n, rfl⟩ : ∃ (r : Fin 512) (n : Fin 256), j = ix2 r n := ⟨j 0, j 1, funext fun a => by match a with | 0 => rfl | 1 => rfl⟩
  refine (canon_ok _ (ix2 r n) _ (pieces_ok c _ _ _ _ _ _ _ _ _ _ _ _ _ _ _ _ _ _) (cover0_A_5 c _ _ _ _ _ _ _ _ _ _ _ _ _ _ _ _ _ _ (ix2 r n))).trans ?_
  refine Eq.trans ?_ (congrArg (G m c) (emb_5 t r n)).symm
  have hrow : (row t r).val = (bat t).val * 8192 + (pos t r).val := by
    show t.val * 512 + r.val = t.val / 16 * 8192 + (t.val % 16 * 512 + r.val); omega
  have eq0 : (⟨(bat t).val * 8192 + (pos t r).val, by omega⟩ : Fin 32768) = row t r := Fin.ext hrow.symm
  have e0 : ∀ k : Fin 256, X0_0 m c t (ix2 r k)
      = Cert.Reference4Ideal.MA.qrow (m ((c : Thread nD τ).loc main_arg0)) (bat t) (pos t r) k := fun k =>
    (blk_0 m c t r k).trans (congrArg (fun i : Fin 32768 => m ((c : Thread nD τ).loc main_arg0) (ix2 i (⟨4096 + k.val, by omega⟩ : Fin 4736))) eq0.symm)
  refine (body_apply _ _ _ _ _ r (fun k => ?_) n).trans (Eq.trans ?_ (Cert.Reference4Ideal.MA.ref_apply _ _ _ _ (bat t) (pos t r) n (row t r) hrow).symm)
  · obtain ⟨a, ha⟩ := Cert.Reference4Ideal.MA.queries _ _ _ _ (hp c) (row t r) k
    exact ⟨a, (blk_0 m c t r k).trans ha⟩
  · have e2 : (fun (k j : Fin 256) => iblk m c 2 t (ix2 k j)) = Cert.Reference4Ideal.MA.mrow (m ((c : Thread nD τ).loc main_arg1)) (bat t) :=
      funext fun k => funext fun j => blk_2 m c t k j
    have e3 : (fun (k j : Fin 256) => iblk m c 3 t (ix2 k j)) = Cert.Reference4Ideal.MA.mrow (m ((c : Thread nD τ).loc main_arg2)) (bat t) :=
      funext fun k => funext fun j => blk_3 m c t k j
    have e4 : (fun (j : Fin 256) => iblk m c 4 t (ix2 (0 : Fin 1) j)) = fun j => m ((c : Thread nD τ).loc main_arg3) (ix2 0 j) :=
      funext fun j => blk_4 m c t 0 j
    rw [funext e0, e2, e3, e4, blk_1 m c t r n]

/-- An index of the result array is in point `t`'s block when its row is one of the block's. -/
theorem mem_blk (t : Fin cfg0.N) (i : S32768x256.Idx) (h : t.val = (i 0 : Nat) / 512) :
    i ∈ ((cfg0.win 5).blk t).view.set := by
  have h0 : (i 0 : Nat) < 32768 := (i 0).isLt
  have h1 : (i 1 : Nat) < 256 := (i 1).isLt
  show i ∈ ((View.whole main_v0).slice (win0_5.rect t)).set
  rw [View.set_slice_whole, Rect.mem_set_unit]
  intro a
  match a with
  | 0 => show win0_5.index t 0 * 512 ≤ (i 0 : Nat) ∧ (i 0 : Nat) < win0_5.index t 0 * 512 + 512
         rw [(index_5 t).1]; omega
  | 1 => show win0_5.index t 1 * 256 ≤ (i 1 : Nat) ∧ (i 1 : Nat) < win0_5.index t 1 * 256 + 256
         rw [(index_5 t).2]; omega

/-- The result's blocks tile its array. -/
theorem cover (i : S32768x256.Idx) : ∃ t : Fin cfg0.N, (cfg0.win 5).flush t = true ∧ i ∈ ((cfg0.win 5).blk t).view.set := by
  have h0 : (i 0 : Nat) < 32768 := (i 0).isLt
  have hN : cfg0.N = 64 := N_0
  exact ⟨⟨(i 0 : Nat) / 512, by omega⟩, flush0_5 _, mem_blk _ i rfl⟩

/-- So the result array ends holding the reference's value. -/
theorem final (hp : Cert.Pre_Kernel4Ideal_memory_queries m) (c : Dev nD) : (dats m 0 c).arrAt 5 cfg0.N = G m c :=
  (dats m 0 c).arrAt_eq_of_cover 5 (G m c) (fun t _ => flushed_eq m hp c t) cover

end Cert.Kernel4Ideal.MA

namespace Cert.Proof

open Idealize.ShloMosaic Idealize.SL.Sem Idealize.ShloMosaic.TcCoe

/-- The memory attention's kernel and reference leave equal results. -/
theorem algebraic4 : Cert.algebraic_Kernel4Ideal_Reference4Ideal_pre_memory_queries := by
  intro m g m' g' hp h
  refine ⟨fun c => Cert.Kernel4Ideal.MA.G m c, ?_, ?_⟩
  · exact (θ_run Cert.Kernel4Ideal.defs _ _).mono (fun r hr c => ⟨(hr c).1.trans (Cert.Kernel4Ideal.MA.final m hp c), (hr c).2⟩)
      (Cert.Kernel4Ideal.Value.run_blocks (F := Ideal) m g)
  · refine (θ_run Cert.Reference4Ideal.defs _ _).mono (fun r hr c => ⟨(hr c).1.trans ?_, (hr c).2⟩)
      (Cert.Reference4Ideal.Value.run (F := Ideal) m' g')
    obtain ⟨h0, h1, h2, h3⟩ := h c
    rw [Cert.Reference4Ideal.Read.val_main_v38_eq, h0, h1, h2, h3]

/-- The memory attention's reference runs to its end, leaves its arguments and declares no semaphore. -/
theorem frame_r4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

end Cert.Proof
end
-- ==== Proof.SG.Pay.lean ====
module

public import proofs.«01_k».proof.Defs
public import proofs.«01_k».proof.Proof.Gen.Kernel5Ideal.Value
public import proofs.«01_k».proof.Proof.Mm
public import proofs.«01_k».proof.Proof.Hd

@[expose] public section

set_option maxRecDepth 16384

/-! The spatial gating unit: what the body computes from its blocks, at one place. -/

noncomputable section

namespace Cert.Kernel5Ideal.SG

open Cert.Kernel5Ideal Cert.Kernel5Ideal.Gen Cert.Fox
open Idealize.ShloMosaic hiding ix0 ix1 ix2 ix3 ix4 ix5
open Idealize.ShloMosaic.ValueIdx Idealize.ShloMosaic.TcCoe Idealize.SL.Sem

/-- The activation, by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

theorem real_mul {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩
theorem real_add {x y : EReal} (hx : ∃ a : ℝ, x = a) (hy : ∃ a : ℝ, y = a) : ∃ a : ℝ, x + y = a := by
  obtain ⟨a, rfl⟩ := hx; obtain ⟨b, rfl⟩ := hy; exact ⟨a + b, (EReal.coe_add a b).symm⟩
theorem real_tanh {x : EReal} (hx : ∃ a : ℝ, x = a) : ∃ a : ℝ, Ideal.tanh x = a := by
  obtain ⟨a, rfl⟩ := hx; exact ⟨Real.tanh a, Ideal.tanh_coe a⟩

/-- The activation of a real is a real. -/
theorem gelu_real {x : EReal} (hx : ∃ a : ℝ, x = a) : ∃ a : ℝ, gelu x = a := by
  have w1 : ∃ a : ℝ, Ideal.ofBits .f32 0x3F000000#32 = a := ⟨_, rfl⟩
  have w2 : ∃ a : ℝ, Ideal.ofBits .f32 0x3F800000#32 = a := ⟨_, rfl⟩
  have w3 : ∃ a : ℝ, Ideal.ofBits .f32 0x3F4C422A#32 = a := ⟨_, rfl⟩
  have w4 : ∃ a : ℝ, Ideal.ofBits .f32 0x3D372713#32 = a := ⟨_, rfl⟩
  exact real_mul hx (real_mul w1 (real_add w2 (real_tanh (real_mul w3 (real_add hx (real_mul w4 (real_mul hx (real_mul hx hx))))))))

/-- The weight of position `k` for position `r`: none if `k` comes later. -/
def tri (w : Fin 128 → Fin 128 → EReal) (r k : Fin 128) : EReal := if k.val ≤ r.val then w r k else 0

/-- One place of the result: the activated first part, the weighted sum of the chunk's normalised values and the bias, the gate. -/
def unit (u z : EReal) (v : Fin 128 → Fin 256 → EReal) (g : Fin 256 → EReal) (w : Fin 4 → Fin 128 → Fin 128 → EReal) (b : EReal) (r : Fin 128) (j : Fin 256) : EReal :=
  gelu u * ((∑ k : Fin 128, tri (w (hd j)) r k * hrms (head (fun i => gelu (v k i)) (hd j)) (g j) (lane j)) + b) * (z * Ideal.div 1 (1 + Ideal.exp (-z)))

/-- The normalised values as the body has them. -/
abbrev VN (x : S512x256.Idx → EReal) (g : S1x256.Idx → EReal) : S512x256.Idx → EReal :=
  k0_pay10 (F := Ideal) (k0_pay2 (F := Ideal) x) g
    (k0_pay6 (F := Ideal) (iota .tc S256x256 32 [0] iota_S256x256_d0_w32) 64#32 k0_pay4 k0_pay5 (Scalar.cmpi .sgt 64#32 0#32))
    (k0_pay8 (F := Ideal) (k0_pay3 (F := Ideal) x))
    (k0_pay9 (F := Ideal) (k0_pay3 (F := Ideal) x) (iota .tc S256x256 32 [0] iota_S256x256_d0_w32) 64#32 k0_pay4 k0_pay5 (Scalar.cmpi .sgt 64#32 0#32))
    (constant S512x256 .f32 0x00000000#32)

/-- Which columns share a head, as the body has it. -/
abbrev B : S256x256.Idx → EReal := fun i =>
  FloatOps.sitofp (F := Ideal) .f32 ((IntOp.cmpi .eq (quot64 (iota .tc S256x256 32 [0] iota_S256x256_d0_w32 i)) (quot64 (iota .tc S256x256 32 [1] iota_S256x256_d1_w32 i))).zeroExtend 32)

theorem B_apply (k j : Fin 256) : B (ix2 k j) = if k.val / 64 = j.val / 64 then 1 else 0 := by
  refine Eq.trans ?_ (same_head_real k j)
  unfold B
  rw [iota_single_apply, iota_single_apply]

/-- The body's normalised values at one place. -/
theorem VN_apply (x : S512x256.Idx → EReal) (g : S1x256.Idx → EReal) (r : Fin 512) (j : Fin 256) (hx : ∀ k, ∃ a : ℝ, x (ix2 r k) = a) :
    VN x g (ix2 r j) = hrms (head (fun k => gelu (x (ix2 r k))) (hd j)) (g (ix2 0 j)) (lane j) := by
  refine Eq.trans ?_ (rms_apply (fun k => gelu (x (ix2 r k))) (fun k => gelu_real (hx k)) (fun k => B (ix2 k j)) (g (ix2 0 j)) j (fun k => B_apply k j))
  have e1 := matmul_plain_zero (φ₁ := .bf16) (φ₂ := .bf16) dot_S512x256_S256x256_S512x256_1_0_0_1_n_n rfl none (fun i => gelu (x i) * gelu (x i)) B (ix2 r j)
  have e2 := matmul_plain_zero (φ₁ := .bf16) (φ₂ := .bf16) dot_S512x256_S256x256_S512x256_1_0_0_1_n_n rfl none (fun i => gelu (x i) * gelu (x i) - gelu (x i) * gelu (x i)) B (ix2 r j)
  have e3 := rows_apply g broadcasts_S1x256_S512x256 r j
  show gelu (x (ix2 r j)) * Ideal.rsqrt ((matmul (F := Ideal) (φ₁ := .bf16) (φ₂ := .bf16) dot_S512x256_S256x256_S512x256_1_0_0_1_n_n none (fun i => gelu (x i) * gelu (x i)) B (constant S512x256 .f32 0x00000000#32) (ix2 r j)
      + matmul (F := Ideal) (φ₁ := .bf16) (φ₂ := .bf16) dot_S512x256_S256x256_S512x256_1_0_0_1_n_n none (fun i => gelu (x i) * gelu (x i) - gelu (x i) * gelu (x i)) B (constant S512x256 .f32 0x00000000#32) (ix2 r j))
        * Ideal.ofBits .f32 0x3C800000#32 + Ideal.ofBits .f32 0x358637BD#32)
      * broadcastTo S512x256 g broadcasts_S1x256_S512x256 (ix2 r j) = _
  rw [e1, e2, e3]

theorem tril_word (r k : Fin 128) : IntOp.cmpi .sle (BitVec.ofNat 32 k.val) (BitVec.ofNat 32 r.val) = if k.val ≤ r.val then 1#1 else 0#1 := by
  revert r k; decide +kernel

theorem zero_f32 : Ideal.ofBits .f32 0x00000000#32 = 0 := Ideal.ofBits_zero_f32

/-- The body's weights of one head: later positions have none. -/
theorem pay14_apply (w : S1x128x128.Idx → EReal) (r k : Fin 128) : k0_pay14 (F := Ideal) w (ix2 r k) = tri (fun r k => w (ix3 0 r k)) r k := by
  have e : shapeCast S128x128 w shapeCasts_S1x128x128_S128x128 (ix2 r k) = w (ix3 (0 : Fin 1) r k) :=
    shapeCast_apply w shapeCasts_S1x128x128_S128x128 (ix2 r k) (ix3 (0 : Fin 1) r k) (by
      rw [Shape.rowMajor_val_two, Shape.rowMajor_val_three]
      show (0 * 128 + r.val) * 128 + k.val = r.val * 128 + k.val
      omega)
  show Scalar.select (IntOp.cmpi .sle (iota .tc S128x128 32 [1] iota_S128x128_d1_w32 (ix2 r k)) (iota .tc S128x128 32 [0] iota_S128x128_d0_w32 (ix2 r k)))
    (shapeCast S128x128 w shapeCasts_S1x128x128_S128x128 (ix2 r k)) (Ideal.ofBits .f32 0x00000000#32) = _
  rw [iota_single_apply, iota_single_apply, e, zero_f32]
  show Scalar.select (IntOp.cmpi .sle (BitVec.ofNat 32 k.val) (BitVec.ofNat 32 r.val)) _ _ = _
  rw [tril_word]
  unfold tri
  split <;> rfl

theorem lo_apply (r k : Fin 128) : k0_pay13 (ix2 r k) = lowLane (BitVec.ofNat 32 k.val) := by
  have e : ∀ i, k0_pay13 i = lowLane (iota .tc S128x128 32 [1] iota_S128x128_d1_w32 i) := fun i => rfl
  rw [e, iota_single_apply]

/-- Two heads of a chunk, each under its weights. -/
def pair (wa wb : FVec Ideal S128x128 .bf16) (vt : FVec Ideal S128x128 .f32) : FVec Ideal S128x128 .f32 :=
  addf (F := Ideal) (φ := .f32)
    (matmul (F := Ideal) dot_S128x128_S128x128_S128x128_1_0_0_1_n_n none wa (truncf (F := Ideal) .bf16 (select k0_pay13 vt (broadcast S128x128 (Scalar.ofBits (F := Ideal) .f32 0x00000000#32))) bitsLt_bf16_f32) (constant S128x128 .f32 0x00000000#32))
    (matmul (F := Ideal) dot_S128x128_S128x128_S128x128_1_0_0_1_n_n none wb (truncf (F := Ideal) .bf16 (select k0_pay13 (broadcast S128x128 (Scalar.ofBits (F := Ideal) .f32 0x00000000#32)) vt) bitsLt_bf16_f32) (constant S128x128 .f32 0x00000000#32))

theorem pair_apply (wa wb vt : S128x128.Idx → EReal) (r c : Fin 128) :
    pair wa wb vt (ix2 r c) = ∑ k : Fin 128, (if c.val < 64 then wa (ix2 r k) else wb (ix2 r k)) * vt (ix2 k c) := by
  have e1 := matmul_plain_zero (φ₁ := .bf16) (φ₂ := .bf16) dot_S128x128_S128x128_S128x128_1_0_0_1_n_n rfl none wa (fun i => Scalar.select (k0_pay13 i) (vt i) (Ideal.ofBits .f32 0x00000000#32)) (ix2 r c)
  have e2 := matmul_plain_zero (φ₁ := .bf16) (φ₂ := .bf16) dot_S128x128_S128x128_S128x128_1_0_0_1_n_n rfl none wb (fun i => Scalar.select (k0_pay13 i) (Ideal.ofBits .f32 0x00000000#32) (vt i)) (ix2 r c)
  refine (congrArg₂ (fun a b : EReal => a + b) e1 e2).trans ?_
  have f1 : ∀ k : Fin 128, Scalar.select (k0_pay13 (ix2 k c)) (vt (ix2 k c)) (Ideal.ofBits .f32 0x00000000#32) = if c.val < 64 then vt (ix2 k c) else 0 := fun k => by
    rw [lo_apply, select_low, zero_f32]
  have f2 : ∀ k : Fin 128, Scalar.select (k0_pay13 (ix2 k c)) (Ideal.ofBits .f32 0x00000000#32) (vt (ix2 k c)) = if c.val < 64 then 0 else vt (ix2 k c) := fun k => by
    rw [lo_apply, select_low, zero_f32]
  show (∑ k : Fin 128, wa (ix2 r k) * Scalar.select (k0_pay13 (ix2 k c)) (vt (ix2 k c)) (Ideal.ofBits .f32 0x00000000#32))
    + (∑ k : Fin 128, wb (ix2 r k) * Scalar.select (k0_pay13 (ix2 k c)) (Ideal.ofBits .f32 0x00000000#32) (vt (ix2 k c))) = _
  rw [Finset.sum_congr rfl fun k _ => congrArg (fun t => wa (ix2 r k) * t) (f1 k), Finset.sum_congr rfl fun k _ => congrArg (fun t => wb (ix2 r k) * t) (f2 k)]
  by_cases h : c.val < 64
  · simp only [if_pos h, mul_zero, Finset.sum_const_zero, add_zero]
  · simp only [if_neg h, mul_zero, Finset.sum_const_zero, zero_add]

/-- One chunk of the result. -/
def chunk (o : ℕ) (h0 : S512x256.Slices ![o, 0] S128x128) (h1 : S512x256.Slices ![o, 128] S128x128) (h2 : S512x256.Slices ![o, 0] S128x256)
    (u vn z : FVec Ideal S512x256 .f32) (w0 w1 w2 w3 : FVec Ideal S128x128 .bf16) (b : FVec Ideal S128x256 .f32) : FVec Ideal S128x256 .bf16 :=
  truncf (F := Ideal) .bf16 (mulf (F := Ideal) (φ := .f32) (mulf (F := Ideal) (φ := .f32) (extractStridedSlice S128x256 ![o, 0] u h2)
      (addf (F := Ideal) (φ := .f32) (concatenate S128x256 1 [⟨S128x128, pair w0 w1 (extractStridedSlice S128x128 ![o, 0] vn h0)⟩,
        ⟨S128x128, pair w2 w3 (extractStridedSlice S128x128 ![o, 128] vn h1)⟩] concatenates_S128x128_S128x128_S128x256_d1) b))
    (extractStridedSlice S128x256 ![o, 0] z h2)) bitsLt_bf16_f32

/-- The weights of a head. -/
def pick (w0 w1 w2 w3 : S128x128.Idx → EReal) (h : Fin 4) : S128x128.Idx → EReal := if h.val = 0 then w0 else if h.val = 1 then w1 else if h.val = 2 then w2 else w3

theorem slab_apply {n : ℕ} (o p : ℕ) (ho : o + 128 ≤ 512) (hp : p + n ≤ 256) (x : S512x256.Idx → EReal) (h : S512x256.Slices ![o, p] ⟨2, ![128, n]⟩) (r : Fin 128) (c : Fin n) :
    extractStridedSlice (⟨2, ![128, n]⟩ : Shape) ![o, p] x h (ix2 r c) = x (ix2 (⟨o + r.val, by omega⟩ : Fin 512) (⟨p + c.val, by omega⟩ : Fin 256)) :=
  extractStridedSlice_apply ![o, p] x h (ix2 r c) _ fun a => by
    match a with
    | 0 => rfl
    | 1 => rfl

theorem chunk_apply (o : ℕ) (ho : o + 128 ≤ 512) (h0 : S512x256.Slices ![o, 0] S128x128) (h1 : S512x256.Slices ![o, 128] S128x128) (h2 : S512x256.Slices ![o, 0] S128x256)
    (u vn z : S512x256.Idx → EReal) (w0 w1 w2 w3 : S128x128.Idx → EReal) (b : S128x256.Idx → EReal) (r : Fin 128) (j : Fin 256) :
    chunk o h0 h1 h2 u vn z w0 w1 w2 w3 b (ix2 r j)
      = u (ix2 (⟨o + r.val, by omega⟩ : Fin 512) j) * ((∑ k : Fin 128, pick w0 w1 w2 w3 (hd j) (ix2 r k) * vn (ix2 (⟨o + k.val, by omega⟩ : Fin 512) j)) + b (ix2 r j))
        * z (ix2 (⟨o + r.val, by omega⟩ : Fin 512) j) := by
  have ej : (⟨0 + j.val, by omega⟩ : Fin 256) = j := Fin.ext (Nat.zero_add _)
  have eu : extractStridedSlice S128x256 ![o, 0] u h2 (ix2 r j) = u (ix2 (⟨o + r.val, by omega⟩ : Fin 512) j) :=
    (slab_apply o 0 ho (by omega) u h2 r j).trans (by rw [ej])
  have ez : extractStridedSlice S128x256 ![o, 0] z h2 (ix2 r j) = z (ix2 (⟨o + r.val, by omega⟩ : Fin 512) j) :=
    (slab_apply o 0 ho (by omega) z h2 r j).trans (by rw [ej])
  show extractStridedSlice S128x256 ![o, 0] u h2 (ix2 r j)
    * (concatenate S128x256 1 [⟨S128x128, pair w0 w1 (extractStridedSlice S128x128 ![o, 0] vn h0)⟩,
        ⟨S128x128, pair w2 w3 (extractStridedSlice S128x128 ![o, 128] vn h1)⟩] concatenates_S128x128_S128x128_S128x256_d1 (ix2 r j) + b (ix2 r j))
    * extractStridedSlice S128x256 ![o, 0] z h2 (ix2 r j) = _
  rw [eu, ez]
  refine congrArg (fun t => u (ix2 (⟨o + r.val, by omega⟩ : Fin 512) j) * (t + b (ix2 r j)) * z (ix2 (⟨o + r.val, by omega⟩ : Fin 512) j)) ?_
  by_cases hj : j.val < 128
  · refine (concatenate_pair_apply_left (t := S128x256) 1 _ _ concatenates_S128x128_S128x128_S128x256_d1 (ix2 r j) rfl (ix2 r (⟨j.val, hj⟩ : Fin 128)) fun b => by
      match b with
      | 0 => rfl
      | 1 => rfl).trans ?_
    refine (pair_apply w0 w1 _ r ⟨j.val, hj⟩).trans (Finset.sum_congr rfl fun k _ => ?_)
    refine congr (congrArg (HMul.hMul (α := EReal)) ?_) ?_
    · unfold pick
      by_cases hl : j.val < 64
      · rw [if_pos hl, if_pos (by show j.val / 64 = 0; omega)]
      · rw [if_neg hl, if_neg (by show ¬ j.val / 64 = 0; omega), if_pos (by show j.val / 64 = 1; omega)]
    · exact (slab_apply o 0 ho (by omega) vn h0 k ⟨j.val, hj⟩).trans (congrArg (fun t => vn (ix2 (⟨o + k.val, by omega⟩ : Fin 512) t)) ej)
  · have hj' : j.val - 128 < 128 := by omega
    refine (concatenate_pair_apply_right (t := S128x256) 1 _ _ concatenates_S128x128_S128x128_S128x256_d1 (ix2 r j) rfl rfl (ix2 r (⟨j.val - 128, hj'⟩ : Fin 128)) (fun b hb => by
      match b with
      | 0 => rfl
      | 1 => exact absurd rfl hb) (by show j.val - 128 + 128 = j.val; omega)).trans ?_
    refine (pair_apply w2 w3 _ r ⟨j.val - 128, hj'⟩).trans (Finset.sum_congr rfl fun k _ => ?_)
    have ej' : (⟨128 + (j.val - 128), by omega⟩ : Fin 256) = j := Fin.ext (by show 128 + (j.val - 128) = j.val; omega)
    refine congr (congrArg (HMul.hMul (α := EReal)) ?_) ?_
    · unfold pick
      by_cases hl : j.val - 128 < 64
      · rw [if_pos hl, if_neg (by show ¬ j.val / 64 = 0; omega), if_neg (by show ¬ j.val / 64 = 1; omega), if_pos (by show j.val / 64 = 2; omega)]
      · rw [if_neg hl, if_neg (by show ¬ j.val / 64 = 0; omega), if_neg (by show ¬ j.val / 64 = 1; omega), if_neg (by show ¬ j.val / 64 = 2; omega)]
    · exact (slab_apply o 128 ho (by omega) vn h1 k ⟨j.val - 128, hj'⟩).trans (congrArg (fun t => vn (ix2 (⟨o + k.val, by omega⟩ : Fin 512) t)) ej')

end Cert.Kernel5Ideal.SG
end
-- ==== Proof.SG.Ref.lean ====
module

public import proofs.«01_k».proof.Proof.SG.Pay
public import proofs.«01_k».proof.Proof.KV.Pre
public import proofs.«01_k».proof.Proof.Gen.Reference5Ideal.Run
public import proofs.«01_k».proof.Proof.Gen.Reference5Ideal.Read
public import proofs.«01_k».proof.Proof.Gen.Pre_gating_values

@[expose] public section

set_option maxRecDepth 16384

/-! The spatial gating unit's reference at one place of its result. -/

noncomputable section

namespace Cert.Reference5Ideal.SG

open Cert.Pre_gating_values.Gen Cert.Reference5Ideal Cert.Reference5Ideal.Gen Cert.Reference5Ideal.Read Cert.Fox Cert.Kernel5Ideal.SG Cert.ReferenceIdeal.Fox
open Idealize.ShloMosaic hiding ix0 ix1 ix2 ix3 ix4 ix5
open Idealize.ShloMosaic.ValueIdx

variable (x0 : S32768x4736.Idx → EReal) (x1 : S1x256.Idx → EReal) (x2 : S4x128x128.Idx → EReal) (x3 : S128x256.Idx → EReal)

/-- The value columns of a row, activated. -/
def act (row : Fin 32768) (j : Fin 256) : EReal := gelu (x0 (ix2 row (⟨256 + j.val, by omega⟩ : Fin 4736)))

theorem act_apply (row : Fin 32768) (j : Fin 256) : val_main_v15 (F := Ideal) x0 (ix2 row j) = act x0 row j := by
  have e : val_main_v1 (F := Ideal) x0 (ix2 row j) = x0 (ix2 row (⟨256 + j.val, by omega⟩ : Fin 4736)) :=
    (val_main_v1_apply (F := Ideal) x0 _).trans (congrArg x0 (funext fun a => by match a with | 0 => rfl | 1 => rfl))
  have s : ∀ y : EReal, y * (Ideal.ofBits .f32 0x3F000000#32 * (Ideal.ofBits .f32 0x3F800000#32
      + Ideal.tanh (Ideal.ofBits .f32 0x3F4C422A#32 * (y + Ideal.ofBits .f32 0x3D372713#32 * ((y * y) * y))))) = gelu y := fun y => by
    unfold gelu; rw [mul_comm (y * y) y]
  rw [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, e]
  exact s _

/-- The first columns of a row, activated. -/
theorem first_apply (row : Fin 32768) (j : Fin 256) : val_main_v57 (F := Ideal) x0 (ix2 row j) = gelu (x0 (ix2 row (⟨j.val, by omega⟩ : Fin 4736))) := by
  have e : val_main_v0 (F := Ideal) x0 (ix2 row j) = x0 (ix2 row (⟨j.val, by omega⟩ : Fin 4736)) :=
    (val_main_v0_apply (F := Ideal) x0 _).trans (congrArg x0 (funext fun a => by match a with | 0 => rfl | 1 => rfl))
  have s : ∀ y : EReal, y * (Ideal.ofBits .f32 0x3F000000#32 * (Ideal.ofBits .f32 0x3F800000#32
      + Ideal.tanh (Ideal.ofBits .f32 0x3F4C422A#32 * (y + Ideal.ofBits .f32 0x3D372713#32 * ((y * y) * y))))) = gelu y := fun y => by
    unfold gelu; rw [mul_comm (y * y) y]
  rw [val_main_v57_apply, val_main_v56_apply, val_main_v55_apply, val_main_v54_apply, val_main_v53_apply, val_main_v52_apply, val_main_v51_apply,
    val_main_v50_apply, val_main_v49_apply, val_main_v48_apply, val_main_v47_apply, val_main_v46_apply, val_main_v45_apply, e]
  exact s _

theorem heads_apply (row : Fin 32768) (h : Fin 4) (d : Fin 64) : val_main_v16 (F := Ideal) x0 (ix3 row h d) = head (act x0 row) h d := by
  refine (val_main_v16_apply (F := Ideal) x0 _).trans (Eq.trans (congrArg (val_main_v15 (F := Ideal) x0) (funext fun a => Fin.ext ?_)) (act_apply x0 row ⟨h.val * 64 + d.val, by omega⟩))
  match a with
  | 0 => show ((row.val * 4 + h.val) * 64 + d.val) / 256 = row.val; omega
  | 1 => show ((row.val * 4 + h.val) * 64 + d.val) % 256 = h.val * 64 + d.val; omega

theorem gain_apply (row : Fin 32768) (h : Fin 4) (d : Fin 64) : val_main_v29 (F := Ideal) x1 (ix3 row h d) = head (fun j => x1 (ix2 0 j)) h d := by
  refine (val_main_v29_apply (F := Ideal) x1 _).trans ((val_main_v28_apply (F := Ideal) x1 _).trans ((val_main_v27_apply (F := Ideal) x1 _).trans (congrArg x1 (funext fun a => Fin.ext ?_))))
  match a with
  | 0 => rfl
  | 1 => show (h.val * 64 + d.val) % 256 = h.val * 64 + d.val; omega

theorem nrm_apply (row : Fin 32768) (h : Fin 4) (d : Fin 64) : val_main_v30 (F := Ideal) x0 x1 (ix3 row h d) = hrms (head (act x0 row) h) (head (fun j => x1 (ix2 0 j)) h d) d := by
  refine (val_main_v30_apply (F := Ideal) x0 x1 _).trans ?_
  refine congr (congrArg (HMul.hMul (α := EReal)) ?_) (gain_apply x1 row h d)
  refine (val_main_v26_apply (F := Ideal) x0 _).trans ?_
  refine congr (congrArg (HMul.hMul (α := EReal)) (heads_apply x0 row h d)) ?_
  refine (val_main_v25_apply (F := Ideal) x0 _).trans ((val_main_v24_apply (F := Ideal) x0 _).trans ?_)
  show Ideal.rsqrt _ = Ideal.rsqrt _
  refine congrArg Ideal.rsqrt ((val_main_v23_apply (F := Ideal) x0 _).trans ?_)
  refine congr (congrArg (HAdd.hAdd (α := EReal)) ?_) (val_main_v22_apply (F := Ideal) _)
  refine (val_main_v21_apply (F := Ideal) x0 _).trans ?_
  refine congr (congrArg Ideal.div ?_) (val_main_v20_apply (F := Ideal) _)
  refine (val_main_v19_apply (F := Ideal) x0 _).trans ((val_main_v18_apply x0 _).trans ?_)
  refine (congrArg (· + _) Ideal.ofBits_zero_f32).trans ((zero_add _).trans (Finset.sum_congr rfl fun i _ => ?_))
  refine (val_main_v17_apply (F := Ideal) x0 _).trans ?_
  have e : val_main_v16 (F := Ideal) x0 (idx_main_v18 (idx_main_v19 (idx_main_v25 (ix3 row h d))) i) = head (act x0 row) h i :=
    (congrArg (val_main_v16 (F := Ideal) x0) (funext fun a => by match a with | 0 => rfl | 1 => rfl | 2 => rfl)).trans (heads_apply x0 row h i)
  exact congr (congrArg (HMul.hMul (α := EReal)) e) e

/-- The weights, none for later positions. -/
theorem tri_apply (h : Fin 4) (r k : Fin 128) : val_main_v38 (F := Ideal) x2 (ix3 h r k) = tri (fun r k => x2 (ix3 h r k)) r k := by
  rw [val_main_v38_apply, val_main_call0_v1_apply, val_main_v37_apply, val_main_v35_apply, val_main_v33_apply, val_main_v32_apply,
    val_main_v36_apply, val_main_v34_apply, val_main_v32_apply, val_main_call0_v2_apply, val_main_call0_v0_apply, val_main_cst_6_apply]
  show Scalar.select (IntOp.cmpi .sle (BitVec.ofNat 32 k.val) (BitVec.ofNat 32 r.val)) (x2 (ix3 h r k)) (Ideal.ofBits .f32 0x00000000#32) = _
  rw [tril_word, zero_f32]
  unfold tri
  split <;> rfl

/-- The reference's value at position `r` of chunk `c`. -/
theorem ref_apply (c : Fin 256) (r : Fin 128) (j : Fin 256) (row : Fin 32768) (hr : row.val = c.val * 128 + r.val) :
    val_main_v62 (F := Ideal) x0 x1 x2 x3 (ix2 row j)
      = unit (x0 (ix2 row (⟨j.val, by omega⟩ : Fin 4736))) (x0 (ix2 row (⟨512 + j.val, by omega⟩ : Fin 4736)))
          (fun k i => x0 (ix2 (⟨c.val * 128 + k.val, by omega⟩ : Fin 32768) (⟨256 + i.val, by omega⟩ : Fin 4736)))
          (fun j => x1 (ix2 0 j)) (fun h r k => x2 (ix3 h r k)) (x3 (ix2 r j)) r j := by
  refine (val_main_v62_apply (F := Ideal) x0 x1 x2 x3 _).trans ?_
  refine (val_main_v61_apply (F := Ideal) x0 x1 x2 x3 _).trans ?_
  refine congr (congrArg (HMul.hMul (α := EReal)) ?_) ?_
  · refine (val_main_v59_apply (F := Ideal) x0 x1 x2 x3 _).trans ?_
    refine congr (congrArg (HMul.hMul (α := EReal)) (first_apply x0 row j)) ?_
    have e : val_main_v44 (F := Ideal) x0 x1 x2 x3 (ix4 c r (hd j) (lane j))
        = (∑ k : Fin 128, tri (fun r k => x2 (ix3 (hd j) r k)) r k * hrms (head (act x0 (⟨c.val * 128 + k.val, by omega⟩ : Fin 32768)) (hd j)) (x1 (ix2 0 j)) (lane j)) + x3 (ix2 r j) := by
      refine (val_main_v44_apply (F := Ideal) x0 x1 x2 x3 _).trans ?_
      refine congr (congrArg (HAdd.hAdd (α := EReal)) ?_) ?_
      · refine (val_main_v40_apply (F := Ideal) x0 x1 x2 _).trans ((val_main_v39_apply x0 x1 x2 _).trans (Finset.sum_congr rfl fun k _ => ?_))
        refine Eq.trans ?_ (mul_comm (G := EReal) _ _)
        refine congr (congrArg (HMul.hMul (α := EReal)) ?_) ?_
        · refine (val_main_v31_apply (F := Ideal) x0 x1 _).trans (Eq.trans (congrArg (val_main_v30 (F := Ideal) x0 x1) (funext fun a => Fin.ext ?_))
            ((nrm_apply x0 x1 (⟨c.val * 128 + k.val, by omega⟩ : Fin 32768) (hd j) (lane j)).trans (congrArg (fun t => hrms _ t (lane j)) (head_lane (fun j => x1 (ix2 0 j)) j))))
          have hh := (hd j).isLt
          have hl := (lane j).isLt
          match a with
          | 0 => show (((c.val * 128 + k.val) * 4 + (hd j).val) * 64 + (lane j).val) / 256 = c.val * 128 + k.val; omega
          | 1 => show (((c.val * 128 + k.val) * 4 + (hd j).val) * 64 + (lane j).val) / 64 % 4 = (hd j).val; omega
          | 2 => show (((c.val * 128 + k.val) * 4 + (hd j).val) * 64 + (lane j).val) % 64 = (lane j).val; omega
        · refine Eq.trans ?_ (tri_apply x2 (hd j) r k)
          exact congrArg (val_main_v38 (F := Ideal) x2) (funext fun a => by match a with | 0 => rfl | 1 => rfl | 2 => rfl)
      · refine (val_main_v43_apply (F := Ideal) x3 _).trans ((val_main_v42_apply (F := Ideal) x3 _).trans ((val_main_v41_apply (F := Ideal) x3 _).trans (congrArg x3 (funext fun a => Fin.ext ?_))))
        match a with
        | 0 => show ((r.val * 4 + j.val / 64) * 64 + j.val % 64) / 256 = r.val; omega
        | 1 => show ((r.val * 4 + j.val / 64) * 64 + j.val % 64) % 256 = j.val; omega
    refine (val_main_v58_apply (F := Ideal) x0 x1 x2 x3 _).trans (Eq.trans (congrArg (val_main_v44 (F := Ideal) x0 x1 x2 x3) (funext fun a => Fin.ext ?_)) e)
    match a with
    | 0 => show (row.val * 256 + j.val) / 32768 = c.val; omega
    | 1 => show (row.val * 256 + j.val) / 256 % 128 = r.val; omega
    | 2 => show (row.val * 256 + j.val) / 64 % 4 = j.val / 64; omega
    | 3 => show (row.val * 256 + j.val) % 64 = j.val % 64; omega
  · refine (val_main_v60_apply (F := Ideal) x0 _).trans ?_
    have ez : val_main_v2 (F := Ideal) x0 (ix2 row j) = x0 (ix2 row (⟨512 + j.val, by omega⟩ : Fin 4736)) :=
      (val_main_v2_apply (F := Ideal) x0 _).trans (congrArg x0 (funext fun a => by match a with | 0 => rfl | 1 => rfl))
    have e1 : Ideal.ofBits .f32 0x3F800000#32 = 1 := by simp [Ideal.ofBits, Ideal.ieee, -EReal.coe_mul]; norm_num
    refine congr (congrArg (HMul.hMul (α := EReal)) ez) ?_
    refine (val_main_call1_v5_apply (F := Ideal) x0 _).trans ?_
    show Ideal.div _ _ = Ideal.div 1 (1 + Ideal.exp (-_))
    refine congr (congrArg Ideal.div ((val_main_call1_v4_apply (F := Ideal) _).trans e1)) ?_
    refine (val_main_call1_v3_apply (F := Ideal) x0 _).trans ?_
    refine congr (congrArg (HAdd.hAdd (α := EReal)) ((val_main_call1_v2_apply (F := Ideal) _).trans e1)) ?_
    exact congrArg (fun z : EReal => Ideal.exp (-z)) ez

/-- The precondition says the values are reals. -/
theorem values (hp : Cert.Pre_gating_values.fn (F := Ideal) x0 x1 x2 x3 = fun _ => 1#1) (row : Fin 32768) (j : Fin 256) :
    ∃ r : ℝ, x0 (ix2 row (⟨256 + j.val, by omega⟩ : Fin 4736)) = r := by
  have e := congrFun hp ix0
  unfold Cert.Pre_gating_values.fn at e
  have hsub : Subsingleton (Cert.Pre_gating_values.S_).Idx := ⟨fun a b => funext fun i => i.elim0⟩
  have w := Host.reduce_andi_all _ _ _ _ _ e (ix2 row j)
  have es : extractStridedSlice Cert.Pre_gating_values.S32768x256 ![0, 256] x0 Cert.Pre_gating_values.Facts.slices_S32768x4736_S32768x256_0_256 (ix2 row j)
      = x0 (ix2 row (⟨256 + j.val, by omega⟩ : Fin 4736)) :=
    extractStridedSlice_apply ![0, 256] x0 _ (ix2 row j) _ fun a => by
      match a with
      | 0 => exact (Nat.zero_add _).symm
      | 1 => rfl
  refine real_of_abs _ (Eq.trans ?_ w)
  refine congrArg₂ (fun y z : EReal => BitVec.ofBool (decide (max y (-y) < z))) es.symm ?_
  exact inf_word.symm

end Cert.Reference5Ideal.SG
end
-- ==== Proof.SG.Out.lean ====
module

public import proofs.«01_k».proof.Proof.SG.Ref
public import Idealize.ShloMosaic.Lib.Quiescent

@[expose] public section

set_option maxRecDepth 16384

/-! The spatial gating unit: the result array of the call is the reference's, place by place. -/

noncomputable section

namespace Cert.Kernel5Ideal.SG

open Cert.Kernel5Ideal Cert.Kernel5Ideal.Gen Cert.Fox
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- A piece of the output block holding what `W` has at its places. -/
def Ok (W : S512x256.Idx → EReal) (p : View.Piece (Elt Ideal) S512x256 .bf16) : Prop := ∀ x, p.2 x = W (p.1.emb x)

/-- The contents pieces leave, each holding what `W` has there, is `W` wherever a piece lies. -/
theorem canon_ok (W : S512x256.Idx → EReal) (y : S512x256.Idx) :
    ∀ L : List (View.Piece (Elt Ideal) S512x256 .bf16), (∀ p ∈ L, Ok W p) → (∃ p ∈ L, y ∈ p.1.set) → View.canon L y = W y
  | [], _, h => by obtain ⟨_, hm, _⟩ := h; exact absurd hm List.not_mem_nil
  | p :: L, hok, h => by
    by_cases hy : y ∈ p.1.set
    · obtain ⟨r, w⟩ := p
      obtain ⟨x, rfl⟩ : ∃ x, r.emb x = y := r.exists_idx_of_mem hy
      rw [View.canon_cons_emb]
      exact hok ⟨r, w⟩ List.mem_cons_self x
    · rw [View.canon_cons_of_not_mem p L hy]
      refine canon_ok W y L (fun q hq => hok q (List.mem_cons_of_mem _ hq)) ?_
      obtain ⟨q, hq, hyq⟩ := h
      rcases List.mem_cons.mp hq with rfl | hq
      · exact absurd hyq hy
      · exact ⟨q, hq, hyq⟩

/-- One head's weights. -/
def slab (x : S4x128x128.Idx → EReal) (h : Fin 4) : S1x128x128.Idx → EReal := fun i => x (ix3 h (i 1) (i 2))

/-- What the body leaves in the output block. -/
def body (x0 x1 x2 : S512x256.Idx → EReal) (x3 : S1x256.Idx → EReal) (x4 : S4x128x128.Idx → EReal) (x5 : S128x256.Idx → EReal) : S512x256.Idx → EReal := fun i =>
  gelu (x0 i) * ((∑ k : Fin 128, tri (fun r k => x4 (ix3 (hd (i 1)) r k)) (⟨(i 0 : Nat) % 128, by omega⟩ : Fin 128) k
      * VN x1 x3 (ix2 (⟨(i 0 : Nat) / 128 * 128 + k.val, by have h : (i 0 : Nat) < 512 := (i 0).isLt; omega⟩ : Fin 512) (i 1)))
    + x5 (ix2 (⟨(i 0 : Nat) % 128, by omega⟩ : Fin 128) (i 1))) * k0_pay11 (F := Ideal) x2 i

theorem pick_apply (x4 : S4x128x128.Idx → EReal) (h : Fin 4) (r k : Fin 128) :
    pick (k0_pay14 (F := Ideal) (slab x4 0)) (k0_pay14 (F := Ideal) (slab x4 1)) (k0_pay14 (F := Ideal) (slab x4 2)) (k0_pay14 (F := Ideal) (slab x4 3)) h (ix2 r k)
      = tri (fun r k => x4 (ix3 h r k)) r k := by
  unfold pick
  match h with
  | 0 => exact pay14_apply _ r k
  | 1 => exact pay14_apply _ r k
  | 2 => exact pay14_apply _ r k
  | 3 => exact pay14_apply _ r k

theorem chunk_ok (o : ℕ) (ho : o + 128 ≤ 512) (hd128 : o % 128 = 0) (h0 : S512x256.Slices ![o, 0] S128x128) (h1 : S512x256.Slices ![o, 128] S128x128) (h2 : S512x256.Slices ![o, 0] S128x256)
    (hi : ∀ a, 0 < S128x256.size a → ![o, 0] a + S128x256.size a ≤ S512x256.size a)
    (x0 x1 x2 : S512x256.Idx → EReal) (x3 : S1x256.Idx → EReal) (x4 : S4x128x128.Idx → EReal) (x5 : S128x256.Idx → EReal) (x : S128x256.Idx) (y : S512x256.Idx)
    (hy0 : (y 0 : Nat) = o + (x 0 : Nat)) (hy1 : (y 1 : Nat) = (x 1 : Nat)) :
    chunk o h0 h1 h2 (k0_pay1 (F := Ideal) x0) (VN x1 x3) (k0_pay11 (F := Ideal) x2) (k0_pay14 (F := Ideal) (slab x4 0)) (k0_pay14 (F := Ideal) (slab x4 1))
      (k0_pay14 (F := Ideal) (slab x4 2)) (k0_pay14 (F := Ideal) (slab x4 3)) x5 x = body x0 x1 x2 x3 x4 x5 y := by
  obtain ⟨r, j, rfl⟩ : ∃ (r : Fin 128) (j : Fin 256), x = ix2 r j := ⟨x 0, x 1, funext fun a => by match a with | 0 => rfl | 1 => rfl⟩
  have bnd : o + r.val < 512 := by have := r.isLt; clear hy0 hy1; omega
  obtain rfl : y = ix2 (⟨o + r.val, bnd⟩ : Fin 512) j := funext fun a => Fin.ext (by
    match a with
    | 0 => exact hy0
    | 1 => exact hy1)
  refine (chunk_apply o ho h0 h1 h2 _ _ _ _ _ _ _ x5 r j).trans ?_
  have er : (⟨(o + r.val) % 128, by omega⟩ : Fin 128) = r := Fin.ext (by show (o + r.val) % 128 = r.val; omega)
  have ek : ∀ k : Fin 128, (⟨(o + r.val) / 128 * 128 + k.val, by omega⟩ : Fin 512) = (⟨o + k.val, by omega⟩ : Fin 512) := fun k =>
    Fin.ext (by show (o + r.val) / 128 * 128 + k.val = o + k.val; omega)
  show _ = gelu (x0 (ix2 (⟨o + r.val, by omega⟩ : Fin 512) j)) * ((∑ k : Fin 128, tri (fun r k => x4 (ix3 (hd j) r k)) (⟨(o + r.val) % 128, by omega⟩ : Fin 128) k
      * VN x1 x3 (ix2 (⟨(o + r.val) / 128 * 128 + k.val, by omega⟩ : Fin 512) j))
    + x5 (ix2 (⟨(o + r.val) % 128, by omega⟩ : Fin 128) j)) * k0_pay11 (F := Ideal) x2 (ix2 (⟨o + r.val, by omega⟩ : Fin 512) j)
  rw [er, Finset.sum_congr rfl fun k _ => congrArg (fun t => tri (fun r k => x4 (ix3 (hd j) r k)) r k * VN x1 x3 (ix2 t j)) (ek k)]
  rw [Finset.sum_congr rfl fun k _ => congrArg (fun t => t * VN x1 x3 (ix2 (⟨o + k.val, by omega⟩ : Fin 512) j)) (pick_apply x4 (hd j) r k)]
  rfl

section
variable (u vn z : FVec Ideal S512x256 .f32) (w0 w1 w2 w3 : FVec Ideal S128x128 .bf16) (s0 s1 s2 s3 : FVec Ideal S1x128x128 .f32) (b : FVec Ideal S128x256 .f32)

theorem pay19_eq : k0_pay19 (F := Ideal) u vn z k0_pay12 k0_pay13 (k0_pay14 s0) (k0_pay15 s1) s2 s3 b
    = chunk 0 slices_S512x256_o0_0_S128x128 slices_S512x256_o0_128_S128x128 slices_S512x256_o0_0_S128x256 u vn z (k0_pay14 s0) (k0_pay14 s1) (k0_pay14 s2) (k0_pay14 s3) b := by
  unfold k0_pay19 chunk pair; rfl

theorem pay20_eq : k0_pay20 (F := Ideal) u vn z k0_pay13 w0 w1 w2 w3 b
    = chunk 128 slices_S512x256_o128_0_S128x128 slices_S512x256_o128_128_S128x128 slices_S512x256_o128_0_S128x256 u vn z w0 w1 w2 w3 b := by
  unfold k0_pay20 chunk pair; rfl

theorem pay24_eq : k0_pay24 (F := Ideal) u z k0_pay13 w2 w3 b (k0_pay21 vn k0_pay13 w0 w1) (k0_pay22 vn) k0_pay23
    = chunk 256 slices_S512x256_o256_0_S128x128 slices_S512x256_o256_128_S128x128 slices_S512x256_o256_0_S128x256 u vn z w0 w1 w2 w3 b := by
  unfold k0_pay24 k0_pay21 k0_pay22 k0_pay23 chunk pair; rfl

theorem pay25_eq : k0_pay25 (F := Ideal) u vn z k0_pay13 w0 w1 w2 w3 b
    = chunk 384 slices_S512x256_o384_0_S128x128 slices_S512x256_o384_128_S128x128 slices_S512x256_o384_0_S128x256 u vn z w0 w1 w2 w3 b := by
  unfold k0_pay25 chunk pair; rfl

theorem pay16_eq : k0_pay16 (F := Ideal) k0_pay12 (k0_pay15 s1) = k0_pay14 s1 := rfl
theorem pay17_eq : k0_pay17 (F := Ideal) k0_pay12 s1 = k0_pay14 s1 := rfl
theorem pay18_eq : k0_pay18 (F := Ideal) k0_pay12 s1 = k0_pay14 s1 := rfl
end

/-- The body stores its result chunk by chunk. -/
theorem pieces_ok (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S4x128x128 .f32) (harg5 : arg5.IsWhole) (arg6 : Memref sig .tc .vmem S128x256 .f32) (harg6 : arg6.IsWhole) (arg7 : Memref sig .tc .vmem S512x256 .bf16) (harg7 : arg7.IsWhole)
    (x0 x1 x2 : Vec Ideal S512x256 .f32) (x3 : Vec Ideal S1x256 .f32) (x4 : Vec Ideal S4x128x128 .f32) (x5 : Vec Ideal S128x256 .f32) :
    ∀ p ∈ (kernelRun0_A c i arg1 harg1 arg2 harg2 arg3 harg3 arg4 harg4 arg5 harg5 arg6 harg6 arg7 harg7 x0 x1 x2 x3 x4 x5).1, Ok (body x0 x1 x2 x3 x4 x5) p := by
  have e0 : View.readAt (Elt Ideal) arg1.view (Rect.unit (s := S512x256) ![0, 0] S512x256.size inb_S512x256_S512x256_0_0).toLoadRect (harg1.unread x0) = x0 := by
    rw [View.readAt_eq_ld, harg1.read_unread, View.ld_unit_zero hz2]
  have e1 : View.readAt (Elt Ideal) arg2.view (Rect.unit (s := S512x256) ![0, 0] S512x256.size inb_S512x256_S512x256_0_0).toLoadRect (harg2.unread x1) = x1 := by
    rw [View.readAt_eq_ld, harg2.read_unread, View.ld_unit_zero hz2]
  have e2 : View.readAt (Elt Ideal) arg3.view (Rect.unit (s := S512x256) ![0, 0] S512x256.size inb_S512x256_S512x256_0_0).toLoadRect (harg3.unread x2) = x2 := by
    rw [View.readAt_eq_ld, harg3.read_unread, View.ld_unit_zero hz2]
  have e3 : View.readAt (Elt Ideal) arg4.view (Rect.unit (s := S1x256) ![0, 0] S1x256.size inb_S1x256_S1x256_0_0).toLoadRect (harg4.unread x3) = x3 := by
    rw [View.readAt_eq_ld, harg4.read_unread, View.ld_unit_zero hz2]
  have e5 : View.readAt (Elt Ideal) arg6.view (Rect.unit (s := S128x256) ![0, 0] S128x256.size inb_S128x256_S128x256_0_0).toLoadRect (harg6.unread x5) = x5 := by
    rw [View.readAt_eq_ld, harg6.read_unread, View.ld_unit_zero hz2]
  have w0 : View.readAt (Elt Ideal) arg5.view (Rect.unit (s := S4x128x128) ![0, 0, 0] S1x128x128.size inb_S4x128x128_S1x128x128_0_0_0).toLoadRect (harg5.unread x4) = slab x4 0 := by
    rw [View.readAt_eq_ld, harg5.read_unread]
    exact funext fun i => congrArg x4 (funext fun a => Fin.ext (by
      have hz : (i 0 : Nat) < 1 := (i 0).isLt
      match a with
      | 0 => show 0 + 1 * (i 0 : Nat) = 0; omega
      | 1 => show 0 + 1 * (i 1 : Nat) = (i 1 : Nat); omega
      | 2 => show 0 + 1 * (i 2 : Nat) = (i 2 : Nat); omega))
  have w1 : View.readAt (Elt Ideal) arg5.view (Rect.unit (s := S4x128x128) ![1, 0, 0] S1x128x128.size inb_S4x128x128_S1x128x128_1_0_0).toLoadRect (harg5.unread x4) = slab x4 1 := by
    rw [View.readAt_eq_ld, harg5.read_unread]
    exact funext fun i => congrArg x4 (funext fun a => Fin.ext (by
      have hz : (i 0 : Nat) < 1 := (i 0).isLt
      match a with
      | 0 => show 1 + 1 * (i 0 : Nat) = 1; omega
      | 1 => show 0 + 1 * (i 1 : Nat) = (i 1 : Nat); omega
      | 2 => show 0 + 1 * (i 2 : Nat) = (i 2 : Nat); omega))
  have w2 : View.readAt (Elt Ideal) arg5.view (Rect.unit (s := S4x128x128) ![2, 0, 0] S1x128x128.size inb_S4x128x128_S1x128x128_2_0_0).toLoadRect (harg5.unread x4) = slab x4 2 := by
    rw [View.readAt_eq_ld, harg5.read_unread]
    exact funext fun i => congrArg x4 (funext fun a => Fin.ext (by
      have hz : (i 0 : Nat) < 1 := (i 0).isLt
      match a with
      | 0 => show 2 + 1 * (i 0 : Nat) = 2; omega
      | 1 => show 0 + 1 * (i 1 : Nat) = (i 1 : Nat); omega
      | 2 => show 0 + 1 * (i 2 : Nat) = (i 2 : Nat); omega))
  have w3 : View.readAt (Elt Ideal) arg5.view (Rect.unit (s := S4x128x128) ![3, 0, 0] S1x128x128.size inb_S4x128x128_S1x128x128_3_0_0).toLoadRect (harg5.unread x4) = slab x4 3 := by
    rw [View.readAt_eq_ld, harg5.read_unread]
    exact funext fun i => congrArg x4 (funext fun a => Fin.ext (by
      have hz : (i 0 : Nat) < 1 := (i 0).isLt
      match a with
      | 0 => show 3 + 1 * (i 0 : Nat) = 3; omega
      | 1 => show 0 + 1 * (i 1 : Nat) = (i 1 : Nat); omega
      | 2 => show 0 + 1 * (i 2 : Nat) = (i 2 : Nat); omega))
  unfold kernelRun0_A
  simp only [List.forall_mem_cons]
  unfold kernelRun0_A.sl.r_18 kernelRun0_A.sl.r_15 kernelRun0_A.sl.r_16 kernelRun0_A.sl.r_17 kernelRun0_A.sl.r_11 kernelRun0_A.sl.r_7
    kernelRun0_A.sl.r_4 kernelRun0_A.sl.r_5 kernelRun0_A.sl.r_6 kernelRun0_A.sl.r_3
    kernelRun0_A.sl.r_8 kernelRun0_A.sl.r_9 kernelRun0_A.sl.r_10 kernelRun0_A.sl.r_12 kernelRun0_A.sl.r_13 kernelRun0_A.sl.r_14
    kernelRun0_A.sl.r kernelRun0_A.sl.r_1 kernelRun0_A.sl.r_2
  rw [e0, e1, e2, e3, e5, w0, w1, w2, w3, pay16_eq, pay17_eq, pay18_eq, pay19_eq, pay20_eq, pay24_eq, pay25_eq]
  refine ⟨fun x => ?_, fun x => ?_, fun x => ?_, fun x => ?_, fun p hp => absurd hp List.not_mem_nil⟩
  · exact chunk_ok 384 (by omega) (by omega) _ _ _ (by decide) x0 x1 x2 x3 x4 x5 x _ (by show 384 + 1 * (x 0 : Nat) = 384 + (x 0 : Nat); omega) (by show 0 + 1 * (x 1 : Nat) = (x 1 : Nat); omega)
  · exact chunk_ok 256 (by omega) (by omega) _ _ _ (by decide) x0 x1 x2 x3 x4 x5 x _ (by show 256 + 1 * (x 0 : Nat) = 256 + (x 0 : Nat); omega) (by show 0 + 1 * (x 1 : Nat) = (x 1 : Nat); omega)
  · exact chunk_ok 128 (by omega) (by omega) _ _ _ (by decide) x0 x1 x2 x3 x4 x5 x _ (by show 128 + 1 * (x 0 : Nat) = 128 + (x 0 : Nat); omega) (by show 0 + 1 * (x 1 : Nat) = (x 1 : Nat); omega)
  · exact chunk_ok 0 (by omega) (by omega) _ _ _ (by decide) x0 x1 x2 x3 x4 x5 x _ (by show 0 + 1 * (x 0 : Nat) = 0 + (x 0 : Nat); omega) (by show 0 + 1 * (x 1 : Nat) = (x 1 : Nat); omega)

/-- What the result array is shown to hold: the reference's value of the arguments. -/
abbrev G (c : Dev nD) : S32768x256.Idx → EReal :=
  Cert.Reference5Ideal.Read.val_main_v62 (F := Ideal) (m ((c : Thread nD τ).loc main_arg0)) (m ((c : Thread nD τ).loc main_arg1))
    (m ((c : Thread nD τ).loc main_arg2)) (m ((c : Thread nD τ).loc main_arg3))

/-- Row `r` of point `t`'s blocks, in the arrays, its chunk and its place in the chunk. -/
def row (t : Fin cfg0.N) (r : Fin 512) : Fin 32768 := ⟨t.val * 512 + r.val, by
  have := t.isLt; have e : cfg0.N = 64 := N_0; omega⟩
def chk (t : Fin cfg0.N) (r : Fin 512) : Fin 256 := ⟨t.val * 4 + r.val / 128, by
  have := t.isLt; have e : cfg0.N = 64 := N_0; omega⟩

theorem index_0 (t : Fin cfg0.N) : win0_0.index t 0 = t.val ∧ win0_0.index t 1 = 0 := by revert t; decide +kernel
theorem index_1 (t : Fin cfg0.N) : win0_1.index t 0 = t.val ∧ win0_1.index t 1 = 1 := by revert t; decide +kernel
theorem index_2 (t : Fin cfg0.N) : win0_2.index t 0 = t.val ∧ win0_2.index t 1 = 2 := by revert t; decide +kernel
theorem index_3 (t : Fin cfg0.N) : win0_3.index t 0 = 0 ∧ win0_3.index t 1 = 0 := by revert t; decide +kernel
theorem index_4 (t : Fin cfg0.N) : win0_4.index t 0 = 0 ∧ win0_4.index t 1 = 0 ∧ win0_4.index t 2 = 0 := by revert t; decide +kernel
theorem index_5 (t : Fin cfg0.N) : win0_5.index t 0 = 0 ∧ win0_5.index t 1 = 0 := by revert t; decide +kernel
theorem index_6 (t : Fin cfg0.N) : win0_6.index t 0 = t.val ∧ win0_6.index t 1 = 0 := by revert t; decide +kernel

theorem blk_0 (c : Dev nD) (t : Fin cfg0.N) (r : Fin 512) (k : Fin 256) :
    X0_0 m c t (ix2 r k) = m ((c : Thread nD τ).loc main_arg0) (ix2 (row t r) (⟨k.val, by omega⟩ : Fin 4736)) := by
  unfold X0_0 Pipeline.Window.fill
  rw [dif_pos (moved0_0 t (ix2 r k))]
  refine congrArg (m ((c : Thread nD τ).loc main_arg0)) (funext fun a => Fin.ext ?_)
  match a with
  | 0 => exact (Pipeline.Window.rect_emb_val win0_0 t _ 0).trans (congrArg (· * 512 + r.val) (index_0 t).1)
  | 1 => exact (Pipeline.Window.rect_emb_val win0_0 t _ 1).trans ((congrArg (· * 256 + k.val) (index_0 t).2).trans (by show 0 * 256 + k.val = k.val; omega))

theorem blk_1 (c : Dev nD) (t : Fin cfg0.N) (r : Fin 512) (k : Fin 256) :
    X0_1 m c t (ix2 r k) = m ((c : Thread nD τ).loc main_arg0) (ix2 (row t r) (⟨256 + k.val, by omega⟩ : Fin 4736)) := by
  unfold X0_1 Pipeline.Window.fill
  rw [dif_pos (moved0_1 t (ix2 r k))]
  refine congrArg (m ((c : Thread nD τ).loc main_arg0)) (funext fun a => Fin.ext ?_)
  match a with
  | 0 => exact (Pipeline.Window.rect_emb_val win0_1 t _ 0).trans (congrArg (· * 512 + r.val) (index_1 t).1)
  | 1 => exact (Pipeline.Window.rect_emb_val win0_1 t _ 1).trans ((congrArg (· * 256 + k.val) (index_1 t).2).trans (by show 1 * 256 + k.val = 256 + k.val; omega))

theorem blk_2 (c : Dev nD) (t : Fin cfg0.N) (r : Fin 512) (k : Fin 256) :
    X0_2 m c t (ix2 r k) = m ((c : Thread nD τ).loc main_arg0) (ix2 (row t r) (⟨512 + k.val, by omega⟩ : Fin 4736)) := by
  unfold X0_2 Pipeline.Window.fill
  rw [dif_pos (moved0_2 t (ix2 r k))]
  refine congrArg (m ((c : Thread nD τ).loc main_arg0)) (funext fun a => Fin.ext ?_)
  match a with
  | 0 => exact (Pipeline.Window.rect_emb_val win0_2 t _ 0).trans (congrArg (· * 512 + r.val) (index_2 t).1)
  | 1 => exact (Pipeline.Window.rect_emb_val win0_2 t _ 1).trans ((congrArg (· * 256 + k.val) (index_2 t).2).trans (by show 2 * 256 + k.val = 512 + k.val; omega))

theorem blk_3 (c : Dev nD) (t : Fin cfg0.N) (r : Fin 1) (k : Fin 256) :
    iblk m c 3 t (ix2 r k) = m ((c : Thread nD τ).loc main_arg1) (ix2 r k) := by
  refine congrArg (m ((c : Thread nD τ).loc main_arg1)) (funext fun a => Fin.ext ?_)
  match a with
  | 0 => exact Pipeline.Window.rect_emb_val_of_index_zero win0_3 t 0 (index_3 t).1 (ix2 r k)
  | 1 => exact Pipeline.Window.rect_emb_val_of_index_zero win0_3 t 1 (index_3 t).2 (ix2 r k)

theorem blk_5 (c : Dev nD) (t : Fin cfg0.N) (r : Fin 128) (k : Fin 256) :
    iblk m c 5 t (ix2 r k) = m ((c : Thread nD τ).loc main_arg3) (ix2 r k) := by
  refine congrArg (m ((c : Thread nD τ).loc main_arg3)) (funext fun a => Fin.ext ?_)
  match a with
  | 0 => exact Pipeline.Window.rect_emb_val_of_index_zero win0_5 t 0 (index_5 t).1 (ix2 r k)
  | 1 => exact Pipeline.Window.rect_emb_val_of_index_zero win0_5 t 1 (index_5 t).2 (ix2 r k)

theorem blk_4 (c : Dev nD) (t : Fin cfg0.N) (h : Fin 4) (r k : Fin 128) :
    iblk m c 4 t (ix3 h r k) = m ((c : Thread nD τ).loc main_arg2) (ix3 h r k) := by
  refine congrArg (m ((c : Thread nD τ).loc main_arg2)) (funext fun a => Fin.ext ?_)
  match a with
  | 0 => exact Pipeline.Window.rect_emb_val_of_index_zero win0_4 t 0 (index_4 t).1 (ix3 h r k)
  | 1 => exact Pipeline.Window.rect_emb_val_of_index_zero win0_4 t 1 (index_4 t).2.1 (ix3 h r k)
  | 2 => exact Pipeline.Window.rect_emb_val_of_index_zero win0_4 t 2 (index_4 t).2.2 (ix3 h r k)

/-- Where the output block's place lies in the result array. -/
theorem emb_6 (t : Fin cfg0.N) (r : Fin 512) (n : Fin 256) : (win0_6.rect t).emb (ix2 r n) = ix2 (row t r) n := by
  refine funext fun a => Fin.ext ?_
  match a with
  | 0 => exact (Pipeline.Window.rect_emb_val win0_6 t (ix2 r n) 0).trans (congrArg (· * 512 + r.val) (index_6 t).1)
  | 1 => exact Pipeline.Window.rect_emb_val_of_index_zero win0_6 t 1 (index_6 t).2 (ix2 r n)

/-- What a point writes back is its block of the reference's value. -/
theorem flushed_eq (hp : Cert.Pre_Kernel5Ideal_gating_values m) (c : Dev nD) (t : Fin cfg0.N) :
    (dats m 0 c).flushed 6 t = ((cfg0.win 6).blk t).view.read (Elt Ideal) (G m c) := by
  rw [Value.flushed6_A m c t]
  unfold out0_A_6
  rw [View.read_writes_junk_eq_canon]
  funext j
  obtain ⟨r, n, rfl⟩ : ∃ (r : Fin 512) (n : Fin 256), j = ix2 r n := ⟨j 0, j 1, funext fun a => by match a with | 0 => rfl | 1 => rfl⟩
  refine (canon_ok _ (ix2 r n) _ (pieces_ok c _ _ _ _ _ _ _ _ _ _ _ _ _ _ _ _ _ _ _ _ _) (cover0_A_6 c _ _ _ _ _ _ _ _ _ _ _ _ _ _ _ _ _ _ _ _ _ (ix2 r n))).trans ?_
  refine Eq.trans ?_ (congrArg (G m c) (emb_6 t r n)).symm
  have hrow : (row t r).val = (chk t r).val * 128 + r.val % 128 := by
    show t.val * 512 + r.val = (t.val * 4 + r.val / 128) * 128 + r.val % 128; omega
  refine Eq.trans ?_ (Cert.Reference5Ideal.SG.ref_apply _ _ _ _ (chk t r) (⟨r.val % 128, by omega⟩ : Fin 128) n (row t r) hrow).symm
  have ev : ∀ k : Fin 128, VN (X0_1 m c t) (iblk m c 3 t) (ix2 (⟨r.val / 128 * 128 + k.val, by omega⟩ : Fin 512) n)
      = hrms (head (fun i => gelu (m ((c : Thread nD τ).loc main_arg0) (ix2 (⟨(chk t r).val * 128 + k.val, by omega⟩ : Fin 32768) (⟨256 + i.val, by omega⟩ : Fin 4736)))) (hd n))
          (m ((c : Thread nD τ).loc main_arg1) (ix2 0 n)) (lane n) := fun k => by
    have hr : row t (⟨r.val / 128 * 128 + k.val, by omega⟩ : Fin 512) = (⟨(chk t r).val * 128 + k.val, by omega⟩ : Fin 32768) :=
      Fin.ext (by show t.val * 512 + (r.val / 128 * 128 + k.val) = (t.val * 4 + r.val / 128) * 128 + k.val; omega)
    refine (VN_apply _ _ _ n fun i => ?_).trans ?_
    · obtain ⟨a, ha⟩ := Cert.Reference5Ideal.SG.values _ _ _ _ (hp c) (row t (⟨r.val / 128 * 128 + k.val, by omega⟩ : Fin 512)) i
      exact ⟨a, (blk_1 m c t _ i).trans ha⟩
    · rw [funext fun i => congrArg gelu (blk_1 m c t _ i), blk_3 m c t 0 n, hr]
  show gelu (X0_0 m c t (ix2 r n)) * ((∑ k : Fin 128, tri (fun r k => iblk m c 4 t (ix3 (hd n) r k)) (⟨r.val % 128, by omega⟩ : Fin 128) k
      * VN (X0_1 m c t) (iblk m c 3 t) (ix2 (⟨r.val / 128 * 128 + k.val, by omega⟩ : Fin 512) n))
    + iblk m c 5 t (ix2 (⟨r.val % 128, by omega⟩ : Fin 128) n)) * k0_pay11 (F := Ideal) (X0_2 m c t) (ix2 r n) = _
  rw [Finset.sum_congr rfl fun k _ => congrArg (fun s => tri (fun r k => iblk m c 4 t (ix3 (hd n) r k)) (⟨r.val % 128, by omega⟩ : Fin 128) k * s) (ev k)]
  have ew : (fun r k : Fin 128 => iblk m c 4 t (ix3 (hd n) r k)) = fun r k => m ((c : Thread nD τ).loc main_arg2) (ix3 (hd n) r k) :=
    funext fun r => funext fun k => blk_4 m c t (hd n) r k
  have ez : ∀ x : S512x256.Idx → EReal, k0_pay11 (F := Ideal) x (ix2 r n) = x (ix2 r n) * Ideal.div 1 (1 + Ideal.exp (-x (ix2 r n))) := fun _ => rfl
  rw [ew, blk_0 m c t r n, blk_5 m c t _ n, ez, blk_2 m c t r n]
  rfl

/-- An index of the result array is in point `t`'s block when its row is one of the block's. -/
theorem mem_blk (t : Fin cfg0.N) (i : S32768x256.Idx) (h : t.val = (i 0 : Nat) / 512) :
    i ∈ ((cfg0.win 6).blk t).view.set := by
  have h0 : (i 0 : Nat) < 32768 := (i 0).isLt
  have h1 : (i 1 : Nat) < 256 := (i 1).isLt
  show i ∈ ((View.whole main_v0).slice (win0_6.rect t)).set
  rw [View.set_slice_whole, Rect.mem_set_unit]
  intro a
  match a with
  | 0 => show win0_6.index t 0 * 512 ≤ (i 0 : Nat) ∧ (i 0 : Nat) < win0_6.index t 0 * 512 + 512
         rw [(index_6 t).1]; omega
  | 1 => show win0_6.index t 1 * 256 ≤ (i 1 : Nat) ∧ (i 1 : Nat) < win0_6.index t 1 * 256 + 256
         rw [(index_6 t).2]; omega

/-- The result's blocks tile its array. -/
theorem cover (i : S32768x256.Idx) : ∃ t : Fin cfg0.N, (cfg0.win 6).flush t = true ∧ i ∈ ((cfg0.win 6).blk t).view.set := by
  have h0 : (i 0 : Nat) < 32768 := (i 0).isLt
  have hN : cfg0.N = 64 := N_0
  exact ⟨⟨(i 0 : Nat) / 512, by omega⟩, flush0_6 _, mem_blk _ i rfl⟩

/-- So the result array ends holding the reference's value. -/
theorem final (hp : Cert.Pre_Kernel5Ideal_gating_values m) (c : Dev nD) : (dats m 0 c).arrAt 6 cfg0.N = G m c :=
  (dats m 0 c).arrAt_eq_of_cover 6 (G m c) (fun t _ => flushed_eq m hp c t) cover

end Cert.Kernel5Ideal.SG

namespace Cert.Proof

open Idealize.ShloMosaic Idealize.SL.Sem Idealize.ShloMosaic.TcCoe

/-- The spatial gating unit's kernel and reference leave equal results. -/
theorem algebraic5 : Cert.algebraic_Kernel5Ideal_Reference5Ideal_pre_gating_values := by
  intro m g m' g' hp h
  refine ⟨fun c => Cert.Kernel5Ideal.SG.G m c, ?_, ?_⟩
  · exact (θ_run Cert.Kernel5Ideal.defs _ _).mono (fun r hr c => ⟨(hr c).1.trans (Cert.Kernel5Ideal.SG.final m hp c), (hr c).2⟩)
      (Cert.Kernel5Ideal.Value.run_blocks (F := Ideal) m g)
  · refine (θ_run Cert.Reference5Ideal.defs _ _).mono (fun r hr c => ⟨(hr c).1.trans ?_, (hr c).2⟩)
      (Cert.Reference5Ideal.Value.run (F := Ideal) m' g')
    obtain ⟨h0, h1, h2, h3⟩ := h c
    rw [Cert.Reference5Ideal.Read.val_main_v62_eq, h0, h1, h2, h3]

/-- The spatial gating unit's reference runs to its end, leaves its arguments and declares no semaphore. -/
theorem frame_r5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

end Cert.Proof
end
-- ==== Proof.Nr.lean ====
module

public import proofs.«01_k».proof.Proof.Hd

@[expose] public section

/-! A row over its root mean square: a real wherever the gain is one, whatever the row holds. -/

noncomputable section

namespace Cert.Fox

open Idealize.ShloMosaic hiding ix0 ix1 ix2 ix3 ix4 ix5
open Idealize.ShloMosaic.ValueIdx

/-- A row over its root mean square, times the gain, at one place. -/
def rowRms (x g : Fin 1024 → EReal) (k : Fin 1024) : EReal :=
  x k * Ideal.rsqrt (Ideal.div (∑ i : Fin 1024, x i * x i) (Ideal.ofBits .f32 0x44800000#32) + Ideal.ofBits .f32 0x358637BD#32) * g k

theorem word_1024 : Ideal.ofBits .f32 0x44800000#32 = ((1024 : ℝ) : EReal) := by
  simp [Ideal.ofBits, Ideal.ieee, -EReal.coe_mul]; norm_num

theorem word_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem square_nonneg (x : EReal) : 0 ≤ x * x := by
  induction x with
  | bot => simp
  | top => simp
  | coe r => rw [← EReal.coe_mul]; exact EReal.coe_nonneg.mpr (mul_self_nonneg r)

theorem real_of_square (x : EReal) (h : x * x ≠ ⊤) : ∃ r : ℝ, x = r := by
  induction x with
  | bot => exact absurd (by simp) h
  | top => exact absurd (by simp) h
  | coe r => exact ⟨r, rfl⟩

/-- An infinite entry makes the root mean square infinite, and the row over it zero. -/
theorem rowRms_real (x g : Fin 1024 → EReal) (k : Fin 1024) (hg : ∃ r : ℝ, g k = r) : ∃ r : ℝ, rowRms x g k = r := by
  obtain ⟨e, he, ee⟩ := word_eps
  obtain ⟨b, hb⟩ := hg
  unfold rowRms
  rw [word_1024, ee, hb]
  have hle : x k * x k ≤ ∑ i : Fin 1024, x i * x i := Finset.single_le_sum (f := fun i => x i * x i) (fun i _ => square_nonneg (x i)) (Finset.mem_univ k)
  have h0 : 0 ≤ ∑ i : Fin 1024, x i * x i := Finset.sum_nonneg fun i _ => square_nonneg (x i)
  generalize ∑ i : Fin 1024, x i * x i = s at hle h0
  unfold Ideal.div
  rw [if_neg (by exact_mod_cast (by norm_num : (1024 : ℝ) ≠ 0)), ← EReal.coe_inv]
  induction s with
  | bot => exact absurd h0 (by simp)
  | top =>
    refine ⟨0, ?_⟩
    rw [EReal.top_mul_coe_of_pos (by norm_num), EReal.top_add_coe]
    show x k * 0 * (b : EReal) = _
    rw [mul_zero, zero_mul, EReal.coe_zero]
  | coe s =>
    obtain ⟨a, ha⟩ := real_of_square (x k) (ne_top_of_le_ne_top (EReal.coe_ne_top s) hle)
    have hs : 0 ≤ s := EReal.coe_nonneg.mp h0
    have hp : 0 < s * (1024 : ℝ)⁻¹ + e := add_pos_of_nonneg_of_pos (mul_nonneg hs (by norm_num)) he
    rw [ha, ← EReal.coe_mul, ← EReal.coe_add]
    have er : Ideal.rsqrt ((s * (1024 : ℝ)⁻¹ + e : ℝ) : EReal) = (((Real.sqrt (s * (1024 : ℝ)⁻¹ + e))⁻¹ : ℝ) : EReal) := by
      show (if s * (1024 : ℝ)⁻¹ + e < 0 then (⊥ : EReal) else if s * (1024 : ℝ)⁻¹ + e = 0 then ⊤ else (((Real.sqrt (s * (1024 : ℝ)⁻¹ + e))⁻¹ : ℝ) : EReal)) = _
      rw [if_neg (not_lt.mpr hp.le), if_neg hp.ne']
    rw [er, ← EReal.coe_mul, ← EReal.coe_mul]
    exact ⟨_, rfl⟩

/-- Sums of products of reals are reals. -/
theorem dot_real {n : ℕ} (f g : Fin n → EReal) (hf : ∀ k, ∃ r : ℝ, f k = r) (hg : ∀ k, ∃ r : ℝ, g k = r) : ∃ r : ℝ, ∑ k : Fin n, f k * g k = r := by
  choose a ha using hf
  choose b hb using hg
  refine ⟨∑ k : Fin n, a k * b k, ?_⟩
  have e : ∀ k, f k * g k = ((a k * b k : ℝ) : EReal) := fun k => by rw [ha, hb, EReal.coe_mul]
  rw [Finset.sum_congr rfl fun k _ => e k]
  induction (Finset.univ : Finset (Fin n)) using Finset.induction_on with
  | empty => rw [Finset.sum_empty, Finset.sum_empty, EReal.coe_zero]
  | insert i t hi ih => rw [Finset.sum_insert hi, Finset.sum_insert hi, EReal.coe_add, ih]

end Cert.Fox
end
-- ==== Proof.MK.Pay.lean ====
module

public import proofs.«01_k».proof.Defs
public import proofs.«01_k».proof.Proof.Gen.Kernel6Ideal.Value
public import proofs.«01_k».proof.Proof.Mm
public import proofs.«01_k».proof.Proof.Nr

@[expose] public section

set_option maxRecDepth 16384

/-! The memory's keys and values: what the body computes from its blocks, at one place. -/

noncomputable section

namespace Cert.Kernel6Ideal.MK

open Cert.Kernel6Ideal Cert.Kernel6Ideal.Gen Cert.Fox
open Idealize.ShloMosaic hiding ix0 ix1 ix2 ix3 ix4 ix5
open Idealize.ShloMosaic.ValueIdx Idealize.ShloMosaic.TcCoe Idealize.SL.Sem

/-- One place of the product of a normalised row with the weights. -/
def mix (x g : Fin 1024 → EReal) (w : Fin 1024 → EReal) : EReal := ∑ k : Fin 1024, rowRms x g k * w k

/-- One place of the keys: the heads of the product, normalised. -/
def key (x g : Fin 1024 → EReal) (w : Fin 1024 → Fin 256 → EReal) (kg : Fin 256 → EReal) (j : Fin 256) : EReal :=
  hrms (head (fun i => mix x g (fun k => w k i)) (hd j)) (kg j) (lane j)

/-- The body's product. -/
theorem pay3_apply (x : S256x1024.Idx → EReal) (g : S1x1024.Idx → EReal) (w : S1024x512.Idx → EReal) (r : Fin 256) (n : Fin 512) :
    k0_pay3 (F := Ideal) x g w (ix2 r n) = mix (fun i => x (ix2 r i)) (fun i => g (ix2 0 i)) (fun k => w (ix2 k n)) := by
  have e : ∀ k : Fin 1024, broadcastTo S256x1024 (rsqrt (F := Ideal) (φ := .f32) (addf (F := Ideal) (φ := .f32) (divf (F := Ideal) (φ := .f32) (shapeCast S256x1 (multiReduction (F := Ideal) .add [1] S256 (mulf (F := Ideal) (φ := .f32) x x) 0x00000000#32 reduces_S256x1024_S256 (.inl rfl) rfl) shapeCasts_S256_S256x1)
      (broadcast S256x1 (Scalar.ofBits (F := Ideal) .f32 0x44800000#32))) (broadcast S256x1 (Scalar.ofBits (F := Ideal) .f32 0x358637BD#32)))) broadcasts_S256x1_S256x1024 (ix2 r k)
      = Ideal.rsqrt (Ideal.div (∑ i : Fin 1024, x (ix2 r i) * x (ix2 r i)) (Ideal.ofBits .f32 0x44800000#32) + Ideal.ofBits .f32 0x358637BD#32) := fun k => by
    refine (broadcastTo_apply _ broadcasts_S256x1_S256x1024 (ix2 r k) (ix2 r (0 : Fin 1)) ?_).trans ?_
    · intro a; match a with
      | 0 => rfl
      | 1 => rfl
    · refine congrArg (fun t => Ideal.rsqrt (Ideal.div t (Ideal.ofBits .f32 0x44800000#32) + Ideal.ofBits .f32 0x358637BD#32)) ?_
      refine (shapeCast_apply _ shapeCasts_S256_S256x1 (ix2 r (0 : Fin 1)) (ix1 r) ?_).trans ?_
      · rw [rowMajor_val1 (ix1 r), rowMajor_val2 (ix2 r (0 : Fin 1)) 1 rfl]
        show r.val = r.val * 1 + 0
        omega
      · refine (Ideal.multiReduction_add_single _ _ reduces_S256x1024_S256 (.inl rfl) rfl (ix1 r)).trans (Finset.sum_congr rfl fun i _ => ?_)
        have el : reduces_S256x1024_S256.lift (ix1 r) i = ix2 r i := funext fun a => by match a with | 0 => rfl | 1 => rfl
        rw [el]; rfl
  have e' : ∀ k : Fin 1024, broadcastTo S256x1024 g broadcasts_S1x1024_S256x1024 (ix2 r k) = g (ix2 0 k) := fun k => rows_apply g broadcasts_S1x1024_S256x1024 r k
  refine (matmul_plain_zero (φ₁ := .bf16) (φ₂ := .bf16) dot_S256x1024_S1024x512_S256x512_1_0_0_1_n_n rfl none _ w (ix2 r n)).trans (Finset.sum_congr rfl fun k _ => ?_)
  exact congrArg (· * w (ix2 k n)) (congr (congrArg (HMul.hMul (α := EReal)) (congrArg (HMul.hMul (α := EReal) (x (ix2 r k))) (e k))) (e' k))

/-- Which columns share a head, as the body has it. -/
abbrev B : S256x256.Idx → EReal := fun i =>
  FloatOps.sitofp (F := Ideal) .f32 ((IntOp.cmpi .eq (quot64 (iota .tc S256x256 32 [0] iota_S256x256_d0_w32 i)) (quot64 (iota .tc S256x256 32 [1] iota_S256x256_d1_w32 i))).zeroExtend 32)

theorem B_apply (k j : Fin 256) : B (ix2 k j) = if k.val / 64 = j.val / 64 then 1 else 0 := by
  refine Eq.trans ?_ (same_head_real k j)
  unfold B
  rw [iota_single_apply, iota_single_apply]

/-- The body's normalised heads. -/
theorem pay9_apply (x : S256x256.Idx → EReal) (g : S1x256.Idx → EReal) (r : Fin 256) (j : Fin 256) (hx : ∀ k, ∃ a : ℝ, x (ix2 r k) = a) :
    k0_pay9 (F := Ideal) x g (mulf (F := Ideal) (φ := .f32) x x) k0_pay6 k0_pay7 k0_pay8 (ix2 r j) = hrms (head (fun k => x (ix2 r k)) (hd j)) (g (ix2 0 j)) (lane j) := by
  refine Eq.trans ?_ (rms_apply (fun k => x (ix2 r k)) hx (fun k => B (ix2 k j)) (g (ix2 0 j)) j (fun k => B_apply k j))
  have e1 := matmul_plain_zero (φ₁ := .bf16) (φ₂ := .bf16) dot_S256x256_S256x256_S256x256_1_0_0_1_n_n rfl none (fun i => x i * x i) B (ix2 r j)
  have e2 := matmul_plain_zero (φ₁ := .bf16) (φ₂ := .bf16) dot_S256x256_S256x256_S256x256_1_0_0_1_n_n rfl none (fun i => x i * x i - x i * x i) B (ix2 r j)
  have e3 := rows_apply g broadcasts_S1x256_S256x256 r j
  show x (ix2 r j) * Ideal.rsqrt ((matmul (F := Ideal) (φ₁ := .bf16) (φ₂ := .bf16) dot_S256x256_S256x256_S256x256_1_0_0_1_n_n none (fun i => x i * x i) B (constant S256x256 .f32 0x00000000#32) (ix2 r j)
      + matmul (F := Ideal) (φ₁ := .bf16) (φ₂ := .bf16) dot_S256x256_S256x256_S256x256_1_0_0_1_n_n none (fun i => x i * x i - x i * x i) B (constant S256x256 .f32 0x00000000#32) (ix2 r j))
        * Ideal.ofBits .f32 0x3C800000#32 + Ideal.ofBits .f32 0x358637BD#32)
      * broadcastTo S256x256 g broadcasts_S1x256_S256x256 (ix2 r j) = _
  rw [e1, e2, e3]

/-- The key columns of a block of the product. -/
theorem cut_apply (v : S256x512.Idx → EReal) (r i : Fin 256) :
    extractStridedSlice S256x256 ![0, 0] v slices_S256x512_o0_0_S256x256 (ix2 r i) = v (ix2 r (⟨i.val, by omega⟩ : Fin 512)) :=
  extractStridedSlice_apply ![0, 0] v slices_S256x512_o0_0_S256x256 (ix2 r i) (ix2 r (⟨i.val, by omega⟩ : Fin 512)) fun a => by
    match a with
    | 0 => exact (Nat.zero_add _).symm
    | 1 => exact (Nat.zero_add _).symm

/-- The keys as the body has them. -/
theorem E4_apply (x : S256x1024.Idx → EReal) (g : S1x1024.Idx → EReal) (w : S1024x512.Idx → EReal) (kg : S1x256.Idx → EReal) (r j : Fin 256)
    (hg : ∀ k, ∃ a : ℝ, g (ix2 0 k) = a) (hw : ∀ (k : Fin 1024) (i : Fin 256), ∃ a : ℝ, w (ix2 k (⟨i.val, by omega⟩ : Fin 512)) = a) :
    Value.E4 (F := Ideal) x g w kg (ix2 r j)
      = key (fun i => x (ix2 r i)) (fun i => g (ix2 0 i)) (fun k i => w (ix2 k (⟨i.val, by omega⟩ : Fin 512))) (fun i => kg (ix2 0 i)) j := by
  have es : ∀ i : Fin 256, extractStridedSlice S256x256 ![0, 0] (k0_pay3 (F := Ideal) x g w) slices_S256x512_o0_0_S256x256 (ix2 r i)
      = mix (fun i => x (ix2 r i)) (fun i => g (ix2 0 i)) (fun k => w (ix2 k (⟨i.val, by omega⟩ : Fin 512))) := fun i =>
    (cut_apply (k0_pay3 (F := Ideal) x g w) r i).trans (pay3_apply x g w r (⟨i.val, by omega⟩ : Fin 512))
  have hs : ∀ i : Fin 256, ∃ a : ℝ, extractStridedSlice S256x256 ![0, 0] (k0_pay3 (F := Ideal) x g w) slices_S256x512_o0_0_S256x256 (ix2 r i) = a := fun i => by
    obtain ⟨a, ha⟩ := dot_real (rowRms (fun i => x (ix2 r i)) (fun i => g (ix2 0 i))) (fun k => w (ix2 k (⟨i.val, by omega⟩ : Fin 512)))
      (fun k => rowRms_real _ _ k (hg k)) (fun k => hw k i)
    exact ⟨a, (es i).trans ha⟩
  have ey : Value.ix4_0 (ix2 r j) = ix2 r j := funext fun a => by match a with | 0 => rfl | 1 => rfl
  show k0_pay9 (F := Ideal) _ kg _ k0_pay6 k0_pay7 k0_pay8 (Value.ix4_0 (ix2 r j)) = _
  rw [ey]
  refine (pay9_apply _ kg r j hs).trans ?_
  rw [funext es]
  rfl

/-- The values as the body has them. -/
theorem E5_apply (x : S256x1024.Idx → EReal) (g : S1x1024.Idx → EReal) (w : S1024x512.Idx → EReal) (r j : Fin 256) :
    Value.E5 (F := Ideal) x g w (ix2 r j) = mix (fun i => x (ix2 r i)) (fun i => g (ix2 0 i)) (fun k => w (ix2 k (⟨256 + j.val, by omega⟩ : Fin 512))) := by
  have ey : Value.ix5_0 (ix2 r j) = ix2 r (⟨256 + j.val, by omega⟩ : Fin 512) := funext fun a => Fin.ext (by
    match a with
    | 0 => rfl
    | 1 => exact Nat.add_comm _ _)
  show k0_pay3 (F := Ideal) x g w (Value.ix5_0 (ix2 r j)) = _
  rw [ey]
  exact pay3_apply x g w r _

end Cert.Kernel6Ideal.MK
end
-- ==== Proof.MK.Ref.lean ====
module

public import proofs.«01_k».proof.Proof.MK.Pay
public import proofs.«01_k».proof.Proof.KV.Pre
public import proofs.«01_k».proof.Proof.Gen.Reference6Ideal.Run
public import proofs.«01_k».proof.Proof.Gen.Reference6Ideal.Read
public import proofs.«01_k».proof.Proof.Gen.Pre_memory_weights

@[expose] public section

set_option maxRecDepth 16384

/-! The memory's keys and values: the reference at one place of its results. -/

noncomputable section

namespace Cert.Reference6Ideal.MK

open Cert.Pre_memory_weights.Gen Cert.Reference6Ideal Cert.Reference6Ideal.Gen Cert.Reference6Ideal.Read Cert.Fox Cert.Kernel6Ideal.MK Cert.ReferenceIdeal.Fox
open Idealize.ShloMosaic hiding ix0 ix1 ix2 ix3 ix4 ix5
open Idealize.ShloMosaic.ValueIdx

variable (x0 : S1024x1024.Idx → EReal) (x1 : S1x1024.Idx → EReal) (x2 : S1024x512.Idx → EReal) (x3 : S1x256.Idx → EReal)

/-- The reference's normalised rows. -/
theorem row_apply (r k : Fin 1024) : val_main_v11 (F := Ideal) x0 x1 (ix2 r k) = rowRms (fun i => x0 (ix2 r i)) (fun i => x1 (ix2 0 i)) k := by
  simp only [val_main_v11_apply, val_main_v9_apply, val_main_v8_apply, val_main_v7_apply, val_main_v6_apply, val_main_v5_apply, val_main_v4_apply, val_main_v3_apply,
    val_main_v2_apply, val_main_v1_apply, val_main_v0_apply, val_main_v10_apply, val_main_cst_apply, val_main_cst_0_apply, val_main_cst_1_apply]
  refine congr (congrArg (HMul.hMul (α := EReal)) (congrArg (HMul.hMul (α := EReal) (x0 (ix2 r k))) ?_)) ?_
  · refine congrArg (fun t => Ideal.rsqrt (Ideal.div t (Ideal.ofBits .f32 0x44800000#32) + Ideal.ofBits .f32 0x358637BD#32)) ?_
    refine (congrArg (· + _) Ideal.ofBits_zero_f32).trans ((zero_add _).trans (Finset.sum_congr rfl fun i _ => ?_))
    refine congrArg (fun j => (x0 j : EReal) * x0 j) (funext fun a => ?_)
    match a with
    | 0 => rfl
    | 1 => rfl
  · refine congrArg x1 (funext fun a => by match a with | 0 => rfl | 1 => rfl)

/-- The reference's product. -/
theorem mix_apply (r : Fin 1024) (n : Fin 512) : val_main_v13 (F := Ideal) x0 x1 x2 (ix2 r n) = mix (fun i => x0 (ix2 r i)) (fun i => x1 (ix2 0 i)) (fun k => x2 (ix2 k n)) := by
  refine (val_main_v13_apply x0 x1 x2 (ix2 r n)).trans (Finset.sum_congr rfl fun k _ => ?_)
  refine congr (congrArg (HMul.hMul (α := EReal)) ?_) ?_
  · refine (congrArg _ ?_).trans (row_apply x0 x1 r k)
    exact funext fun a => by match a with | 0 => rfl | 1 => rfl
  · exact congrArg x2 (funext fun a => by match a with | 0 => rfl | 1 => rfl)

/-- The key columns of a row of the product. -/
def kcol (r : Fin 1024) (j : Fin 256) : EReal := mix (fun i => x0 (ix2 r i)) (fun i => x1 (ix2 0 i)) (fun k => x2 (ix2 k (⟨j.val, by omega⟩ : Fin 512)))

theorem heads_apply (r : Fin 1024) (h : Fin 4) (d : Fin 64) : val_main_v15 (F := Ideal) x0 x1 x2 (ix3 r h d) = head (kcol x0 x1 x2 r) h d := by
  refine (val_main_v15_apply (F := Ideal) x0 x1 x2 _).trans ((val_main_v14_apply (F := Ideal) x0 x1 x2 _).trans
    (Eq.trans (congrArg (val_main_v13 (F := Ideal) x0 x1 x2) (funext fun a => Fin.ext ?_)) (mix_apply x0 x1 x2 r ⟨h.val * 64 + d.val, by omega⟩)))
  match a with
  | 0 => show ((r.val * 4 + h.val) * 64 + d.val) / 256 = r.val; omega
  | 1 => show ((r.val * 4 + h.val) * 64 + d.val) % 256 = h.val * 64 + d.val; omega

theorem gain_apply (r : Fin 1024) (h : Fin 4) (d : Fin 64) : val_main_v28 (F := Ideal) x3 (ix3 r h d) = head (fun j => x3 (ix2 0 j)) h d := by
  refine (val_main_v28_apply (F := Ideal) x3 _).trans ((val_main_v27_apply (F := Ideal) x3 _).trans ((val_main_v26_apply (F := Ideal) x3 _).trans (congrArg x3 (funext fun a => Fin.ext ?_))))
  match a with
  | 0 => rfl
  | 1 => show (h.val * 64 + d.val) % 256 = h.val * 64 + d.val; omega

theorem nrm_apply (r : Fin 1024) (h : Fin 4) (d : Fin 64) : val_main_v29 (F := Ideal) x0 x1 x2 x3 (ix3 r h d) = hrms (head (kcol x0 x1 x2 r) h) (head (fun j => x3 (ix2 0 j)) h d) d := by
  refine (val_main_v29_apply (F := Ideal) x0 x1 x2 x3 _).trans ?_
  refine congr (congrArg (HMul.hMul (α := EReal)) ?_) (gain_apply x3 r h d)
  refine (val_main_v25_apply (F := Ideal) x0 x1 x2 _).trans ?_
  refine congr (congrArg (HMul.hMul (α := EReal)) (heads_apply x0 x1 x2 r h d)) ?_
  refine (val_main_v24_apply (F := Ideal) x0 x1 x2 _).trans ((val_main_v23_apply (F := Ideal) x0 x1 x2 _).trans ?_)
  show Ideal.rsqrt _ = Ideal.rsqrt _
  refine congrArg Ideal.rsqrt ((val_main_v22_apply (F := Ideal) x0 x1 x2 _).trans ?_)
  refine congr (congrArg (HAdd.hAdd (α := EReal)) ?_) (val_main_v21_apply (F := Ideal) _)
  refine (val_main_v20_apply (F := Ideal) x0 x1 x2 _).trans ?_
  refine congr (congrArg Ideal.div ?_) (val_main_v19_apply (F := Ideal) _)
  refine (val_main_v18_apply (F := Ideal) x0 x1 x2 _).trans ((val_main_v17_apply x0 x1 x2 _).trans ?_)
  refine (congrArg (· + _) Ideal.ofBits_zero_f32).trans ((zero_add _).trans (Finset.sum_congr rfl fun i _ => ?_))
  refine (val_main_v16_apply (F := Ideal) x0 x1 x2 _).trans ?_
  have e : val_main_v15 (F := Ideal) x0 x1 x2 (idx_main_v17 (idx_main_v18 (idx_main_v24 (ix3 r h d))) i) = head (kcol x0 x1 x2 r) h i :=
    (congrArg (val_main_v15 (F := Ideal) x0 x1 x2) (funext fun a => by match a with | 0 => rfl | 1 => rfl | 2 => rfl)).trans (heads_apply x0 x1 x2 r h i)
  exact congr (congrArg (HMul.hMul (α := EReal)) e) e

/-- The reference's keys. -/
theorem key_apply (r : Fin 1024) (j : Fin 256) : val_main_v31 (F := Ideal) x0 x1 x2 x3 (ix2 r j)
    = key (fun i => x0 (ix2 r i)) (fun i => x1 (ix2 0 i)) (fun k i => x2 (ix2 k (⟨i.val, by omega⟩ : Fin 512))) (fun i => x3 (ix2 0 i)) j := by
  refine (val_main_v31_apply (F := Ideal) x0 x1 x2 x3 _).trans ?_
  refine (val_main_v30_apply (F := Ideal) x0 x1 x2 x3 _).trans (Eq.trans (congrArg (val_main_v29 (F := Ideal) x0 x1 x2 x3) (funext fun a => Fin.ext ?_))
    ((nrm_apply x0 x1 x2 x3 r (hd j) (lane j)).trans (congrArg (fun t => hrms _ t (lane j)) (head_lane (fun j => x3 (ix2 0 j)) j))))
  match a with
  | 0 => show (r.val * 256 + j.val) / 256 = r.val; omega
  | 1 => show (r.val * 256 + j.val) / 64 % 4 = j.val / 64; omega
  | 2 => show (r.val * 256 + j.val) % 64 = j.val % 64; omega

/-- The reference's values. -/
theorem value_apply (r : Fin 1024) (j : Fin 256) : val_main_v33 (F := Ideal) x0 x1 x2 (ix2 r j)
    = mix (fun i => x0 (ix2 r i)) (fun i => x1 (ix2 0 i)) (fun k => x2 (ix2 k (⟨256 + j.val, by omega⟩ : Fin 512))) := by
  refine (val_main_v33_apply (F := Ideal) x0 x1 x2 _).trans ?_
  exact (val_main_v32_apply (F := Ideal) x0 x1 x2 _).trans (Eq.trans (congrArg (val_main_v13 (F := Ideal) x0 x1 x2) (funext fun a => by match a with | 0 => rfl | 1 => rfl))
    (mix_apply x0 x1 x2 r _))

/-- The precondition says the gain and the key columns of the weights are reals. -/
theorem weights (hp : Cert.Pre_memory_weights.fn (F := Ideal) x0 x1 x2 x3 = fun _ => 1#1) :
    (∀ k : Fin 1024, ∃ a : ℝ, x1 (ix2 0 k) = a) ∧ ∀ (k : Fin 1024) (j : Fin 256), ∃ a : ℝ, x2 (ix2 k (⟨j.val, by omega⟩ : Fin 512)) = a := by
  have e := congrFun hp ix0
  unfold Cert.Pre_memory_weights.fn at e
  have hsub : Subsingleton (Cert.Pre_memory_weights.S_).Idx := ⟨fun a b => funext fun i => i.elim0⟩
  obtain ⟨eg, ew⟩ := IntOp.andi_eq_one.1 e
  refine ⟨fun k => ?_, fun k j => ?_⟩
  · have w := Host.reduce_andi_all _ _ _ _ _ eg (ix2 (0 : Fin 1) k)
    refine real_of_abs (x1 (ix2 0 k)) (Eq.trans ?_ w)
    refine congrArg (fun z => BitVec.ofBool (decide (max (x1 (ix2 0 k)) (-(x1 (ix2 0 k))) < z))) ?_
    exact inf_word.symm
  · have w := Host.reduce_andi_all _ _ _ _ _ ew (ix2 k j)
    have es : extractStridedSlice Cert.Pre_memory_weights.S1024x256 ![0, 0] x2 Cert.Pre_memory_weights.Facts.slices_S1024x512_S1024x256_0_0 (ix2 k j)
        = x2 (ix2 k (⟨j.val, by omega⟩ : Fin 512)) :=
      extractStridedSlice_apply ![0, 0] x2 _ (ix2 k j) _ fun a => by
        match a with
        | 0 => exact (Nat.zero_add _).symm
        | 1 => exact (Nat.zero_add _).symm
    refine real_of_abs _ (Eq.trans ?_ w)
    refine congrArg₂ (fun y z : EReal => BitVec.ofBool (decide (max y (-y) < z))) es.symm ?_
    exact inf_word.symm

end Cert.Reference6Ideal.MK
end
-- ==== Proof.MK.Out.lean ====
module

public import proofs.«01_k».proof.Proof.MK.Ref
public import Idealize.ShloMosaic.Lib.Quiescent

@[expose] public section

set_option maxRecDepth 16384

/-! The memory's keys and values: the two result arrays of the call are the reference's, place by place. -/

noncomputable section

namespace Cert.Kernel6Ideal.MK

open Cert.Kernel6Ideal Cert.Kernel6Ideal.Gen Cert.Fox
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- What the keys' array is shown to hold. -/
abbrev GK (c : Dev nD) : S1024x256.Idx → EReal :=
  Cert.Reference6Ideal.Read.val_main_v31 (F := Ideal) (m ((c : Thread nD τ).loc main_arg0)) (m ((c : Thread nD τ).loc main_arg1))
    (m ((c : Thread nD τ).loc main_arg2)) (m ((c : Thread nD τ).loc main_arg3))

/-- What the values' array is shown to hold. -/
abbrev GV (c : Dev nD) : S1024x256.Idx → EReal :=
  Cert.Reference6Ideal.Read.val_main_v33 (F := Ideal) (m ((c : Thread nD τ).loc main_arg0)) (m ((c : Thread nD τ).loc main_arg1))
    (m ((c : Thread nD τ).loc main_arg2))

/-- Row `r` of point `t`'s blocks, in the arrays. -/
def row (t : Fin cfg0.N) (r : Fin 256) : Fin 1024 := ⟨t.val * 256 + r.val, by
  have := t.isLt; have e : cfg0.N = 4 := N_0; omega⟩

theorem index_0 (t : Fin cfg0.N) : win0_0.index t 0 = t.val ∧ win0_0.index t 1 = 0 := by revert t; decide +kernel
theorem index_1 (t : Fin cfg0.N) : win0_1.index t 0 = 0 ∧ win0_1.index t 1 = 0 := by revert t; decide +kernel
theorem index_2 (t : Fin cfg0.N) : win0_2.index t 0 = 0 ∧ win0_2.index t 1 = 0 := by revert t; decide +kernel
theorem index_3 (t : Fin cfg0.N) : win0_3.index t 0 = 0 ∧ win0_3.index t 1 = 0 := by revert t; decide +kernel
theorem index_4 (t : Fin cfg0.N) : win0_4.index t 0 = t.val ∧ win0_4.index t 1 = 0 := by revert t; decide +kernel
theorem index_5 (t : Fin cfg0.N) : win0_5.index t 0 = t.val ∧ win0_5.index t 1 = 0 := by revert t; decide +kernel

theorem blk_0 (c : Dev nD) (t : Fin cfg0.N) (r : Fin 256) (k : Fin 1024) :
    iblk m c 0 t (ix2 r k) = m ((c : Thread nD τ).loc main_arg0) (ix2 (row t r) k) := by
  refine congrArg (m ((c : Thread nD τ).loc main_arg0)) (funext fun a => Fin.ext ?_)
  match a with
  | 0 => exact (Pipeline.Window.rect_emb_val win0_0 t (ix2 r k) 0).trans (congrArg (· * 256 + r.val) (index_0 t).1)
  | 1 => exact Pipeline.Window.rect_emb_val_of_index_zero win0_0 t 1 (index_0 t).2 (ix2 r k)

theorem blk_1 (c : Dev nD) (t : Fin cfg0.N) (r : Fin 1) (k : Fin 1024) :
    iblk m c 1 t (ix2 r k) = m ((c : Thread nD τ).loc main_arg1) (ix2 r k) := by
  refine congrArg (m ((c : Thread nD τ).loc main_arg1)) (funext fun a => Fin.ext ?_)
  match a with
  | 0 => exact Pipeline.Window.rect_emb_val_of_index_zero win0_1 t 0 (index_1 t).1 (ix2 r k)
  | 1 => exact Pipeline.Window.rect_emb_val_of_index_zero win0_1 t 1 (index_1 t).2 (ix2 r k)

theorem blk_2 (c : Dev nD) (t : Fin cfg0.N) (r : Fin 1024) (k : Fin 512) :
    iblk m c 2 t (ix2 r k) = m ((c : Thread nD τ).loc main_arg2) (ix2 r k) := by
  refine congrArg (m ((c : Thread nD τ).loc main_arg2)) (funext fun a => Fin.ext ?_)
  match a with
  | 0 => exact Pipeline.Window.rect_emb_val_of_index_zero win0_2 t 0 (index_2 t).1 (ix2 r k)
  | 1 => exact Pipeline.Window.rect_emb_val_of_index_zero win0_2 t 1 (index_2 t).2 (ix2 r k)

theorem blk_3 (c : Dev nD) (t : Fin cfg0.N) (r : Fin 1) (k : Fin 256) :
    iblk m c 3 t (ix2 r k) = m ((c : Thread nD τ).loc main_arg3) (ix2 r k) := by
  refine congrArg (m ((c : Thread nD τ).loc main_arg3)) (funext fun a => Fin.ext ?_)
  match a with
  | 0 => exact Pipeline.Window.rect_emb_val_of_index_zero win0_3 t 0 (index_3 t).1 (ix2 r k)
  | 1 => exact Pipeline.Window.rect_emb_val_of_index_zero win0_3 t 1 (index_3 t).2 (ix2 r k)

/-- Where an output block's place lies in its result array. -/
theorem emb_4 (t : Fin cfg0.N) (r n : Fin 256) : (win0_4.rect t).emb (ix2 r n) = ix2 (row t r) n := by
  refine funext fun a => Fin.ext ?_
  match a with
  | 0 => exact (Pipeline.Window.rect_emb_val win0_4 t (ix2 r n) 0).trans (congrArg (· * 256 + r.val) (index_4 t).1)
  | 1 => exact Pipeline.Window.rect_emb_val_of_index_zero win0_4 t 1 (index_4 t).2 (ix2 r n)

theorem emb_5 (t : Fin cfg0.N) (r n : Fin 256) : (win0_5.rect t).emb (ix2 r n) = ix2 (row t r) n := by
  refine funext fun a => Fin.ext ?_
  match a with
  | 0 => exact (Pipeline.Window.rect_emb_val win0_5 t (ix2 r n) 0).trans (congrArg (· * 256 + r.val) (index_5 t).1)
  | 1 => exact Pipeline.Window.rect_emb_val_of_index_zero win0_5 t 1 (index_5 t).2 (ix2 r n)

/-- The body's blocks are its results of the whole input blocks. -/
theorem out_4 (x0 : Vec Ideal S256x1024 .f32) (x1 : Vec Ideal S1x1024 .f32) (x2 : Vec Ideal S1024x512 .bf16) (x3 : Vec Ideal S1x256 .f32) (y : S256x256.Idx) :
    out0_4 (F := Ideal) x0 x1 x2 x3 y = Value.E4 (F := Ideal) x0 x1 x2 x3 y := by
  unfold out0_4
  rw [View.ld_unit_zero hz2, View.ld_unit_zero hz2, View.ld_unit_zero hz2, View.ld_unit_zero hz2]
  exact Value.canon4_eq x0 x1 x2 x3 y

theorem out_5 (x0 : Vec Ideal S256x1024 .f32) (x1 : Vec Ideal S1x1024 .f32) (x2 : Vec Ideal S1024x512 .bf16) (x3 : Vec Ideal S1x256 .f32) (y : S256x256.Idx) :
    out0_5 (F := Ideal) x0 x1 x2 x3 y = Value.E5 (F := Ideal) x0 x1 x2 y := by
  unfold out0_5
  rw [View.ld_unit_zero hz2, View.ld_unit_zero hz2, View.ld_unit_zero hz2]
  exact Value.canon5_eq x0 x1 x2 y

/-- What a point writes back of the keys is its block of the reference's. -/
theorem flushed_4 (hp : Cert.Pre_Kernel6Ideal_memory_weights m) (c : Dev nD) (t : Fin cfg0.N) :
    (dats m 0 c).flushed 4 t = ((cfg0.win 4).blk t).view.read (Elt Ideal) (GK m c) := by
  rw [Value.flushed4 m c t]
  funext j
  obtain ⟨r, n, rfl⟩ : ∃ (r n : Fin 256), j = ix2 r n := ⟨j 0, j 1, funext fun a => by match a with | 0 => rfl | 1 => rfl⟩
  refine (out_4 (iblk m c 0 t) (iblk m c 1 t) (iblk m c 2 t) (iblk m c 3 t) (ix2 r n)).trans ?_
  refine Eq.trans ?_ (congrArg (GK m c) (emb_4 t r n)).symm
  refine Eq.trans ?_ (Cert.Reference6Ideal.MK.key_apply _ _ _ _ (row t r) n).symm
  obtain ⟨hg, hw⟩ := Cert.Reference6Ideal.MK.weights _ _ _ _ (hp c)
  refine (E4_apply _ _ _ _ r n (fun k => ?_) (fun k i => ?_)).trans ?_
  · obtain ⟨a, ha⟩ := hg k
    exact ⟨a, (blk_1 m c t 0 k).trans ha⟩
  · obtain ⟨a, ha⟩ := hw k i
    exact ⟨a, (blk_2 m c t k _).trans ha⟩
  · rw [funext (blk_0 m c t r), funext (blk_1 m c t 0), funext (blk_3 m c t 0),
      (funext fun k => funext fun i => blk_2 m c t k _ :
        (fun (k : Fin 1024) (i : Fin 256) => iblk m c 2 t (ix2 k (⟨i.val, by omega⟩ : Fin 512)))
          = fun k i => m ((c : Thread nD τ).loc main_arg2) (ix2 k (⟨i.val, by omega⟩ : Fin 512)))]

/-- What a point writes back of the values is its block of the reference's. -/
theorem flushed_5 (c : Dev nD) (t : Fin cfg0.N) :
    (dats m 0 c).flushed 5 t = ((cfg0.win 5).blk t).view.read (Elt Ideal) (GV m c) := by
  rw [Value.flushed5 m c t]
  funext j
  obtain ⟨r, n, rfl⟩ : ∃ (r n : Fin 256), j = ix2 r n := ⟨j 0, j 1, funext fun a => by match a with | 0 => rfl | 1 => rfl⟩
  refine (out_5 (iblk m c 0 t) (iblk m c 1 t) (iblk m c 2 t) (iblk m c 3 t) (ix2 r n)).trans ?_
  refine Eq.trans ?_ (congrArg (GV m c) (emb_5 t r n)).symm
  refine Eq.trans ?_ (Cert.Reference6Ideal.MK.value_apply _ _ _ (row t r) n).symm
  refine (E5_apply _ _ _ r n).trans ?_
  rw [funext (blk_0 m c t r), funext (blk_1 m c t 0), funext fun k => blk_2 m c t k (⟨256 + n.val, by omega⟩ : Fin 512)]

/-- An index of a result array is in point `t`'s block when its row is one of the block's. -/
theorem mem_blk_4 (t : Fin cfg0.N) (i : S1024x256.Idx) (h : t.val = (i 0 : Nat) / 256) : i ∈ ((cfg0.win 4).blk t).view.set := by
  have h0 : (i 0 : Nat) < 1024 := (i 0).isLt
  have h1 : (i 1 : Nat) < 256 := (i 1).isLt
  show i ∈ ((View.whole main_v0_0).slice (win0_4.rect t)).set
  rw [View.set_slice_whole, Rect.mem_set_unit]
  intro a
  match a with
  | 0 => show win0_4.index t 0 * 256 ≤ (i 0 : Nat) ∧ (i 0 : Nat) < win0_4.index t 0 * 256 + 256
         rw [(index_4 t).1]; omega
  | 1 => show win0_4.index t 1 * 256 ≤ (i 1 : Nat) ∧ (i 1 : Nat) < win0_4.index t 1 * 256 + 256
         rw [(index_4 t).2]; omega

theorem mem_blk_5 (t : Fin cfg0.N) (i : S1024x256.Idx) (h : t.val = (i 0 : Nat) / 256) : i ∈ ((cfg0.win 5).blk t).view.set := by
  have h0 : (i 0 : Nat) < 1024 := (i 0).isLt
  have h1 : (i 1 : Nat) < 256 := (i 1).isLt
  show i ∈ ((View.whole main_v0_1).slice (win0_5.rect t)).set
  rw [View.set_slice_whole, Rect.mem_set_unit]
  intro a
  match a with
  | 0 => show win0_5.index t 0 * 256 ≤ (i 0 : Nat) ∧ (i 0 : Nat) < win0_5.index t 0 * 256 + 256
         rw [(index_5 t).1]; omega
  | 1 => show win0_5.index t 1 * 256 ≤ (i 1 : Nat) ∧ (i 1 : Nat) < win0_5.index t 1 * 256 + 256
         rw [(index_5 t).2]; omega

/-- So the result arrays end holding the reference's keys and values. -/
theorem final_4 (hp : Cert.Pre_Kernel6Ideal_memory_weights m) (c : Dev nD) : (dats m 0 c).arrAt 4 cfg0.N = GK m c :=
  (dats m 0 c).arrAt_eq_of_cover 4 (GK m c) (fun t _ => flushed_4 m hp c t) fun i => by
    have h0 : (i 0 : Nat) < 1024 := (i 0).isLt
    have hN : cfg0.N = 4 := N_0
    exact ⟨⟨(i 0 : Nat) / 256, by omega⟩, flush0_4 _, mem_blk_4 _ i rfl⟩

theorem final_5 (c : Dev nD) : (dats m 0 c).arrAt 5 cfg0.N = GV m c :=
  (dats m 0 c).arrAt_eq_of_cover 5 (GV m c) (fun t _ => flushed_5 m c t) fun i => by
    have h0 : (i 0 : Nat) < 1024 := (i 0).isLt
    have hN : cfg0.N = 4 := N_0
    exact ⟨⟨(i 0 : Nat) / 256, by omega⟩, flush0_5 _, mem_blk_5 _ i rfl⟩

end Cert.Kernel6Ideal.MK

namespace Cert.Proof

open Idealize.ShloMosaic Idealize.SL.Sem Idealize.ShloMosaic.TcCoe

/-- The kernel and reference of the memory's keys and values leave equal results. -/
theorem algebraic6 : Cert.algebraic_Kernel6Ideal_Reference6Ideal_pre_memory_weights := by
  intro m g m' g' hp h
  refine ⟨fun c => Cert.Kernel6Ideal.MK.GK m c, fun c => Cert.Kernel6Ideal.MK.GV m c, ?_, ?_⟩
  · exact (θ_run Cert.Kernel6Ideal.defs _ _).mono (fun r hr c => ⟨(hr c).1.trans (Cert.Kernel6Ideal.MK.final_4 m hp c), (hr c).2.1.trans (Cert.Kernel6Ideal.MK.final_5 m c), (hr c).2.2⟩)
      (Cert.Kernel6Ideal.Value.run_blocks (F := Ideal) m g)
  · refine (θ_run Cert.Reference6Ideal.defs _ _).mono (fun r hr c => ⟨(hr c).1.trans ?_, (hr c).2.1.trans ?_, (hr c).2.2⟩)
      (Cert.Reference6Ideal.Value.run (F := Ideal) m' g')
    · obtain ⟨h0, h1, h2, h3⟩ := h c
      refine (Cert.Reference6Ideal.Read.val_main_v31_eq _ _ _ _).trans ?_
      rw [h0, h1, h2, h3]
    · obtain ⟨h0, h1, h2, h3⟩ := h c
      refine (Cert.Reference6Ideal.Read.val_main_v33_eq _ _ _).trans ?_
      rw [h0, h1, h2]

/-- The reference of the memory's keys and values runs to its end, leaves its arguments and declares no semaphore. -/
theorem frame_r6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run (F := Ideal) m g)

end Cert.Proof
end
-- ==== Proof.WL.Ref.lean ====
module

public import proofs.«01_k».proof.Defs
public import proofs.«01_k».proof.Proof.Gen.Reference7Ideal.Read
public import proofs.«01_k».proof.Proof.Mm
public import proofs.«01_k».proof.Proof.Hd

@[expose] public section

set_option maxRecDepth 16384

/-! The columns of the input weights: which column of the weights the reference has at each place. -/

noncomputable section

namespace Cert.Reference7Ideal.WL

open Cert.Reference7Ideal Cert.Reference7Ideal.Gen Cert.Reference7Ideal.Read Cert.Fox
open Idealize.ShloMosaic hiding ix0 ix1 ix2 ix3 ix4 ix5
open Idealize.ShloMosaic.ValueIdx Idealize.ShloMosaic.TcCoe Idealize.SL.Sem

/-- The column of the weights that goes to column `c`; 4652, past the last, where nothing goes. -/
def src (c : ℕ) : ℕ :=
  if c < 1536 then c else if c < 2560 then c + 4 else if c < 3328 then c + 12 else if c < 3840 then c + 28 else if c < 4608 then c + 44
  else if c < 4612 then c - 3072 else if c < 4620 then c - 2048 else if c < 4624 then 4652 else if c < 4640 then c - 1284
  else if c < 4656 then c - 772 else 4652

/-- The weights continued by zeros to the right. -/
def col (w : S1024x4652.Idx → EReal) (r : Fin 1024) (n : ℕ) : EReal := if h : n < 4652 then w (ix2 r (⟨n, h⟩ : Fin 4652)) else 0

/-- A slice of columns. -/
theorem cut_apply (w : S1024x4652.Idx → EReal) (n o : ℕ) (h : S1024x4652.Slices ![0, o] ⟨2, ![1024, n]⟩) (ho : o + n ≤ 4652) (r : Fin 1024) (j : Fin n) (q : ℕ)
    (hq : q = o + j.val) : extractStridedSlice ⟨2, ![1024, n]⟩ ![0, o] w h (ix2 r j) = col w r q := by
  have hb : q < 4652 := by have := j.isLt; omega
  unfold col
  rw [dif_pos hb]
  exact extractStridedSlice_apply ![0, o] w h (ix2 r j) (ix2 r (⟨q, hb⟩ : Fin 4652)) (fun a => by
    match a with
    | 0 => show r.val = 0 + r.val; omega
    | 1 => exact hq)

theorem gap_apply (w : S1024x4652.Idx → EReal) (r : Fin 1024) : col w r 4652 = 0 := dif_neg (by decide)

/-- The shapes of the reference's pieces. -/
abbrev SH : List Shape := [S1024x768, S1024x768, S1024x256, S1024x768, S1024x512, S1024x256, S1024x512, S1024x256, S1024x512, S1024x4, S1024x8, S1024x4, S1024x16, S1024x16, S1024x80]

/-- The columns before piece `k`. -/
abbrev before (k : ℕ) : ℕ := ((SH.take k).map fun s => if h : s.rank = S1024x4736.rank then s.size ((1 : Fin S1024x4736.rank).cast h.symm) else 0).sum

/-- A column of a row of pieces, when it lies in piece `k`. -/
theorem piece_apply (xs : List ((s : Shape) × (s.Idx → EReal))) (h : Shape.Concatenates (xs.map (·.1)) S1024x4736 1) (r : Fin 1024) (c : Fin 4736)
    (hsh : xs.map (·.1) = SH) (k n : ℕ) (x : (⟨2, ![1024, n]⟩ : Shape).Idx → EReal) (hk : k < xs.length) (hxk : xs[k] = ⟨⟨2, ![1024, n]⟩, x⟩) (pre : ℕ)
    (hpre : before k = pre)
    (h1 : pre ≤ c.val) (h2 : c.val < pre + n) :
    concatenate S1024x4736 1 xs h (ix2 r c) = x (ix2 r (⟨c.val - pre, by omega⟩ : Fin n)) :=
  concatenate_apply_piece (t := S1024x4736) 1 xs h (ix2 r c) k hk ⟨2, ![1024, n]⟩ x hxk rfl pre (by rw [List.map_take, hsh]; exact hpre) _ (fun b hb => by
    match b with
    | 0 => rfl
    | 1 => exact absurd rfl hb) (by show pre + (c.val - pre) = c.val; omega)

/-- The same for a piece that is a slice of the weights. -/
theorem slice_piece (w : S1024x4652.Idx → EReal) (xs : List ((s : Shape) × (s.Idx → EReal))) (h : Shape.Concatenates (xs.map (·.1)) S1024x4736 1) (r : Fin 1024) (c : Fin 4736)
    (hsh : xs.map (·.1) = SH) (k n o : ℕ) (hs : S1024x4652.Slices ![0, o] ⟨2, ![1024, n]⟩) (hk : k < xs.length) (hxk : xs[k] = ⟨⟨2, ![1024, n]⟩, extractStridedSlice ⟨2, ![1024, n]⟩ ![0, o] w hs⟩) (pre : ℕ)
    (hpre : before k = pre)
    (ho : o + n ≤ 4652) (h1 : pre ≤ c.val) (h2 : c.val < pre + n) (hq : src c.val = o + (c.val - pre)) :
    concatenate S1024x4736 1 xs h (ix2 r c) = col w r (src c.val) :=
  (piece_apply xs h r c hsh k n _ hk hxk pre hpre h1 h2).trans (cut_apply w n o hs ho r _ _ hq)

theorem zeros4 (i : S1024x4.Idx) : val_main_v13 (F := Ideal) i = 0 := by
  rw [val_main_v13_apply, val_main_cst_apply]; exact Ideal.ofBits_zero_f32
theorem zeros80 (i : S1024x80.Idx) : val_main_v14 (F := Ideal) i = 0 := by
  rw [val_main_v14_apply, val_main_cst_0_apply]; exact Ideal.ofBits_zero_f32

set_option maxHeartbeats 2000000 in
/-- The reference's result at one place. -/
theorem out_apply (w : S1024x4652.Idx → EReal) (r : Fin 1024) (c : Fin 4736) : val_main_v16 (F := Ideal) w (ix2 r c) = col w r (src c.val) := by
  show val_main_v15 (F := Ideal) w (ix2 r c) = _
  unfold val_main_v15
  have hc := c.isLt
  have hsrc : src c.val = if c.val < 1536 then c.val else if c.val < 2560 then c.val + 4 else if c.val < 3328 then c.val + 12 else if c.val < 3840 then c.val + 28 else if c.val < 4608 then c.val + 44
    else if c.val < 4612 then c.val - 3072 else if c.val < 4620 then c.val - 2048 else if c.val < 4624 then 4652 else if c.val < 4640 then c.val - 1284
    else if c.val < 4656 then c.val - 772 else 4652 := rfl
  rcases Nat.lt_or_ge c.val 768 with h1 | h1
  · exact slice_piece w _ _ r c rfl 0 768 0 slices_S1024x4652_S1024x768_0_0 (by simp) rfl 0 (by decide +kernel) (by decide) (by omega) (by omega) (by split_ifs at hsrc <;> omega)
  rcases Nat.lt_or_ge c.val 1536 with h2 | h2
  · exact slice_piece w _ _ r c rfl 1 768 768 slices_S1024x4652_S1024x768_0_768 (by simp) rfl 768 (by decide +kernel) (by decide) (by omega) (by omega) (by split_ifs at hsrc <;> omega)
  rcases Nat.lt_or_ge c.val 1792 with h3 | h3
  · exact slice_piece w _ _ r c rfl 2 256 1540 slices_S1024x4652_S1024x256_0_1540 (by simp) rfl 1536 (by decide +kernel) (by decide) (by omega) (by omega) (by split_ifs at hsrc <;> omega)
  rcases Nat.lt_or_ge c.val 2560 with h4 | h4
  · exact slice_piece w _ _ r c rfl 3 768 1796 slices_S1024x4652_S1024x768_0_1796 (by simp) rfl 1792 (by decide +kernel) (by decide) (by omega) (by omega) (by split_ifs at hsrc <;> omega)
  rcases Nat.lt_or_ge c.val 3072 with h5 | h5
  · exact slice_piece w _ _ r c rfl 4 512 2572 slices_S1024x4652_S1024x512_0_2572 (by simp) rfl 2560 (by decide +kernel) (by decide) (by omega) (by omega) (by split_ifs at hsrc <;> omega)
  rcases Nat.lt_or_ge c.val 3328 with h6 | h6
  · exact slice_piece w _ _ r c rfl 5 256 3084 slices_S1024x4652_S1024x256_0_3084 (by simp) rfl 3072 (by decide +kernel) (by decide) (by omega) (by omega) (by split_ifs at hsrc <;> omega)
  rcases Nat.lt_or_ge c.val 3840 with h7 | h7
  · exact slice_piece w _ _ r c rfl 6 512 3356 slices_S1024x4652_S1024x512_0_3356 (by simp) rfl 3328 (by decide +kernel) (by decide) (by omega) (by omega) (by split_ifs at hsrc <;> omega)
  rcases Nat.lt_or_ge c.val 4096 with h8 | h8
  · exact slice_piece w _ _ r c rfl 7 256 3884 slices_S1024x4652_S1024x256_0_3884 (by simp) rfl 3840 (by decide +kernel) (by decide) (by omega) (by omega) (by split_ifs at hsrc <;> omega)
  rcases Nat.lt_or_ge c.val 4608 with h9 | h9
  · exact slice_piece w _ _ r c rfl 8 512 4140 slices_S1024x4652_S1024x512_0_4140 (by simp) rfl 4096 (by decide +kernel) (by decide) (by omega) (by omega) (by split_ifs at hsrc <;> omega)
  rcases Nat.lt_or_ge c.val 4612 with h10 | h10
  · exact slice_piece w _ _ r c rfl 9 4 1536 slices_S1024x4652_S1024x4_0_1536 (by simp) rfl 4608 (by decide +kernel) (by decide) (by omega) (by omega) (by split_ifs at hsrc <;> omega)
  rcases Nat.lt_or_ge c.val 4620 with h11 | h11
  · exact slice_piece w _ _ r c rfl 10 8 2564 slices_S1024x4652_S1024x8_0_2564 (by simp) rfl 4612 (by decide +kernel) (by decide) (by omega) (by omega) (by split_ifs at hsrc <;> omega)
  rcases Nat.lt_or_ge c.val 4624 with h12 | h12
  · refine (piece_apply _ _ r c rfl 11 4 _ (by simp) rfl 4620 (by decide +kernel) (by omega) (by omega)).trans ((zeros4 _).trans ?_)
    rw [show src c.val = 4652 by split_ifs at hsrc <;> omega, gap_apply]
  rcases Nat.lt_or_ge c.val 4640 with h13 | h13
  · exact slice_piece w _ _ r c rfl 12 16 3340 slices_S1024x4652_S1024x16_0_3340 (by simp) rfl 4624 (by decide +kernel) (by decide) (by omega) (by omega) (by split_ifs at hsrc <;> omega)
  rcases Nat.lt_or_ge c.val 4656 with h14 | h14
  · exact slice_piece w _ _ r c rfl 13 16 3868 slices_S1024x4652_S1024x16_0_3868 (by simp) rfl 4640 (by decide +kernel) (by decide) (by omega) (by omega) (by split_ifs at hsrc <;> omega)
  · refine (piece_apply _ _ r c rfl 14 80 _ (by simp) rfl 4656 (by decide +kernel) (by omega) (by omega)).trans ((zeros80 _).trans ?_)
    rw [show src c.val = 4652 by split_ifs at hsrc <;> omega, gap_apply]

end Cert.Reference7Ideal.WL
end
-- ==== Proof.WL.Pay.lean ====
module

public import proofs.«01_k».proof.Proof.WL.Ref
public import proofs.«01_k».proof.Proof.Gen.Kernel7Ideal.Value
public import Idealize.ShloMosaic.Lib.KernelVsHost

@[expose] public section

set_option maxRecDepth 16384

/-! The columns of the input weights: what the body stores, at one place. -/

noncomputable section

namespace Cert.Kernel7Ideal.WL

open Cert.Kernel7Ideal Cert.Kernel7Ideal.Gen Cert.Fox Cert.Reference7Ideal.WL
open Idealize.ShloMosaic hiding ix0 ix1 ix2 ix3 ix4 ix5
open Idealize.ShloMosaic.ValueIdx Idealize.ShloMosaic.TcCoe Idealize.SL.Sem

/-- A block's entry in column `n`. -/
def at' (x : S256x4864.Idx → EReal) (r : Fin 256) (n : ℕ) : EReal := if h : n < 4864 then x (ix2 r (⟨n, h⟩ : Fin 4864)) else 0

/-- What the body leaves in the output block. -/
def body (x : S256x4864.Idx → EReal) : S256x4736.Idx → EReal := fun y => if src (y 1).val = 4652 then 0 else at' x (y 0) (src (y 1).val)

/-- A piece of the output block holding what `W` has at its places. -/
def Ok (W : S256x4736.Idx → EReal) (p : View.Piece (Elt Ideal) S256x4736 .bf16) : Prop := ∀ x, p.2 x = W (p.1.emb x)

/-- The contents pieces leave, each holding what `W` has there, is `W` wherever a piece lies. -/
theorem canon_ok (W : S256x4736.Idx → EReal) (y : S256x4736.Idx) :
    ∀ L : List (View.Piece (Elt Ideal) S256x4736 .bf16), (∀ p ∈ L, Ok W p) → (∃ p ∈ L, y ∈ p.1.set) → View.canon L y = W y
  | [], _, h => by obtain ⟨_, hm, _⟩ := h; exact absurd hm List.not_mem_nil
  | p :: L, hok, h => by
    by_cases hy : y ∈ p.1.set
    · obtain ⟨r, w⟩ := p
      obtain ⟨x, rfl⟩ : ∃ x, r.emb x = y := r.exists_idx_of_mem hy
      rw [View.canon_cons_emb]
      exact hok ⟨r, w⟩ List.mem_cons_self x
    · rw [View.canon_cons_of_not_mem p L hy]
      refine canon_ok W y L (fun q hq => hok q (List.mem_cons_of_mem _ hq)) ?_
      obtain ⟨q, hq, hyq⟩ := h
      rcases List.mem_cons.mp hq with rfl | hq
      · exact absurd hyq hy
      · exact ⟨q, hq, hyq⟩

/-- Columns `b`, `b + 1`, … of a block. -/
theorem ld_apply (x : S256x4864.Idx → EReal) (n b : ℕ) (hi : ∀ a, ![0, b] a + (⟨2, ![256, n]⟩ : Shape).size a ≤ S256x4864.size a)
    (r : Fin 256) (j : Fin n) (hb : b + n ≤ 4864) :
    View.ld (Val := Elt Ideal) (e' := .f32) x (Rect.unit (s := S256x4864) ![0, b] (⟨2, ![256, n]⟩ : Shape).size hi) (ix2 r j) = at' x r (b + j.val) := by
  have hl : b + j.val < 4864 := by have := j.isLt; omega
  unfold at'
  rw [dif_pos hl]
  exact congrArg x (funext fun a => Fin.ext (by
    match a with
    | 0 => show 0 + 1 * r.val = r.val; omega
    | 1 => show b + 1 * j.val = b + j.val; omega))

/-- Reading a row of `256` columns turned left by `q`, within the row. -/
theorem turn_apply (v : S256x256.Idx → EReal) (k : BitVec 32) (q : ℕ) (hk : k.toNat = 256 - q) (hq0 : 0 < q) (hq : q ≤ 128) (r : Fin 256) (l : Fin 128) :
    extractStridedSlice S256x128 ![0, 0] (dynamicRotate (s := S256x256) 1 k none (shapeCast S256x256 v shapeCasts_S256x256_S256x256) rotates_S256x256_d1) slices_S256x256_o0_0_S256x128 (ix2 r l)
      = v (ix2 r (⟨q + l.val, by omega⟩ : Fin 256)) := by
  refine (extractStridedSlice_apply ![0, 0] _ slices_S256x256_o0_0_S256x128 (ix2 r l) (ix2 r (⟨l.val, by omega⟩ : Fin 256)) (fun a => by
    match a with
    | 0 => show r.val = 0 + r.val; omega
    | 1 => show l.val = 0 + l.val; omega)).trans ?_
  refine (dynamicRotate_apply 1 k _ rotates_S256x256_d1 (ix2 r (⟨l.val, by omega⟩ : Fin 256)) (ix2 r (⟨q + l.val, by omega⟩ : Fin 256)) (fun b => by
    match b with
    | 0 => rfl
    | 1 => show q + l.val = (l.val + 256 - k.toNat % 256) % 256
           rw [hk]; have := l.isLt; omega)).trans ?_
  exact shapeCast_apply v _ _ _ rfl

theorem keep_apply (v : S256x256.Idx → EReal) (r : Fin 256) (l : Fin 128) :
    extractStridedSlice S256x128 ![0, 0] (shapeCast S256x256 v shapeCasts_S256x256_S256x256) slices_S256x256_o0_0_S256x128 (ix2 r l)
      = v (ix2 r (⟨l.val, by omega⟩ : Fin 256)) := by
  refine (extractStridedSlice_apply ![0, 0] _ slices_S256x256_o0_0_S256x128 (ix2 r l) (ix2 r (⟨l.val, by omega⟩ : Fin 256)) (fun a => by
    match a with
    | 0 => show r.val = 0 + r.val; omega
    | 1 => show l.val = 0 + l.val; omega)).trans ?_
  exact shapeCast_apply v _ _ _ rfl

/-- A stored piece of 128 columns holds the body's columns when its entries do. -/
theorem ok_of (x : S256x4864.Idx → EReal) (d : ℕ) (hi : ∀ a, ![0, d] a + S256x128.size a ≤ S256x4736.size a) (v : S256x128.Idx → EReal)
    (h : ∀ (r : Fin 256) (l : Fin 128), v (ix2 r l) = if src (d + l.val) = 4652 then 0 else at' x r (src (d + l.val))) :
    Ok (body x) ⟨Rect.unit (s := S256x4736) ![0, d] S256x128.size hi, v⟩ := by
  intro i
  obtain ⟨r, l, rfl⟩ : ∃ (r : Fin 256) (l : Fin 128), i = ix2 r l := ⟨i 0, i 1, funext fun a => by match a with | 0 => rfl | 1 => rfl⟩
  refine (h r l).trans ?_
  have e1 : (((Rect.unit (s := S256x4736) ![0, d] S256x128.size hi).emb (ix2 r l)) 1).val = d + l.val := by show d + 1 * l.val = _; omega
  have e0 : ((Rect.unit (s := S256x4736) ![0, d] S256x128.size hi).emb (ix2 r l)) 0 = r := Fin.ext (by show 0 + 1 * r.val = _; omega)
  show _ = if src (((Rect.unit (s := S256x4736) ![0, d] S256x128.size hi).emb (ix2 r l)) 1).val = 4652 then 0 else at' x (((Rect.unit (s := S256x4736) ![0, d] S256x128.size hi).emb (ix2 r l)) 0) (src (((Rect.unit (s := S256x4736) ![0, d] S256x128.size hi).emb (ix2 r l)) 1).val)
  rw [e1, e0]

/-- The pieces that are columns of the weights as they lie. -/
theorem kept (x : S256x4864.Idx → EReal) (d b : ℕ) (hi : ∀ a, ![0, d] a + S256x128.size a ≤ S256x4736.size a)
    (hl : ∀ a, ![0, b] a + S256x256.size a ≤ S256x4864.size a) (hs : ∀ l < 128, src (d + l) = b + l) (hb : b + 256 ≤ 4864) (hd : d + 128 ≤ 1536) :
    Ok (body x) ⟨Rect.unit (s := S256x4736) ![0, d] S256x128.size hi, k0_pay2 (F := Ideal) (View.ld x (Rect.unit (s := S256x4864) ![0, b] S256x256.size hl))⟩ :=
  ok_of x d hi _ fun r l => by
    refine (keep_apply _ r l).trans ((ld_apply x 256 b hl r _ hb).trans ?_)
    have e := hs l.val l.isLt
    have hl' := l.isLt
    have hg : ¬ src (d + l.val) = 4652 := by unfold src; rw [if_pos (by omega)]; omega
    rw [if_neg hg, e]

/-- The pieces that are columns of the weights turned into place. -/
theorem turned (x : S256x4864.Idx → EReal) (q : ℕ) (k : BitVec 32) (hk : k.toNat = 256 - q) (hq0 : 0 < q) (hq : q ≤ 128) (d b : ℕ) (hi : ∀ a, ![0, d] a + S256x128.size a ≤ S256x4736.size a)
    (hl : ∀ a, ![0, b] a + S256x256.size a ≤ S256x4864.size a) (hs : ∀ l < 128, src (d + l) = b + (q + l)) (hb : b + 256 ≤ 4864) (hd : ∀ l < 128, b + (q + l) ≠ 4652) :
    Ok (body x) ⟨Rect.unit (s := S256x4736) ![0, d] S256x128.size hi,
      truncf (F := Ideal) .bf16 (extractStridedSlice S256x128 ![0, 0] (dynamicRotate (s := S256x256) 1 k none (shapeCast S256x256 (View.ld (Val := Elt Ideal) (e' := .f32) x (Rect.unit (s := S256x4864) ![0, b] S256x256.size hl)) shapeCasts_S256x256_S256x256) rotates_S256x256_d1) slices_S256x256_o0_0_S256x128) bitsLt_bf16_f32⟩ :=
  ok_of x d hi _ fun r l => by
    refine (turn_apply _ k q hk hq0 hq r l).trans ((ld_apply x 256 b hl r _ hb).trans ?_)
    have e := hs l.val l.isLt
    rw [e, if_neg (hd l.val l.isLt)]

/-- The last 128 columns: four narrow pieces and zeros. -/
theorem narrow (x0 x1 x2 x3 : S256x128.Idx → EReal) (r : Fin 256) (l : Fin 128) :
    k0_pay1 (F := Ideal) (iota .tc S256x128 32 [1] iota_S256x128_d1_w32) (k0_pay38 (F := Ideal)) (k0_pay39 (F := Ideal) x0) k0_pay40 4#32 x1 x2 x3 (ix2 r l)
      = if 32 ≤ l.val ∧ l.val < 48 then x3 (ix2 r (⟨(l.val + 124) % 128, by omega⟩ : Fin 128))
        else if 16 ≤ l.val ∧ l.val < 32 then x2 (ix2 r (⟨(l.val + 124) % 128, by omega⟩ : Fin 128))
        else if 4 ≤ l.val ∧ l.val < 12 then x1 (ix2 r l)
        else if 0 ≤ l.val ∧ l.val < 4 then x0 (ix2 r l) else 0 := by
  have cast : ∀ v : S256x128.Idx → EReal, shapeCast S256x128 v shapeCasts_S256x128_S256x128 = v := fun v => funext fun i => shapeCast_apply v _ i i rfl
  have rot : ∀ v : S256x128.Idx → EReal, dynamicRotate (s := S256x128) 1 4#32 none v rotates_S256x128_d1 (ix2 r l) = v (ix2 r (⟨(l.val + 124) % 128, by omega⟩ : Fin 128)) := fun v =>
    dynamicRotate_apply 1 4#32 v rotates_S256x128_d1 (ix2 r l) _ (fun b => by
      match b with
      | 0 => rfl
      | 1 => rfl)
  have word : ∀ (l : Fin 128), (IntOp.andi (IntOp.cmpi .sge (BitVec.ofNat 32 l.val) 32#32) (IntOp.cmpi .slt (BitVec.ofNat 32 l.val) 48#32) = if 32 ≤ l.val ∧ l.val < 48 then 1#1 else 0#1)
      ∧ (IntOp.andi (IntOp.cmpi .sge (BitVec.ofNat 32 l.val) 16#32) (IntOp.cmpi .slt (BitVec.ofNat 32 l.val) 32#32) = if 16 ≤ l.val ∧ l.val < 32 then 1#1 else 0#1)
      ∧ (IntOp.andi (IntOp.cmpi .sge (BitVec.ofNat 32 l.val) 4#32) (IntOp.cmpi .slt (BitVec.ofNat 32 l.val) 12#32) = if 4 ≤ l.val ∧ l.val < 12 then 1#1 else 0#1)
      ∧ (IntOp.andi (IntOp.cmpi .sge (BitVec.ofNat 32 l.val) 0#32) (IntOp.cmpi .slt (BitVec.ofNat 32 l.val) 4#32) = if 0 ≤ l.val ∧ l.val < 4 then 1#1 else 0#1) := by decide +kernel
  obtain ⟨w3, w2, w1, w0⟩ := word l
  have pick : ∀ (p : Prop) [Decidable p] (a b : EReal), Scalar.select (if p then 1#1 else 0#1) a b = if p then a else b := fun p _ a b => by split <;> rfl
  have hi : iota .tc S256x128 32 [1] iota_S256x128_d1_w32 (ix2 r l) = BitVec.ofNat 32 l.val := by rw [iota_single_apply]
  show Scalar.select (IntOp.andi (IntOp.cmpi .sge (iota .tc S256x128 32 [1] iota_S256x128_d1_w32 (ix2 r l)) 32#32) (IntOp.cmpi .slt (iota .tc S256x128 32 [1] iota_S256x128_d1_w32 (ix2 r l)) 48#32))
      (dynamicRotate (s := S256x128) 1 4#32 none (shapeCast S256x128 x3 shapeCasts_S256x128_S256x128) rotates_S256x128_d1 (ix2 r l))
    (Scalar.select (IntOp.andi (IntOp.cmpi .sge (iota .tc S256x128 32 [1] iota_S256x128_d1_w32 (ix2 r l)) 16#32) (IntOp.cmpi .slt (iota .tc S256x128 32 [1] iota_S256x128_d1_w32 (ix2 r l)) 32#32))
      (dynamicRotate (s := S256x128) 1 4#32 none (shapeCast S256x128 x2 shapeCasts_S256x128_S256x128) rotates_S256x128_d1 (ix2 r l))
    (Scalar.select (IntOp.andi (IntOp.cmpi .sge (iota .tc S256x128 32 [1] iota_S256x128_d1_w32 (ix2 r l)) 4#32) (IntOp.cmpi .slt (iota .tc S256x128 32 [1] iota_S256x128_d1_w32 (ix2 r l)) 12#32))
      (shapeCast S256x128 x1 shapeCasts_S256x128_S256x128 (ix2 r l))
    (Scalar.select (IntOp.andi (IntOp.cmpi .sge (iota .tc S256x128 32 [1] iota_S256x128_d1_w32 (ix2 r l)) 0#32) (IntOp.cmpi .slt (iota .tc S256x128 32 [1] iota_S256x128_d1_w32 (ix2 r l)) 4#32))
      (shapeCast S256x128 x0 shapeCasts_S256x128_S256x128 (ix2 r l)) (Ideal.ofBits .f32 0x00000000#32)))) = _
  rw [hi, w3, w2, w1, w0, pick, pick, pick, pick, cast, cast, cast, cast, rot, rot, Ideal.ofBits_zero_f32]

end Cert.Kernel7Ideal.WL
end
-- ==== Proof.WL.Fill.lean ====
module

public import proofs.«01_k».proof.Proof.WL.Pay

@[expose] public section

set_option maxRecDepth 16384

/-! The columns of the input weights: the pieces of a block together are the columns in their places. -/

noncomputable section

namespace Cert.Kernel7Ideal.WL

open Cert.Kernel7Ideal Cert.Kernel7Ideal.Gen Cert.Fox Cert.Reference7Ideal.WL
open Idealize.ShloMosaic hiding ix0 ix1 ix2 ix3 ix4 ix5
open Idealize.ShloMosaic.ValueIdx Idealize.ShloMosaic.TcCoe Idealize.SL.Sem

/-- Where the last columns come from. -/
theorem src_last (l : ℕ) (hl : l < 128) : src (4608 + l) = if 32 ≤ l ∧ l < 48 then 3840 + (l + 124) % 128 else if 16 ≤ l ∧ l < 32 then 3328 + (l + 124) % 128
    else if 4 ≤ l ∧ l < 12 then 2560 + l else if 0 ≤ l ∧ l < 4 then 1536 + l else 4652 := by
  revert l; decide +kernel

/-- The last piece, place by place. -/
theorem narrow_at (x : S256x4864.Idx → EReal) (x0 x1 x2 x3 : S256x128.Idx → EReal) (r : Fin 256) (l : Fin 128) (q : Fin 128) (hq : q.val = (l.val + 124) % 128)
    (e0 : x0 (ix2 r l) = at' x r (1536 + l.val)) (e1 : x1 (ix2 r l) = at' x r (2560 + l.val))
    (e2 : x2 (ix2 r q) = at' x r (3328 + q.val)) (e3 : x3 (ix2 r q) = at' x r (3840 + q.val)) :
    (if 32 ≤ l.val ∧ l.val < 48 then x3 (ix2 r q) else if 16 ≤ l.val ∧ l.val < 32 then x2 (ix2 r q) else if 4 ≤ l.val ∧ l.val < 12 then x1 (ix2 r l)
        else if 0 ≤ l.val ∧ l.val < 4 then x0 (ix2 r l) else 0)
      = if src (4608 + l.val) = 4652 then 0 else at' x r (src (4608 + l.val)) := by
  have hl := l.isLt
  rw [src_last l.val hl, e0, e1, e2, e3, hq]
  by_cases h3 : 32 ≤ l.val ∧ l.val < 48
  · rw [if_pos h3, if_pos h3, if_neg (by omega)]
  rw [if_neg h3, if_neg h3]
  by_cases h2 : 16 ≤ l.val ∧ l.val < 32
  · rw [if_pos h2, if_pos h2, if_neg (by omega)]
  rw [if_neg h2, if_neg h2]
  by_cases h1 : 4 ≤ l.val ∧ l.val < 12
  · rw [if_pos h1, if_pos h1, if_neg (by omega)]
  rw [if_neg h1, if_neg h1]
  by_cases h0 : 0 ≤ l.val ∧ l.val < 4
  · rw [if_pos h0, if_pos h0, if_neg (by omega)]
  rw [if_neg h0, if_neg h0, if_pos rfl]

set_option maxHeartbeats 1000000 in
/-- The last piece holds the body's columns. -/
theorem narrow_ok (x : S256x4864.Idx → EReal) :
    Ok (body x) ⟨r0_76, k0_pay1 (F := Ideal) (iota .tc S256x128 32 [1] iota_S256x128_d1_w32) (k0_pay38 (F := Ideal)) (k0_pay39 (F := Ideal) (View.ld x r0_72)) k0_pay40 4#32 (View.ld x r0_73) (View.ld x r0_74) (View.ld x r0_75)⟩ :=
  ok_of x 4608 inb_S256x4736_S256x128_0_4608 _ fun r l =>
    (narrow _ _ _ _ r l).trans (narrow_at x _ _ _ _ r l _ rfl
      (ld_apply x 128 1536 inb_S256x4864_S256x128_0_1536 r l (by decide)) (ld_apply x 128 2560 inb_S256x4864_S256x128_0_2560 r l (by decide))
      (ld_apply x 128 3328 inb_S256x4864_S256x128_0_3328 r _ (by decide)) (ld_apply x 128 3840 inb_S256x4864_S256x128_0_3840 r _ (by decide)))

set_option maxHeartbeats 4000000 in
/-- The body leaves the columns in their places. -/
theorem out_1 (x : Vec Ideal S256x4864 .f32) (y : S256x4736.Idx) : out0_1 (F := Ideal) x y = body x y := by
  unfold out0_1
  refine canon_ok (body x) y _ ?_ (cover0_1 _ _ _ _ _ _ _ _ _ _ _ _ _ _ _ _ _ _ _ _ _ _ _ _ _ _ _ _ _ _ _ _ _ _ _ _ _ y)
  refine List.forall_mem_cons.2 ⟨narrow_ok x, ?_⟩
  iterate 6 refine List.forall_mem_cons.2 ⟨turned x 44 212#32 rfl (by decide) (by decide) _ _ _ _ (fun l hl => by unfold src; split_ifs <;> omega) (by decide) (fun l hl => by omega), ?_⟩
  iterate 4 refine List.forall_mem_cons.2 ⟨turned x 28 228#32 rfl (by decide) (by decide) _ _ _ _ (fun l hl => by unfold src; split_ifs <;> omega) (by decide) (fun l hl => by omega), ?_⟩
  iterate 6 refine List.forall_mem_cons.2 ⟨turned x 12 244#32 rfl (by decide) (by decide) _ _ _ _ (fun l hl => by unfold src; split_ifs <;> omega) (by decide) (fun l hl => by omega), ?_⟩
  iterate 8 refine List.forall_mem_cons.2 ⟨turned x 4 252#32 rfl (by decide) (by decide) _ _ _ _ (fun l hl => by unfold src; split_ifs <;> omega) (by decide) (fun l hl => by omega), ?_⟩
  iterate 12 refine List.forall_mem_cons.2 ⟨kept x _ _ _ _ (fun l hl => by unfold src; split_ifs <;> omega) (by decide) (by decide), ?_⟩
  exact fun p hp => absurd hp List.not_mem_nil

end Cert.Kernel7Ideal.WL
end
-- ==== Proof.WL.Out.lean ====
module

public import proofs.«01_k».proof.Proof.WL.Fill
public import Idealize.ShloMosaic.Lib.Quiescent

@[expose] public section

set_option maxRecDepth 16384

/-! The columns of the input weights: the result array of the call is the reference's, place by place. -/

noncomputable section

namespace Cert.Kernel7Ideal.WL

open Cert.Kernel7Ideal Cert.Kernel7Ideal.Gen Cert.Fox Cert.Reference7Ideal.WL
open Idealize.ShloMosaic hiding ix0 ix1 ix2 ix3 ix4 ix5
open Idealize.ShloMosaic.ValueIdx Idealize.ShloMosaic.TcCoe Idealize.SL.Sem
open Idealize.ShloMosaic.Pipeline (Dat)

variable (m : (ℓ : Loc nD τ sig) → Buf (Elt Ideal) ℓ)

/-- What the result array is shown to hold. -/
abbrev G (c : Dev nD) : S1024x4736.Idx → EReal := Cert.Reference7Ideal.Read.val_main_v16 (F := Ideal) (m ((c : Thread nD τ).loc main_arg0))

/-- Row `r` of point `t`'s blocks, in the arrays. -/
def row (t : Fin cfg0.N) (r : Fin 256) : Fin 1024 := ⟨t.val * 256 + r.val, by
  have := t.isLt; have e : cfg0.N = 4 := N_0; omega⟩

theorem index_0 (t : Fin cfg0.N) : win0_0.index t 0 = t.val ∧ win0_0.index t 1 = 0 := by revert t; decide +kernel
theorem index_1 (t : Fin cfg0.N) : win0_1.index t 0 = t.val ∧ win0_1.index t 1 = 0 := by revert t; decide +kernel

/-- The weights as the call finds them, continued to the right. -/
theorem V_pad (c : Dev nD) : V m c main_v0 = pad S1024x4864 ![0, 0] ![0, 212] ![0, 0] (m ((c : Thread nD τ).loc main_arg0) : S1024x4652.Idx → EReal) (sitofp (F := Ideal) .f32 (constantI S_ 32 0#32)) pads_S1024x4652_S1024x4864_000_02120 h_S_ := by
  show StableHlo.after (hostOps0 ++ hostOps0_1) _ _ = _
  simp only [hostOps0, hostOps0_1, List.cons_append, List.nil_append]
  after_results <;> rfl

theorem blk_0 (c : Dev nD) (t : Fin cfg0.N) (r : Fin 256) (n : ℕ) (hn : n < 4652) :
    at' (iblk m c 0 t) r n = col (m ((c : Thread nD τ).loc main_arg0)) (row t r) n := by
  unfold at' col
  rw [dif_pos (by omega), dif_pos hn]
  refine (congrArg (V m c main_v0) (funext fun a => Fin.ext ?_ : (win0_0.rect t).emb (ix2 r (⟨n, by omega⟩ : Fin 4864)) = ix2 (row t r) (⟨n, by omega⟩ : Fin 4864))).trans ?_
  · match a with
    | 0 => exact (Pipeline.Window.rect_emb_val win0_0 t (ix2 r (⟨n, by omega⟩ : Fin 4864)) 0).trans (congrArg (· * 256 + r.val) (index_0 t).1)
    | 1 => exact Pipeline.Window.rect_emb_val_of_index_zero win0_0 t 1 (index_0 t).2 (ix2 r (⟨n, by omega⟩ : Fin 4864))
  · rw [V_pad]
    exact pad_apply_of_inside ![0, 0] ![0, 212] ![0, 0] _ _ pads_S1024x4652_S1024x4864_000_02120 h_S_ (ix2 (row t r) (⟨n, by omega⟩ : Fin 4864)) (ix2 (row t r) (⟨n, hn⟩ : Fin 4652)) (fun a => by
      match a with
      | 0 => show (row t r).val = 0 + (row t r).val * (0 + 1); omega
      | 1 => show n = 0 + n * (0 + 1); omega)

/-- Where an output block's place lies in the result array. -/
theorem emb_1 (t : Fin cfg0.N) (r : Fin 256) (n : Fin 4736) : (win0_1.rect t).emb (ix2 r n) = ix2 (row t r) n := by
  refine funext fun a => Fin.ext ?_
  match a with
  | 0 => exact (Pipeline.Window.rect_emb_val win0_1 t (ix2 r n) 0).trans (congrArg (· * 256 + r.val) (index_1 t).1)
  | 1 => exact Pipeline.Window.rect_emb_val_of_index_zero win0_1 t 1 (index_1 t).2 (ix2 r n)

theorem src_le (c : ℕ) : src c ≤ 4652 := by unfold src; split_ifs <;> omega

/-- What a point writes back is its block of the reference's array. -/
theorem flushed_1 (c : Dev nD) (t : Fin cfg0.N) : (dats m 0 c).flushed 1 t = ((cfg0.win 1).blk t).view.read (Elt Ideal) (G m c) := by
  rw [Value.flushed1 m c t]
  funext j
  obtain ⟨r, n, rfl⟩ : ∃ (r : Fin 256) (n : Fin 4736), j = ix2 r n := ⟨j 0, j 1, funext fun a => by match a with | 0 => rfl | 1 => rfl⟩
  refine (out_1 (iblk m c 0 t) (ix2 r n)).trans ?_
  refine Eq.trans ?_ (congrArg (G m c) (emb_1 t r n)).symm
  refine Eq.trans ?_ (Cert.Reference7Ideal.WL.out_apply _ (row t r) n).symm
  show (if src n.val = 4652 then 0 else at' (iblk m c 0 t) r (src n.val)) = _
  by_cases h : src n.val = 4652
  · rw [if_pos h, h, gap_apply]
  · rw [if_neg h, blk_0 m c t r _ (by have := src_le n.val; omega)]

/-- An index of the result array is in point `t`'s block when its row is one of the block's. -/
theorem mem_blk_1 (t : Fin cfg0.N) (i : S1024x4736.Idx) (h : t.val = (i 0 : Nat) / 256) : i ∈ ((cfg0.win 1).blk t).view.set := by
  have h0 : (i 0 : Nat) < 1024 := (i 0).isLt
  have h1 : (i 1 : Nat) < 4736 := (i 1).isLt
  show i ∈ ((View.whole main_v1).slice (win0_1.rect t)).set
  rw [View.set_slice_whole, Rect.mem_set_unit]
  intro a
  match a with
  | 0 => show win0_1.index t 0 * 256 ≤ (i 0 : Nat) ∧ (i 0 : Nat) < win0_1.index t 0 * 256 + 256
         rw [(index_1 t).1]; omega
  | 1 => show win0_1.index t 1 * 4736 ≤ (i 1 : Nat) ∧ (i 1 : Nat) < win0_1.index t 1 * 4736 + 4736
         rw [(index_1 t).2]; omega

/-- So the result array ends holding the reference's columns. -/
theorem final_1 (c : Dev nD) : (dats m 0 c).arrAt 1 cfg0.N = G m c :=
  (dats m 0 c).arrAt_eq_of_cover 1 (G m c) (fun t _ => flushed_1 m c t) fun i => by
    have h0 : (i 0 : Nat) < 1024 := (i 0).isLt
    have hN : cfg0.N = 4 := N_0
    exact ⟨⟨(i 0 : Nat) / 256, by omega⟩, flush0_1 _, mem_blk_1 _ i rfl⟩

end Cert.Kernel7Ideal.WL

namespace Cert.Proof

open Idealize.ShloMosaic Idealize.SL.Sem Idealize.ShloMosaic.TcCoe

/-- The kernel and reference of the input weights' columns leave equal results. -/
theorem algebraic7 : Cert.algebraic_Kernel7Ideal_Reference7Ideal := by
  intro m g m' g' _ h
  refine ⟨fun c => Cert.Kernel7Ideal.WL.G m c, ?_, ?_⟩
  · exact (θ_run Cert.Kernel7Ideal.defs _ _).mono (fun r hr c => ⟨(hr c).1.trans (Cert.Kernel7Ideal.WL.final_1 m c), (hr c).2⟩)
      (Cert.Kernel7Ideal.Value.run_blocks (F := Ideal) m g)
  · refine (θ_run Cert.Reference7Ideal.defs _ _).mono (fun r hr c => ⟨(hr c).1.trans ?_, (hr c).2⟩)
      (Cert.Reference7Ideal.Value.run (F := Ideal) m' g')
    rw [h c]
    exact Cert.Reference7Ideal.Read.val_main_v16_eq _

/-- The reference of the input weights' columns runs to its end, leaves its argument and declares no semaphore. -/
theorem frame_r7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

end Cert.Proof
end
-- ==== Proof.lean ====
/-  The claims: the attention, the two projections, the memory's cross-attention, the spatial gating, the memory's keys and values, the layout of the input weights. -/
module

public import proofs.«01_k».proof.Defs
public import proofs.«01_k».proof.Proof.KI.Body
public import proofs.«01_k».proof.Proof.KB.Body
public import proofs.«01_k».proof.Proof.Gen.Kernel2.Frame
public import proofs.«01_k».proof.Proof.Gen.Kernel3.Frame
public import proofs.«01_k».proof.Proof.Gen.ReferenceIdeal.Run
public import proofs.«01_k».proof.Proof.Gen.ReferenceIdeal.Read
public import proofs.«01_k».proof.Proof.Gen.Pre_attention_operands
public import proofs.«01_k».proof.Proof.KV.Out
public import proofs.«01_k».proof.Proof.In
public import proofs.«01_k».proof.Proof.Out
public import proofs.«01_k».proof.Proof.MA.Out
public import proofs.«01_k».proof.Proof.SG.Out
public import proofs.«01_k».proof.Proof.MK.Out
public import proofs.«01_k».proof.Proof.WL.Out
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import proofs.«01_k».proof.Proof.Gen.Pre_memory_queries
public import proofs.«01_k».proof.Proof.Gen.Pre_gating_values
public import proofs.«01_k».proof.Proof.Gen.Pre_memory_weights
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read

@[expose] public section

noncomputable section

namespace Cert.Proof

open Idealize.ShloMosaic Idealize.SL.Sem

/-- The attention's reference runs to its end, leaves its arguments and declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_attention_operands.Gen.facts, Cert.Pre_memory_queries.Gen.facts, Cert.Pre_gating_values.Gen.facts, Cert.Pre_memory_weights.Gen.facts,
    fun m g _ => Cert.Kernel.Fox.frame m g, fun m g _ => Cert.KernelIdeal.Fox.frame m g, fun m g _ => Cert.KernelIdeal.Fox.frame m g,
    frame_r, fun m g _ => frame_r m g trivial,
    fun m g _ => Cert.Kernel2.Gen.frame m g, fun m g _ => Cert.Kernel2Ideal.Gen.frame m g, frame_r2,
    fun m g _ => Cert.Kernel3.Gen.frame m g, fun m g _ => Cert.Kernel3Ideal.Gen.frame m g, frame_r3,
    fun m g _ => Cert.Kernel4.Gen.frame m g, fun m g _ => Cert.Kernel4Ideal.Gen.frame m g, fun m g _ => Cert.Kernel4Ideal.Gen.frame m g,
    frame_r4, fun m g _ => frame_r4 m g trivial,
    fun m g _ => Cert.Kernel5.Gen.frame m g, fun m g _ => Cert.Kernel5Ideal.Gen.frame m g, fun m g _ => Cert.Kernel5Ideal.Gen.frame m g,
    frame_r5, fun m g _ => frame_r5 m g trivial,
    fun m g _ => Cert.Kernel6.Gen.frame m g, fun m g _ => Cert.Kernel6Ideal.Gen.frame m g, fun m g _ => Cert.Kernel6Ideal.Gen.frame m g,
    frame_r6, fun m g _ => frame_r6 m g trivial,
    fun m g _ => Cert.Kernel7.Gen.frame m g, fun m g _ => Cert.Kernel7Ideal.Gen.frame m g, frame_r7,
    trivial, algebraic1, trivial, algebraic2, trivial, algebraic3,
    trivial, algebraic4, trivial, algebraic5, trivial, algebraic6, trivial, algebraic7⟩

end Cert.Proof
end
